-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50x256x200 : Shape := ⟨3, ![50, 256, 200]⟩
abbrev S256x256x256 : Shape := ⟨3, ![256, 256, 256]⟩
abbrev S80x200 : Shape := ⟨2, ![80, 200]⟩
abbrev S80x80 : Shape := ⟨2, ![80, 80]⟩
abbrev S256x80 : Shape := ⟨2, ![256, 80]⟩
abbrev S768x80 : Shape := ⟨2, ![768, 80]⟩
abbrev S2500x256x256 : Shape := ⟨3, ![2500, 256, 256]⟩
abbrev S1x64x200 : Shape := ⟨3, ![1, 64, 200]⟩
abbrev S50x64x256 : Shape := ⟨3, ![50, 64, 256]⟩
abbrev S3200x80 : Shape := ⟨2, ![3200, 80]⟩
abbrev S3200x768 : Shape := ⟨2, ![3200, 768]⟩
abbrev S3x64x80 : Shape := ⟨3, ![3, 64, 80]⟩
abbrev S3x64x768 : Shape := ⟨3, ![3, 64, 768]⟩
abbrev S64x256 : Shape := ⟨2, ![64, 256]⟩
abbrev S64x200 : Shape := ⟨2, ![64, 200]⟩
abbrev S64x80 : Shape := ⟨2, ![64, 80]⟩
abbrev S1x64x80 : Shape := ⟨3, ![1, 64, 80]⟩
abbrev S1x64x256 : Shape := ⟨3, ![1, 64, 256]⟩
abbrev S125x32x256 : Shape := ⟨3, ![125, 32, 256]⟩
abbrev S32x256x256 : Shape := ⟨3, ![32, 256, 256]⟩
abbrev S32x125x256 : Shape := ⟨3, ![32, 125, 256]⟩
abbrev S125x125 : Shape := ⟨2, ![125, 125]⟩
abbrev S1x125x256 : Shape := ⟨3, ![1, 125, 256]⟩
abbrev S125x256 : Shape := ⟨2, ![125, 256]⟩
abbrev S1x256x256 : Shape := ⟨3, ![1, 256, 256]⟩
abbrev S256x256 : Shape := ⟨2, ![256, 256]⟩
abbrev S50x256x256 : Shape := ⟨3, ![50, 256, 256]⟩
abbrev S3x64x256 : Shape := ⟨3, ![3, 64, 256]⟩

abbrev nBuf : Space → Nat
  | .hbm => 13
  | .vmem => 37
  | .smem => 0
  | _ => 0

abbrev bufTy : (tb : Table) → Fin (tcTables nBuf tb) → BufTy
  | .hbm, ⟨0, _⟩ => ⟨S50x256x200, .f32⟩
  | .hbm, ⟨1, _⟩ => ⟨S256x256x256, .f32⟩
  | .hbm, ⟨2, _⟩ => ⟨S80x200, .f32⟩
  | .hbm, ⟨3, _⟩ => ⟨S80x80, .f32⟩
  | .hbm, ⟨4, _⟩ => ⟨S256x80, .f32⟩
  | .hbm, ⟨5, _⟩ => ⟨S256x80, .f32⟩
  | .hbm, ⟨6, _⟩ => ⟨S256x80, .f32⟩
  | .hbm, ⟨7, _⟩ => ⟨S768x80, .f32⟩
  | .hbm, ⟨8, _⟩ => ⟨S2500x256x256, .bf16⟩
  | .hbm, ⟨9, _⟩ => ⟨S2500x256x256, .bf16⟩
  | .hbm, ⟨10, _⟩ => ⟨S2500x256x256, .bf16⟩
  | .hbm, ⟨11, _⟩ => ⟨S2500x256x256, .bf16⟩
  | .hbm, ⟨12, _⟩ => ⟨S50x256x256, .f32⟩
  | .local _ .vmem, ⟨0, _⟩ => ⟨S1x64x200, .f32⟩
  | .local _ .vmem, ⟨1, _⟩ => ⟨S1x64x200, .f32⟩
  | .local _ .vmem, ⟨2, _⟩ => ⟨S80x200, .f32⟩
  | .local _ .vmem, ⟨3, _⟩ => ⟨S80x80, .f32⟩
  | .local _ .vmem, ⟨4, _⟩ => ⟨S768x80, .f32⟩
  | .local _ .vmem, ⟨5, _⟩ => ⟨S50x64x256, .bf16⟩
  | .local _ .vmem, ⟨6, _⟩ => ⟨S50x64x256, .bf16⟩
  | .local _ .vmem, ⟨7, _⟩ => ⟨S50x64x256, .bf16⟩
  | .local _ .vmem, ⟨8, _⟩ => ⟨S50x64x256, .bf16⟩
  | .local _ .vmem, ⟨9, _⟩ => ⟨S50x64x256, .bf16⟩
  | .local _ .vmem, ⟨10, _⟩ => ⟨S50x64x256, .bf16⟩
  | .local _ .vmem, ⟨11, _⟩ => ⟨S3200x80, .f32⟩
  | .local _ .vmem, ⟨12, _⟩ => ⟨S3200x768, .f32⟩
  | .local _ .vmem, ⟨13, _⟩ => ⟨S3x64x80, .f32⟩
  | .local _ .vmem, ⟨14, _⟩ => ⟨S3x64x768, .f32⟩
  | .local _ .vmem, ⟨15, _⟩ => ⟨S64x256, .f32⟩
  | .local _ .vmem, ⟨16, _⟩ => ⟨S125x32x256, .bf16⟩
  | .local _ .vmem, ⟨17, _⟩ => ⟨S125x32x256, .bf16⟩
  | .local _ .vmem, ⟨18, _⟩ => ⟨S125x32x256, .bf16⟩
  | .local _ .vmem, ⟨19, _⟩ => ⟨S125x32x256, .bf16⟩
  | .local _ .vmem, ⟨20, _⟩ => ⟨S125x32x256, .bf16⟩
  | .local _ .vmem, ⟨21, _⟩ => ⟨S125x32x256, .bf16⟩
  | .local _ .vmem, ⟨22, _⟩ => ⟨S32x256x256, .f32⟩
  | .local _ .vmem, ⟨23, _⟩ => ⟨S32x256x256, .f32⟩
  | .local _ .vmem, ⟨24, _⟩ => ⟨S125x32x256, .bf16⟩
  | .local _ .vmem, ⟨25, _⟩ => ⟨S125x32x256, .bf16⟩
  | .local _ .vmem, ⟨26, _⟩ => ⟨S32x256x256, .f32⟩
  | .local _ .vmem, ⟨27, _⟩ => ⟨S32x125x256, .bf16⟩
  | .local _ .vmem, ⟨28, _⟩ => ⟨S32x125x256, .bf16⟩
  | .local _ .vmem, ⟨29, _⟩ => ⟨S32x125x256, .bf16⟩
  | .local _ .vmem, ⟨30, _⟩ => ⟨S32x125x256, .bf16⟩
  | .local _ .vmem, ⟨31, _⟩ => ⟨S50x64x256, .bf16⟩
  | .local _ .vmem, ⟨32, _⟩ => ⟨S50x64x256, .bf16⟩
  | .local _ .vmem, ⟨33, _⟩ => ⟨S1x64x256, .f32⟩
  | .local _ .vmem, ⟨34, _⟩ => ⟨S1x64x256, .f32⟩
  | .local _ .vmem, ⟨35, _⟩ => ⟨S3x64x256, .f32⟩
  | .local _ .vmem, ⟨36, _⟩ => ⟨S64x256, .f32⟩
  | _, _ => ⟨S50x256x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc1_scratch3 : Ref sig .tc := ⟨.vmem, 29, rfl⟩
abbrev cc1_scratch4 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_scratch0 : Ref sig .tc := ⟨.vmem, 35, rfl⟩
abbrev cc2_scratch1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc2_sem0_0 : DmaSem sig := 21
abbrev cc2_sem0_1 : DmaSem sig := 22
abbrev cc2_sem1_0 : DmaSem sig := 23
abbrev cc2_sem1_1 : DmaSem sig := 24

abbrev nD : Nat := 1
abbrev τ : Topo := Topo.v7x

variable {F : FTy → Type} [FloatOps F]

abbrev grid0 : Pipeline.Grid := ⟨2, ![4, 50], ![false, false]⟩

@[reducible] def k0_t1_loop : Scf.Loop 32 :=
  let c0_i32_15 : BitVec 32 := 0#32
  let c50_i32 : BitVec 32 := 50#32
  let v15 : BitVec 32 := Scalar.addi c0_i32_15 c50_i32
  let c1_i32 : BitVec 32 := 1#32
  ⟨c0_i32_15, v15, c1_i32⟩
def k0_off1 (k0_t1 : Fin k0_t1_loop.trips) : Fin 2 → Nat :=
  let c0_i32_15 : BitVec 32 := 0#32
  let c1_i32 : BitVec 32 := 1#32
  let arg14 : BitVec 32 := Scf.iv c0_i32_15 c1_i32 k0_t1
  let c64_i32 : BitVec 32 := 64#32
  let v108 : BitVec 32 := Scalar.muli arg14 c64_i32
  let v109 : Index := Scalar.indexCast v108
  let c0_109 : Index := 0#32
  ![v109.toNat, 0]
@[reducible] def k0_t2_loop : Scf.Loop 32 :=
  let c0_i32_44 : BitVec 32 := 0#32
  let c50_i32_45 : BitVec 32 := 50#32
  let v40 : BitVec 32 := Scalar.addi c0_i32_44 c50_i32_45
  let c1_i32_46 : BitVec 32 := 1#32
  ⟨c0_i32_44, v40, c1_i32_46⟩
def k0_off2 (k0_t2 : Fin k0_t2_loop.trips) : Fin 2 → Nat :=
  let c0_i32_44 : BitVec 32 := 0#32
  let c1_i32_46 : BitVec 32 := 1#32
  let arg14 : BitVec 32 := Scf.iv c0_i32_44 c1_i32_46 k0_t2
  let c64_i32 : BitVec 32 := 64#32
  let v90 : BitVec 32 := Scalar.muli arg14 c64_i32
  let v91 : Index := Scalar.indexCast v90
  let c0_102 : Index := 0#32
  ![v91.toNat, 0]
def k0_off3 (k0_t2 : Fin k0_t2_loop.trips) : Fin 3 → Nat :=
  let c0_i32_44 : BitVec 32 := 0#32
  let c1_i32_46 : BitVec 32 := 1#32
  let arg14 : BitVec 32 := Scf.iv c0_i32_44 c1_i32_46 k0_t2
  let v115 : Index := Scalar.indexCast arg14
  let c0_111 : Index := 0#32
  let c0_112 : Index := 0#32
  ![v115.toNat, 0, 0]
@[reducible] def k0_t3_loop : Scf.Loop 32 :=
  let c0_i32_67 : BitVec 32 := 0#32
  let c50_i32_68 : BitVec 32 := 50#32
  let v60 : BitVec 32 := Scalar.addi c0_i32_67 c50_i32_68
  let c1_i32_69 : BitVec 32 := 1#32
  ⟨c0_i32_67, v60, c1_i32_69⟩
def k0_off4 (k0_t3 : Fin k0_t3_loop.trips) : Fin 2 → Nat :=
  let c0_i32_67 : BitVec 32 := 0#32
  let c1_i32_69 : BitVec 32 := 1#32
  let arg14 : BitVec 32 := Scf.iv c0_i32_67 c1_i32_69 k0_t3
  let c64_i32 : BitVec 32 := 64#32
  let v90 : BitVec 32 := Scalar.muli arg14 c64_i32
  let v91 : Index := Scalar.indexCast v90
  let c256_102 : Index := 256#32
  ![v91.toNat, 256]
def k0_off5 (k0_t3 : Fin k0_t3_loop.trips) : Fin 3 → Nat :=
  let c0_i32_67 : BitVec 32 := 0#32
  let c1_i32_69 : BitVec 32 := 1#32
  let arg14 : BitVec 32 := Scf.iv c0_i32_67 c1_i32_69 k0_t3
  let v112 : Index := Scalar.indexCast arg14
  let c0_110 : Index := 0#32
  let c0_111 : Index := 0#32
  ![v112.toNat, 0, 0]
@[reducible] def k0_t4_loop : Scf.Loop 32 :=
  let c0_i32_88 : BitVec 32 := 0#32
  let c50_i32_89 : BitVec 32 := 50#32
  let v77 : BitVec 32 := Scalar.addi c0_i32_88 c50_i32_89
  let c1_i32_90 : BitVec 32 := 1#32
  ⟨c0_i32_88, v77, c1_i32_90⟩
def k0_off6 (k0_t4 : Fin k0_t4_loop.trips) : Fin 2 → Nat :=
  let c0_i32_88 : BitVec 32 := 0#32
  let c1_i32_90 : BitVec 32 := 1#32
  let arg14 : BitVec 32 := Scf.iv c0_i32_88 c1_i32_90 k0_t4
  let c64_i32 : BitVec 32 := 64#32
  let v90 : BitVec 32 := Scalar.muli arg14 c64_i32
  let v91 : Index := Scalar.indexCast v90
  let c512_102 : Index := 512#32
  ![v91.toNat, 512]
def k0_off7 (k0_t4 : Fin k0_t4_loop.trips) : Fin 3 → Nat :=
  let c0_i32_88 : BitVec 32 := 0#32
  let c1_i32_90 : BitVec 32 := 1#32
  let arg14 : BitVec 32 := Scf.iv c0_i32_88 c1_i32_90 k0_t4
  let v112 : Index := Scalar.indexCast arg14
  let c0_110 : Index := 0#32
  let c0_111 : Index := 0#32
  ![v112.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x64x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S80x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S80x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S50x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S50x64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S50x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 20], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S125x32x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S125x32x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S125x32x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S32x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S125x32x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![4, 50], ![false, false]⟩

@[reducible] def k2_t1_loop : Scf.Loop 32 :=
  let c0_i32_9 : BitVec 32 := 0#32
  let c19_i32 : BitVec 32 := 19#32
  let v13 : BitVec 32 := Scalar.addi c0_i32_9 c19_i32
  let c1_i32 : BitVec 32 := 1#32
  ⟨c0_i32_9, v13, c1_i32⟩
def k2_off1 (k2_t1 : Fin k2_t1_loop.trips) : Fin 3 → Nat :=
  let c0_i32_9 : BitVec 32 := 0#32
  let c1_i32 : BitVec 32 := 1#32
  let arg6 : BitVec 32 := Scf.iv c0_i32_9 c1_i32 k2_t1
  let v34 : Index := Scalar.indexCast arg6
  let c0_32 : Index := 0#32
  let c0_33 : Index := 0#32
  ![v34.toNat, 0, 0]
@[reducible] def k2_t2_loop : Scf.Loop 32 :=
  let c19_i32_11 : BitVec 32 := 19#32
  let c30_i32 : BitVec 32 := 30#32
  let v15 : BitVec 32 := Scalar.addi c19_i32_11 c30_i32
  let c1_i32_12 : BitVec 32 := 1#32
  ⟨c19_i32_11, v15, c1_i32_12⟩
def k2_off2 (k2_t2 : Fin k2_t2_loop.trips) : Fin 3 → Nat :=
  let c19_i32_11 : BitVec 32 := 19#32
  let c1_i32_12 : BitVec 32 := 1#32
  let arg6 : BitVec 32 := Scf.iv c19_i32_11 c1_i32_12 k2_t2
  let v34 : Index := Scalar.indexCast arg6
  let c0_32 : Index := 0#32
  let c0_33 : Index := 0#32
  ![v34.toNat, 0, 0]
@[reducible] def k2_t3_loop : Scf.Loop 32 :=
  let c49_i32 : BitVec 32 := 49#32
  let c1_i32_14 : BitVec 32 := 1#32
  let v17 : BitVec 32 := Scalar.addi c49_i32 c1_i32_14
  let c1_i32_15 : BitVec 32 := 1#32
  ⟨c49_i32, v17, c1_i32_15⟩
def k2_off3 (k2_t3 : Fin k2_t3_loop.trips) : Fin 3 → Nat :=
  let c49_i32 : BitVec 32 := 49#32
  let c1_i32_15 : BitVec 32 := 1#32
  let arg6 : BitVec 32 := Scf.iv c49_i32 c1_i32_15 k2_t3
  let v34 : Index := Scalar.indexCast arg6
  let c0_32 : Index := 0#32
  let c0_33 : Index := 0#32
  ![v34.toNat, 0, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage2_0 : Fin 2 → Memref sig .tc .vmem S50x64x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]
-- ==== ReferenceIdeal.lean ====
abbrev S50x256x200 : Shape := ⟨3, ![50, 256, 200]⟩
abbrev S256x256x256 : Shape := ⟨3, ![256, 256, 256]⟩
abbrev S80x200 : Shape := ⟨2, ![80, 200]⟩
abbrev S80x80 : Shape := ⟨2, ![80, 80]⟩
abbrev S256x80 : Shape := ⟨2, ![256, 80]⟩
abbrev S_ : Shape := ⟨0, ![]⟩
abbrev S256x256 : Shape := ⟨2, ![256, 256]⟩
abbrev S200x80 : Shape := ⟨2, ![200, 80]⟩
abbrev S50x256x80 : Shape := ⟨3, ![50, 256, 80]⟩
abbrev S50x1x256x80 : Shape := ⟨4, ![50, 1, 256, 80]⟩
abbrev S50x50x256x80 : Shape := ⟨4, ![50, 50, 256, 80]⟩
abbrev S2500x256x80 : Shape := ⟨3, ![2500, 256, 80]⟩
abbrev S2500x256x256 : Shape := ⟨3, ![2500, 256, 256]⟩
abbrev S1x256x80 : Shape := ⟨3, ![1, 256, 80]⟩
abbrev S80x256 : Shape := ⟨2, ![80, 256]⟩
abbrev S256x256x1 : Shape := ⟨3, ![256, 256, 1]⟩
abbrev S256x1x256 : Shape := ⟨3, ![256, 1, 256]⟩
abbrev S1x256x256 : Shape := ⟨3, ![1, 256, 256]⟩
abbrev S50x50x256x256 : Shape := ⟨4, ![50, 50, 256, 256]⟩
abbrev S50x30x256x256 : Shape := ⟨4, ![50, 30, 256, 256]⟩
abbrev S50x256x256 : Shape := ⟨3, ![50, 256, 256]⟩

abbrev nBuf : Space → Nat
  | .hbm => 248
  | .vmem => 0
  | .smem => 0
  | _ => 0

abbrev hbmTy0_0 (i : Nat) : BufTy := match i % 128 with
  | 0 => ⟨S50x256x200, .f32⟩
  | 1 => ⟨S256x256x256, .f32⟩
  | 2 => ⟨S80x200, .f32⟩
  | 3 => ⟨S80x80, .f32⟩
  | 4 => ⟨S256x80, .f32⟩
  | 5 => ⟨S256x80, .f32⟩
  | 6 => ⟨S256x80, .f32⟩
  | 7 => ⟨S_, .f32⟩
  | 8 => ⟨S256x80, .f32⟩
  | 9 => ⟨S_, .f32⟩
  | 10 => ⟨S256x80, .f32⟩
  | 11 => ⟨S_, .f32⟩
  | 12 => ⟨S256x80, .f32⟩
  | 13 => ⟨S_, .f32⟩
  | 14 => ⟨S256x256, .f32⟩
  | 15 => ⟨S_, .f32⟩
  | 16 => ⟨S256x256, .f32⟩
  | 17 => ⟨S_, .f32⟩
  | 18 => ⟨S256x256, .f32⟩
  | 19 => ⟨S_, .f32⟩
  | 20 => ⟨S256x256, .f32⟩
  | 21 => ⟨S_, .f32⟩
  | 22 => ⟨S256x256, .f32⟩
  | 23 => ⟨S_, .f32⟩
  | 24 => ⟨S256x256, .f32⟩
  | 25 => ⟨S_, .f32⟩
  | 26 => ⟨S256x256, .f32⟩
  | 27 => ⟨S_, .f32⟩
  | 28 => ⟨S256x256, .f32⟩
  | 29 => ⟨S_, .f32⟩
  | 30 => ⟨S256x256, .f32⟩
  | 31 => ⟨S_, .f32⟩
  | 32 => ⟨S256x256, .f32⟩
  | 33 => ⟨S_, .f32⟩
  | 34 => ⟨S256x256, .f32⟩
  | 35 => ⟨S_, .f32⟩
  | 36 => ⟨S256x256, .f32⟩
  | 37 => ⟨S_, .f32⟩
  | 38 => ⟨S256x256, .f32⟩
  | 39 => ⟨S_, .f32⟩
  | 40 => ⟨S256x256, .f32⟩
  | 41 => ⟨S_, .f32⟩
  | 42 => ⟨S256x256, .f32⟩
  | 43 => ⟨S200x80, .f32⟩
  | 44 => ⟨S50x256x80, .f32⟩
  | 45 => ⟨S80x80, .f32⟩
  | 46 => ⟨S50x256x80, .f32⟩
  | 47 => ⟨S50x1x256x80, .f32⟩
  | 48 => ⟨S50x50x256x80, .f32⟩
  | 49 => ⟨S2500x256x80, .f32⟩
  | 50 => ⟨S_, .f32⟩
  | 51 => ⟨S2500x256x256, .f32⟩
  | 52 => ⟨S_, .i32⟩
  | 53 => ⟨S2500x256x80, .f32⟩
  | 54 => ⟨S256x80, .f32⟩
  | 55 => ⟨S256x80, .f32⟩
  | 56 => ⟨S256x80, .f32⟩
  | 57 => ⟨S_, .i32⟩
  | 58 => ⟨S256x256x256, .f32⟩
  | 59 => ⟨S256x80, .f32⟩
  | 60 => ⟨S256x80, .f32⟩
  | 61 => ⟨S256x80, .f32⟩
  | 62 => ⟨S256x256, .f32⟩
  | 63 => ⟨S256x256, .f32⟩
  | 64 => ⟨S256x256, .f32⟩
  | 65 => ⟨S256x256, .f32⟩
  | 66 => ⟨S256x256, .f32⟩
  | 67 => ⟨S256x256, .f32⟩
  | 68 => ⟨S256x256, .f32⟩
  | 69 => ⟨S256x256, .f32⟩
  | 70 => ⟨S256x256, .f32⟩
  | 71 => ⟨S256x256, .f32⟩
  | 72 => ⟨S256x256, .f32⟩
  | 73 => ⟨S256x256, .f32⟩
  | 74 => ⟨S256x256, .f32⟩
  | 75 => ⟨S256x256, .f32⟩
  | 76 => ⟨S256x256, .f32⟩
  | 77 => ⟨S2500x256x256, .f32⟩
  | 78 => ⟨S_, .i32⟩
  | 79 => ⟨S_, .i1⟩
  | 80 => ⟨S_, .i32⟩
  | 81 => ⟨S_, .i32⟩
  | 82 => ⟨S1x256x80, .f32⟩
  | 83 => ⟨S256x80, .f32⟩
  | 84 => ⟨S_, .f32⟩
  | 85 => ⟨S256x80, .f32⟩
  | 86 => ⟨S256x80, .f32⟩
  | 87 => ⟨S256x80, .f32⟩
  | 88 => ⟨S_, .f32⟩
  | 89 => ⟨S256x80, .f32⟩
  | 90 => ⟨S256x80, .f32⟩
  | 91 => ⟨S_, .f32⟩
  | 92 => ⟨S256x80, .f32⟩
  | 93 => ⟨S256x80, .f32⟩
  | 94 => ⟨S256x80, .f32⟩
  | 95 => ⟨S256x80, .f32⟩
  | 96 => ⟨S_, .f32⟩
  | 97 => ⟨S256x80, .f32⟩
  | 98 => ⟨S256x80, .f32⟩
  | 99 => ⟨S_, .f32⟩
  | 100 => ⟨S256x80, .f32⟩
  | 101 => ⟨S256x80, .f32⟩
  | 102 => ⟨S256x80, .f32⟩
  | 103 => ⟨S256x80, .f32⟩
  | 104 => ⟨S_, .f32⟩
  | 105 => ⟨S256x80, .f32⟩
  | 106 => ⟨S256x80, .f32⟩
  | 107 => ⟨S_, .f32⟩
  | 108 => ⟨S256x80, .f32⟩
  | 109 => ⟨S256x80, .f32⟩
  | 110 => ⟨S80x256, .f32⟩
  | 111 => ⟨S256x256, .f32⟩
  | 112 => ⟨S_, .f32⟩
  | 113 => ⟨S256x256, .f32⟩
  | 114 => ⟨S256x256, .f32⟩
  | 115 => ⟨S256x256, .f32⟩
  | 116 => ⟨S_, .f32⟩
  | 117 => ⟨S256x256, .f32⟩
  | 118 => ⟨S256x256, .f32⟩
  | 119 => ⟨S_, .f32⟩
  | 120 => ⟨S256x256, .f32⟩
  | 121 => ⟨S256x256, .f32⟩
  | 122 => ⟨S256x256, .f32⟩
  | 123 => ⟨S256x256, .f32⟩
  | 124 => ⟨S_, .f32⟩
  | 125 => ⟨S256x256, .f32⟩
  | 126 => ⟨S256x256, .f32⟩
  | 127 => ⟨S_, .f32⟩
  | _ => ⟨S50x256x200, .f32⟩

abbrev hbmTy0_1 (i : Nat) : BufTy := match i % 128 with
  | 0 => ⟨S256x256, .f32⟩
  | 1 => ⟨S256x256, .f32⟩
  | 2 => ⟨S256x256, .f32⟩
  | 3 => ⟨S256x256, .f32⟩
  | 4 => ⟨S_, .f32⟩
  | 5 => ⟨S256x256, .f32⟩
  | 6 => ⟨S256x256, .f32⟩
  | 7 => ⟨S_, .f32⟩
  | 8 => ⟨S256x256, .f32⟩
  | 9 => ⟨S256x256, .f32⟩
  | 10 => ⟨S80x256, .f32⟩
  | 11 => ⟨S256x256, .f32⟩
  | 12 => ⟨S_, .f32⟩
  | 13 => ⟨S256x256, .f32⟩
  | 14 => ⟨S256x256, .f32⟩
  | 15 => ⟨S256x256, .f32⟩
  | 16 => ⟨S_, .f32⟩
  | 17 => ⟨S256x256, .f32⟩
  | 18 => ⟨S256x256, .f32⟩
  | 19 => ⟨S_, .f32⟩
  | 20 => ⟨S256x256, .f32⟩
  | 21 => ⟨S256x256, .f32⟩
  | 22 => ⟨S256x256, .f32⟩
  | 23 => ⟨S256x256, .f32⟩
  | 24 => ⟨S_, .f32⟩
  | 25 => ⟨S256x256, .f32⟩
  | 26 => ⟨S256x256, .f32⟩
  | 27 => ⟨S_, .f32⟩
  | 28 => ⟨S256x256, .f32⟩
  | 29 => ⟨S256x256, .f32⟩
  | 30 => ⟨S256x256, .f32⟩
  | 31 => ⟨S256x256, .f32⟩
  | 32 => ⟨S_, .f32⟩
  | 33 => ⟨S256x256, .f32⟩
  | 34 => ⟨S256x256, .f32⟩
  | 35 => ⟨S_, .f32⟩
  | 36 => ⟨S256x256, .f32⟩
  | 37 => ⟨S256x256, .f32⟩
  | 38 => ⟨S_, .f32⟩
  | 39 => ⟨S256x256, .f32⟩
  | 40 => ⟨S256x256, .f32⟩
  | 41 => ⟨S256x256, .f32⟩
  | 42 => ⟨S_, .f32⟩
  | 43 => ⟨S256x256, .f32⟩
  | 44 => ⟨S256x256, .f32⟩
  | 45 => ⟨S256x256, .f32⟩
  | 46 => ⟨S256x256x1, .f32⟩
  | 47 => ⟨S256x1x256, .f32⟩
  | 48 => ⟨S256x256x256, .f32⟩
  | 49 => ⟨S256x256x256, .f32⟩
  | 50 => ⟨S256x256x256, .f32⟩
  | 51 => ⟨S_, .f32⟩
  | 52 => ⟨S256x256x256, .f32⟩
  | 53 => ⟨S256x256x256, .f32⟩
  | 54 => ⟨S256x256x256, .f32⟩
  | 55 => ⟨S80x256, .f32⟩
  | 56 => ⟨S256x256, .f32⟩
  | 57 => ⟨S_, .f32⟩
  | 58 => ⟨S256x256, .f32⟩
  | 59 => ⟨S256x256, .f32⟩
  | 60 => ⟨S256x256, .f32⟩
  | 61 => ⟨S_, .f32⟩
  | 62 => ⟨S256x256, .f32⟩
  | 63 => ⟨S256x256, .f32⟩
  | 64 => ⟨S_, .f32⟩
  | 65 => ⟨S256x256, .f32⟩
  | 66 => ⟨S256x256, .f32⟩
  | 67 => ⟨S256x256, .f32⟩
  | 68 => ⟨S256x256, .f32⟩
  | 69 => ⟨S_, .f32⟩
  | 70 => ⟨S256x256, .f32⟩
  | 71 => ⟨S256x256, .f32⟩
  | 72 => ⟨S_, .f32⟩
  | 73 => ⟨S256x256, .f32⟩
  | 74 => ⟨S256x256, .f32⟩
  | 75 => ⟨S256x256, .f32⟩
  | 76 => ⟨S256x256, .f32⟩
  | 77 => ⟨S_, .f32⟩
  | 78 => ⟨S256x256, .f32⟩
  | 79 => ⟨S256x256, .f32⟩
  | 80 => ⟨S_, .f32⟩
  | 81 => ⟨S256x256, .f32⟩
  | 82 => ⟨S256x256, .f32⟩
  | 83 => ⟨S256x256, .f32⟩
  | 84 => ⟨S_, .f32⟩
  | 85 => ⟨S256x256, .f32⟩
  | 86 => ⟨S256x256, .f32⟩
  | 87 => ⟨S256x256, .f32⟩
  | 88 => ⟨S_, .f32⟩
  | 89 => ⟨S256x256, .f32⟩
  | 90 => ⟨S256x256, .f32⟩
  | 91 => ⟨S_, .f32⟩
  | 92 => ⟨S256x256, .f32⟩
  | 93 => ⟨S256x256, .f32⟩
  | 94 => ⟨S256x256, .f32⟩
  | 95 => ⟨S256x256, .f32⟩
  | 96 => ⟨S_, .f32⟩
  | 97 => ⟨S256x256, .f32⟩
  | 98 => ⟨S256x256, .f32⟩
  | 99 => ⟨S_, .f32⟩
  | 100 => ⟨S256x256, .f32⟩
  | 101 => ⟨S256x256, .f32⟩
  | 102 => ⟨S256x256, .f32⟩
  | 103 => ⟨S256x256, .f32⟩
  | 104 => ⟨S_, .f32⟩
  | 105 => ⟨S256x256, .f32⟩
  | 106 => ⟨S256x256, .f32⟩
  | 107 => ⟨S_, .f32⟩
  | 108 => ⟨S256x256, .f32⟩
  | 109 => ⟨S256x256, .f32⟩
  | 110 => ⟨S1x256x256, .f32⟩
  | 111 => ⟨S_, .i32⟩
  | 112 => ⟨S_, .i32⟩
  | 113 => ⟨S2500x256x256, .f32⟩
  | 114 => ⟨S_, .i32⟩
  | 115 => ⟨S_, .i32⟩
  | 116 => ⟨S50x50x256x256, .f32⟩
  | 117 => ⟨S50x30x256x256, .f32⟩
  | 118 => ⟨S_, .f32⟩
  | 119 => ⟨S50x256x256, .f32⟩
  | _ => ⟨S50x256x200, .f32⟩

abbrev hbmTy (i : Nat) : BufTy := match i / 128 with
  | 0 => hbmTy0_0 i
  | 1 => hbmTy0_1 i
  | _ => ⟨S50x256x200, .f32⟩

abbrev bufTy : (tb : Table) → Fin (tcTables nBuf tb) → BufTy
  | .hbm, ⟨i, _⟩ => hbmTy i
  | _, _ => ⟨S50x256x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_cst_3 : Ref sig .tc := ⟨.hbm, 15, rfl⟩
abbrev main_v4 : Ref sig .tc := ⟨.hbm, 16, rfl⟩
abbrev main_cst_4 : Ref sig .tc := ⟨.hbm, 17, rfl⟩
abbrev main_v5 : Ref sig .tc := ⟨.hbm, 18, rfl⟩
abbrev main_cst_5 : Ref sig .tc := ⟨.hbm, 19, rfl⟩
abbrev main_v6 : Ref sig .tc := ⟨.hbm, 20, rfl⟩
abbrev main_cst_6 : Ref sig .tc := ⟨.hbm, 21, rfl⟩
abbrev main_v7 : Ref sig .tc := ⟨.hbm, 22, rfl⟩
abbrev main_cst_7 : Ref sig .tc := ⟨.hbm, 23, rfl⟩
abbrev main_v8 : Ref sig .tc := ⟨.hbm, 24, rfl⟩
abbrev main_cst_8 : Ref sig .tc := ⟨.hbm, 25, rfl⟩
abbrev main_v9 : Ref sig .tc := ⟨.hbm, 26, rfl⟩
abbrev main_cst_9 : Ref sig .tc := ⟨.hbm, 27, rfl⟩
abbrev main_v10 : Ref sig .tc := ⟨.hbm, 28, rfl⟩
abbrev main_cst_10 : Ref sig .tc := ⟨.hbm, 29, rfl⟩
abbrev main_v11 : Ref sig .tc := ⟨.hbm, 30, rfl⟩
abbrev main_cst_11 : Ref sig .tc := ⟨.hbm, 31, rfl⟩
abbrev main_v12 : Ref sig .tc := ⟨.hbm, 32, rfl⟩
abbrev main_cst_12 : Ref sig .tc := ⟨.hbm, 33, rfl⟩
abbrev main_v13 : Ref sig .tc := ⟨.hbm, 34, rfl⟩
abbrev main_cst_13 : Ref sig .tc := ⟨.hbm, 35, rfl⟩
abbrev main_v14 : Ref sig .tc := ⟨.hbm, 36, rfl⟩
abbrev main_cst_14 : Ref sig .tc := ⟨.hbm, 37, rfl⟩
abbrev main_v15 : Ref sig .tc := ⟨.hbm, 38, rfl⟩
abbrev main_cst_15 : Ref sig .tc := ⟨.hbm, 39, rfl⟩
abbrev main_v16 : Ref sig .tc := ⟨.hbm, 40, rfl⟩
abbrev main_cst_16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_17 : Ref sig .tc := ⟨.hbm, 50, rfl⟩
abbrev main_v25 : Ref sig .tc := ⟨.hbm, 51, rfl⟩
abbrev main_c : Ref sig .tc := ⟨.hbm, 52, rfl⟩
abbrev main_v26_0 : Ref sig .tc := ⟨.hbm, 53, rfl⟩
abbrev main_v26_1 : Ref sig .tc := ⟨.hbm, 54, rfl⟩
abbrev main_v26_2 : Ref sig .tc := ⟨.hbm, 55, rfl⟩
abbrev main_v26_3 : Ref sig .tc := ⟨.hbm, 56, rfl⟩
abbrev main_v26_4 : Ref sig .tc := ⟨.hbm, 57, rfl⟩
abbrev main_v26_5 : Ref sig .tc := ⟨.hbm, 58, rfl⟩
abbrev main_v26_6 : Ref sig .tc := ⟨.hbm, 59, rfl⟩
abbrev main_v26_7 : Ref sig .tc := ⟨.hbm, 60, rfl⟩
abbrev main_v26_8 : Ref sig .tc := ⟨.hbm, 61, rfl⟩
abbrev main_v26_9 : Ref sig .tc := ⟨.hbm, 62, rfl⟩
abbrev main_v26_10 : Ref sig .tc := ⟨.hbm, 63, rfl⟩
abbrev main_v26_11 : Ref sig .tc := ⟨.hbm, 64, rfl⟩
abbrev main_v26_12 : Ref sig .tc := ⟨.hbm, 65, rfl⟩
abbrev main_v26_13 : Ref sig .tc := ⟨.hbm, 66, rfl⟩
abbrev main_v26_14 : Ref sig .tc := ⟨.hbm, 67, rfl⟩
abbrev main_v26_15 : Ref sig .tc := ⟨.hbm, 68, rfl⟩
abbrev main_v26_16 : Ref sig .tc := ⟨.hbm, 69, rfl⟩
abbrev main_v26_17 : Ref sig .tc := ⟨.hbm, 70, rfl⟩
abbrev main_v26_18 : Ref sig .tc := ⟨.hbm, 71, rfl⟩
abbrev main_v26_19 : Ref sig .tc := ⟨.hbm, 72, rfl⟩
abbrev main_v26_20 : Ref sig .tc := ⟨.hbm, 73, rfl⟩
abbrev main_v26_21 : Ref sig .tc := ⟨.hbm, 74, rfl⟩
abbrev main_v26_22 : Ref sig .tc := ⟨.hbm, 75, rfl⟩
abbrev main_v26_23 : Ref sig .tc := ⟨.hbm, 76, rfl⟩
abbrev main_v26_24 : Ref sig .tc := ⟨.hbm, 77, rfl⟩
abbrev main_while0c_c_43 : Ref sig .tc := ⟨.hbm, 78, rfl⟩
abbrev main_while0c_v30 : Ref sig .tc := ⟨.hbm, 79, rfl⟩
abbrev main_while0b_call0_c : Ref sig .tc := ⟨.hbm, 80, rfl⟩
abbrev main_while0b_call0_c_0 : Ref sig .tc := ⟨.hbm, 81, rfl⟩
abbrev main_while0b_call0_v0 : Ref sig .tc := ⟨.hbm, 82, rfl⟩
abbrev main_while0b_v30 : Ref sig .tc := ⟨.hbm, 83, rfl⟩
abbrev main_while0b_cst_43 : Ref sig .tc := ⟨.hbm, 84, rfl⟩
abbrev main_while0b_v31 : Ref sig .tc := ⟨.hbm, 85, rfl⟩
abbrev main_while0b_v32 : Ref sig .tc := ⟨.hbm, 86, rfl⟩
abbrev main_while0b_v33 : Ref sig .tc := ⟨.hbm, 87, rfl⟩
abbrev main_while0b_cst_44 : Ref sig .tc := ⟨.hbm, 88, rfl⟩
abbrev main_while0b_v34 : Ref sig .tc := ⟨.hbm, 89, rfl⟩
abbrev main_while0b_v35 : Ref sig .tc := ⟨.hbm, 90, rfl⟩
abbrev main_while0b_cst_45 : Ref sig .tc := ⟨.hbm, 91, rfl⟩
abbrev main_while0b_v36 : Ref sig .tc := ⟨.hbm, 92, rfl⟩
abbrev main_while0b_v37 : Ref sig .tc := ⟨.hbm, 93, rfl⟩
abbrev main_while0b_v38 : Ref sig .tc := ⟨.hbm, 94, rfl⟩
abbrev main_while0b_v39 : Ref sig .tc := ⟨.hbm, 95, rfl⟩
abbrev main_while0b_cst_46 : Ref sig .tc := ⟨.hbm, 96, rfl⟩
abbrev main_while0b_v40 : Ref sig .tc := ⟨.hbm, 97, rfl⟩
abbrev main_while0b_v41 : Ref sig .tc := ⟨.hbm, 98, rfl⟩
abbrev main_while0b_cst_47 : Ref sig .tc := ⟨.hbm, 99, rfl⟩
abbrev main_while0b_v42 : Ref sig .tc := ⟨.hbm, 100, rfl⟩
abbrev main_while0b_v43 : Ref sig .tc := ⟨.hbm, 101, rfl⟩
abbrev main_while0b_v44 : Ref sig .tc := ⟨.hbm, 102, rfl⟩
abbrev main_while0b_v45 : Ref sig .tc := ⟨.hbm, 103, rfl⟩
abbrev main_while0b_cst_48 : Ref sig .tc := ⟨.hbm, 104, rfl⟩
abbrev main_while0b_v46 : Ref sig .tc := ⟨.hbm, 105, rfl⟩
abbrev main_while0b_v47 : Ref sig .tc := ⟨.hbm, 106, rfl⟩
abbrev main_while0b_cst_49 : Ref sig .tc := ⟨.hbm, 107, rfl⟩
abbrev main_while0b_v48 : Ref sig .tc := ⟨.hbm, 108, rfl⟩
abbrev main_while0b_v49 : Ref sig .tc := ⟨.hbm, 109, rfl⟩
abbrev main_while0b_v50 : Ref sig .tc := ⟨.hbm, 110, rfl⟩
abbrev main_while0b_v51 : Ref sig .tc := ⟨.hbm, 111, rfl⟩
abbrev main_while0b_cst_50 : Ref sig .tc := ⟨.hbm, 112, rfl⟩
abbrev main_while0b_v52 : Ref sig .tc := ⟨.hbm, 113, rfl⟩
abbrev main_while0b_v53 : Ref sig .tc := ⟨.hbm, 114, rfl⟩
abbrev main_while0b_v54 : Ref sig .tc := ⟨.hbm, 115, rfl⟩
abbrev main_while0b_cst_51 : Ref sig .tc := ⟨.hbm, 116, rfl⟩
abbrev main_while0b_v55 : Ref sig .tc := ⟨.hbm, 117, rfl⟩
abbrev main_while0b_v56 : Ref sig .tc := ⟨.hbm, 118, rfl⟩
abbrev main_while0b_cst_52 : Ref sig .tc := ⟨.hbm, 119, rfl⟩
abbrev main_while0b_v57 : Ref sig .tc := ⟨.hbm, 120, rfl⟩
abbrev main_while0b_v58 : Ref sig .tc := ⟨.hbm, 121, rfl⟩
abbrev main_while0b_v59 : Ref sig .tc := ⟨.hbm, 122, rfl⟩
abbrev main_while0b_v60 : Ref sig .tc := ⟨.hbm, 123, rfl⟩
abbrev main_while0b_cst_53 : Ref sig .tc := ⟨.hbm, 124, rfl⟩
abbrev main_while0b_v61 : Ref sig .tc := ⟨.hbm, 125, rfl⟩
abbrev main_while0b_v62 : Ref sig .tc := ⟨.hbm, 126, rfl⟩
abbrev main_while0b_cst_54 : Ref sig .tc := ⟨.hbm, 127, rfl⟩
abbrev main_while0b_v63 : Ref sig .tc := ⟨.hbm, 128, rfl⟩
abbrev main_while0b_v64 : Ref sig .tc := ⟨.hbm, 129, rfl⟩
abbrev main_while0b_v65 : Ref sig .tc := ⟨.hbm, 130, rfl⟩
abbrev main_while0b_v66 : Ref sig .tc := ⟨.hbm, 131, rfl⟩
abbrev main_while0b_cst_55 : Ref sig .tc := ⟨.hbm, 132, rfl⟩
abbrev main_while0b_v67 : Ref sig .tc := ⟨.hbm, 133, rfl⟩
abbrev main_while0b_v68 : Ref sig .tc := ⟨.hbm, 134, rfl⟩
abbrev main_while0b_cst_56 : Ref sig .tc := ⟨.hbm, 135, rfl⟩
abbrev main_while0b_v69 : Ref sig .tc := ⟨.hbm, 136, rfl⟩
abbrev main_while0b_v70 : Ref sig .tc := ⟨.hbm, 137, rfl⟩
abbrev main_while0b_v71 : Ref sig .tc := ⟨.hbm, 138, rfl⟩
abbrev main_while0b_v72 : Ref sig .tc := ⟨.hbm, 139, rfl⟩
abbrev main_while0b_cst_57 : Ref sig .tc := ⟨.hbm, 140, rfl⟩
abbrev main_while0b_v73 : Ref sig .tc := ⟨.hbm, 141, rfl⟩
abbrev main_while0b_v74 : Ref sig .tc := ⟨.hbm, 142, rfl⟩
abbrev main_while0b_v75 : Ref sig .tc := ⟨.hbm, 143, rfl⟩
abbrev main_while0b_cst_58 : Ref sig .tc := ⟨.hbm, 144, rfl⟩
abbrev main_while0b_v76 : Ref sig .tc := ⟨.hbm, 145, rfl⟩
abbrev main_while0b_v77 : Ref sig .tc := ⟨.hbm, 146, rfl⟩
abbrev main_while0b_cst_59 : Ref sig .tc := ⟨.hbm, 147, rfl⟩
abbrev main_while0b_v78 : Ref sig .tc := ⟨.hbm, 148, rfl⟩
abbrev main_while0b_v79 : Ref sig .tc := ⟨.hbm, 149, rfl⟩
abbrev main_while0b_v80 : Ref sig .tc := ⟨.hbm, 150, rfl⟩
abbrev main_while0b_v81 : Ref sig .tc := ⟨.hbm, 151, rfl⟩
abbrev main_while0b_cst_60 : Ref sig .tc := ⟨.hbm, 152, rfl⟩
abbrev main_while0b_v82 : Ref sig .tc := ⟨.hbm, 153, rfl⟩
abbrev main_while0b_v83 : Ref sig .tc := ⟨.hbm, 154, rfl⟩
abbrev main_while0b_cst_61 : Ref sig .tc := ⟨.hbm, 155, rfl⟩
abbrev main_while0b_v84 : Ref sig .tc := ⟨.hbm, 156, rfl⟩
abbrev main_while0b_v85 : Ref sig .tc := ⟨.hbm, 157, rfl⟩
abbrev main_while0b_v86 : Ref sig .tc := ⟨.hbm, 158, rfl⟩
abbrev main_while0b_v87 : Ref sig .tc := ⟨.hbm, 159, rfl⟩
abbrev main_while0b_cst_62 : Ref sig .tc := ⟨.hbm, 160, rfl⟩
abbrev main_while0b_v88 : Ref sig .tc := ⟨.hbm, 161, rfl⟩
abbrev main_while0b_v89 : Ref sig .tc := ⟨.hbm, 162, rfl⟩
abbrev main_while0b_cst_63 : Ref sig .tc := ⟨.hbm, 163, rfl⟩
abbrev main_while0b_v90 : Ref sig .tc := ⟨.hbm, 164, rfl⟩
abbrev main_while0b_v91 : Ref sig .tc := ⟨.hbm, 165, rfl⟩
abbrev main_while0b_cst_64 : Ref sig .tc := ⟨.hbm, 166, rfl⟩
abbrev main_while0b_v92 : Ref sig .tc := ⟨.hbm, 167, rfl⟩
abbrev main_while0b_v93 : Ref sig .tc := ⟨.hbm, 168, rfl⟩
abbrev main_while0b_v94 : Ref sig .tc := ⟨.hbm, 169, rfl⟩
abbrev main_while0b_cst_65 : Ref sig .tc := ⟨.hbm, 170, rfl⟩
abbrev main_while0b_v95 : Ref sig .tc := ⟨.hbm, 171, rfl⟩
abbrev main_while0b_v96 : Ref sig .tc := ⟨.hbm, 172, rfl⟩
abbrev main_while0b_v97 : Ref sig .tc := ⟨.hbm, 173, rfl⟩
abbrev main_while0b_v98 : Ref sig .tc := ⟨.hbm, 174, rfl⟩
abbrev main_while0b_v99 : Ref sig .tc := ⟨.hbm, 175, rfl⟩
abbrev main_while0b_v100 : Ref sig .tc := ⟨.hbm, 176, rfl⟩
abbrev main_while0b_v101 : Ref sig .tc := ⟨.hbm, 177, rfl⟩
abbrev main_while0b_v102 : Ref sig .tc := ⟨.hbm, 178, rfl⟩
abbrev main_while0b_cst_66 : Ref sig .tc := ⟨.hbm, 179, rfl⟩
abbrev main_while0b_v103 : Ref sig .tc := ⟨.hbm, 180, rfl⟩
abbrev main_while0b_v104 : Ref sig .tc := ⟨.hbm, 181, rfl⟩
abbrev main_while0b_v105 : Ref sig .tc := ⟨.hbm, 182, rfl⟩
abbrev main_while0b_v106 : Ref sig .tc := ⟨.hbm, 183, rfl⟩
abbrev main_while0b_v107 : Ref sig .tc := ⟨.hbm, 184, rfl⟩
abbrev main_while0b_cst_67 : Ref sig .tc := ⟨.hbm, 185, rfl⟩
abbrev main_while0b_v108 : Ref sig .tc := ⟨.hbm, 186, rfl⟩
abbrev main_while0b_v109 : Ref sig .tc := ⟨.hbm, 187, rfl⟩
abbrev main_while0b_v110 : Ref sig .tc := ⟨.hbm, 188, rfl⟩
abbrev main_while0b_cst_68 : Ref sig .tc := ⟨.hbm, 189, rfl⟩
abbrev main_while0b_v111 : Ref sig .tc := ⟨.hbm, 190, rfl⟩
abbrev main_while0b_v112 : Ref sig .tc := ⟨.hbm, 191, rfl⟩
abbrev main_while0b_cst_69 : Ref sig .tc := ⟨.hbm, 192, rfl⟩
abbrev main_while0b_v113 : Ref sig .tc := ⟨.hbm, 193, rfl⟩
abbrev main_while0b_v114 : Ref sig .tc := ⟨.hbm, 194, rfl⟩
abbrev main_while0b_v115 : Ref sig .tc := ⟨.hbm, 195, rfl⟩
abbrev main_while0b_v116 : Ref sig .tc := ⟨.hbm, 196, rfl⟩
abbrev main_while0b_cst_70 : Ref sig .tc := ⟨.hbm, 197, rfl⟩
abbrev main_while0b_v117 : Ref sig .tc := ⟨.hbm, 198, rfl⟩
abbrev main_while0b_v118 : Ref sig .tc := ⟨.hbm, 199, rfl⟩
abbrev main_while0b_cst_71 : Ref sig .tc := ⟨.hbm, 200, rfl⟩
abbrev main_while0b_v119 : Ref sig .tc := ⟨.hbm, 201, rfl⟩
abbrev main_while0b_v120 : Ref sig .tc := ⟨.hbm, 202, rfl⟩
abbrev main_while0b_v121 : Ref sig .tc := ⟨.hbm, 203, rfl⟩
abbrev main_while0b_v122 : Ref sig .tc := ⟨.hbm, 204, rfl⟩
abbrev main_while0b_cst_72 : Ref sig .tc := ⟨.hbm, 205, rfl⟩
abbrev main_while0b_v123 : Ref sig .tc := ⟨.hbm, 206, rfl⟩
abbrev main_while0b_v124 : Ref sig .tc := ⟨.hbm, 207, rfl⟩
abbrev main_while0b_cst_73 : Ref sig .tc := ⟨.hbm, 208, rfl⟩
abbrev main_while0b_v125 : Ref sig .tc := ⟨.hbm, 209, rfl⟩
abbrev main_while0b_v126 : Ref sig .tc := ⟨.hbm, 210, rfl⟩
abbrev main_while0b_v127 : Ref sig .tc := ⟨.hbm, 211, rfl⟩
abbrev main_while0b_cst_74 : Ref sig .tc := ⟨.hbm, 212, rfl⟩
abbrev main_while0b_v128 : Ref sig .tc := ⟨.hbm, 213, rfl⟩
abbrev main_while0b_v129 : Ref sig .tc := ⟨.hbm, 214, rfl⟩
abbrev main_while0b_v130 : Ref sig .tc := ⟨.hbm, 215, rfl⟩
abbrev main_while0b_cst_75 : Ref sig .tc := ⟨.hbm, 216, rfl⟩
abbrev main_while0b_v131 : Ref sig .tc := ⟨.hbm, 217, rfl⟩
abbrev main_while0b_v132 : Ref sig .tc := ⟨.hbm, 218, rfl⟩
abbrev main_while0b_cst_76 : Ref sig .tc := ⟨.hbm, 219, rfl⟩
abbrev main_while0b_v133 : Ref sig .tc := ⟨.hbm, 220, rfl⟩
abbrev main_while0b_v134 : Ref sig .tc := ⟨.hbm, 221, rfl⟩
abbrev main_while0b_v135 : Ref sig .tc := ⟨.hbm, 222, rfl⟩
abbrev main_while0b_v136 : Ref sig .tc := ⟨.hbm, 223, rfl⟩
abbrev main_while0b_cst_77 : Ref sig .tc := ⟨.hbm, 224, rfl⟩
abbrev main_while0b_v137 : Ref sig .tc := ⟨.hbm, 225, rfl⟩
abbrev main_while0b_v138 : Ref sig .tc := ⟨.hbm, 226, rfl⟩
abbrev main_while0b_cst_78 : Ref sig .tc := ⟨.hbm, 227, rfl⟩
abbrev main_while0b_v139 : Ref sig .tc := ⟨.hbm, 228, rfl⟩
abbrev main_while0b_v140 : Ref sig .tc := ⟨.hbm, 229, rfl⟩
abbrev main_while0b_v141 : Ref sig .tc := ⟨.hbm, 230, rfl⟩
abbrev main_while0b_v142 : Ref sig .tc := ⟨.hbm, 231, rfl⟩
abbrev main_while0b_cst_79 : Ref sig .tc := ⟨.hbm, 232, rfl⟩
abbrev main_while0b_v143 : Ref sig .tc := ⟨.hbm, 233, rfl⟩
abbrev main_while0b_v144 : Ref sig .tc := ⟨.hbm, 234, rfl⟩
abbrev main_while0b_cst_80 : Ref sig .tc := ⟨.hbm, 235, rfl⟩
abbrev main_while0b_v145 : Ref sig .tc := ⟨.hbm, 236, rfl⟩
abbrev main_while0b_v146 : Ref sig .tc := ⟨.hbm, 237, rfl⟩
abbrev main_while0b_call1_v0 : Ref sig .tc := ⟨.hbm, 238, rfl⟩
abbrev main_while0b_call1_c : Ref sig .tc := ⟨.hbm, 239, rfl⟩
abbrev main_while0b_call1_c_0 : Ref sig .tc := ⟨.hbm, 240, rfl⟩
abbrev main_while0b_v147 : Ref sig .tc := ⟨.hbm, 241, rfl⟩
abbrev main_while0b_c_81 : Ref sig .tc := ⟨.hbm, 242, rfl⟩
abbrev main_while0b_v148 : Ref sig .tc := ⟨.hbm, 243, rfl⟩
abbrev main_v27 : Ref sig .tc := ⟨.hbm, 244, rfl⟩
abbrev main_v28 : Ref sig .tc := ⟨.hbm, 245, rfl⟩
abbrev main_cst_18 : Ref sig .tc := ⟨.hbm, 246, rfl⟩
abbrev main_v29 : Ref sig .tc := ⟨.hbm, 247, rfl⟩

abbrev nD : Nat := 1
abbrev τ : Topo := Topo.v7x

variable {F : FTy → Type} [FloatOps F]

abbrev main_while0_count : Scf.Loop 32 := ⟨0#32, 2500#32, 1#32⟩
-- ==== Proof.RefStep.lean ====
/- The reference's run stated over one trip of its loop: a valuation holds a state when the carried buffers, the constants and the
   counters have the state's values; one lemma for each value of a trip; so one trip keeps holding, and the result is a function of the
   loop's last state. The text is the one the tools write for this reference, with the lemma of the array the trip updates in place
   (`step_24`) proved here. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v26_5) = s.main_v26_5
  f_6 : V0 (Proc.devRef .tc main_v26_6) = s.main_v26_6
  f_7 : V0 (Proc.devRef .tc main_v26_7) = s.main_v26_7
  f_8 : V0 (Proc.devRef .tc main_v26_8) = s.main_v26_8
  f_9 : V0 (Proc.devRef .tc main_v26_9) = s.main_v26_9
  f_10 : V0 (Proc.devRef .tc main_v26_10) = s.main_v26_10
  f_11 : V0 (Proc.devRef .tc main_v26_11) = s.main_v26_11
  f_12 : V0 (Proc.devRef .tc main_v26_12) = s.main_v26_12
  f_13 : V0 (Proc.devRef .tc main_v26_13) = s.main_v26_13
  f_14 : V0 (Proc.devRef .tc main_v26_14) = s.main_v26_14
  f_15 : V0 (Proc.devRef .tc main_v26_15) = s.main_v26_15
  f_16 : V0 (Proc.devRef .tc main_v26_16) = s.main_v26_16
  f_17 : V0 (Proc.devRef .tc main_v26_17) = s.main_v26_17
  f_18 : V0 (Proc.devRef .tc main_v26_18) = s.main_v26_18
  f_19 : V0 (Proc.devRef .tc main_v26_19) = s.main_v26_19
  f_20 : V0 (Proc.devRef .tc main_v26_20) = s.main_v26_20
  f_21 : V0 (Proc.devRef .tc main_v26_21) = s.main_v26_21
  f_22 : V0 (Proc.devRef .tc main_v26_22) = s.main_v26_22
  f_23 : V0 (Proc.devRef .tc main_v26_23) = s.main_v26_23
  f_24 : V0 (Proc.devRef .tc main_v26_24) = s.main_v26_24
  f_0 : V0 (Proc.devRef .tc main_v26_0) = s.main_v26_0
  f_1 : V0 (Proc.devRef .tc main_v26_1) = s.main_v26_1
  f_2 : V0 (Proc.devRef .tc main_v26_2) = s.main_v26_2
  f_3 : V0 (Proc.devRef .tc main_v26_3) = s.main_v26_3
  n_4 : V0 (Proc.devRef .tc main_v26_4) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x256x80 (V0 (Proc.devRef .tc main_v26_0)) (fun k => (((![V0 (Proc.devRef .tc main_v26_4), constantI S_ 32 0#32, constantI S_ 32 0#32] : Fin 3 → (⟨S_, .i32⟩ : BufTy).Contents (Elt F))) k (Shape.Idx.first h_S_)).toInt) sliceFits_S2500x256x80_S1x256x80 : (Proc.devRef .tc main_while0b_call0_v0 : DevRef τ sig).ty.Contents (Elt F)) = Cert.ReferenceIdeal.Step.b2 j s := by
  unfold Cert.ReferenceIdeal.Step.b2
  rw [← al_0 h, ← al_1 h, h.f_0, h.n_4]
  try rfl
set_option maxRecDepth 8192 in
theorem al_3 (h : Holds V0 s j) : (shapeCast S256x80 (Host.dynamicSlice S1x256x80 (V0 (Proc.devRef .tc main_v26_0)) (fun k => (((![V0 (Proc.devRef .tc main_v26_4), constantI S_ 32 0#32, constantI S_ 32 0#32] : Fin 3 → (⟨S_, .i32⟩ : BufTy).Contents (Elt F))) k (Shape.Idx.first h_S_)).toInt) sliceFits_S2500x256x80_S1x256x80) shapeCasts_S1x256x80_S256x80 : (Proc.devRef .tc main_while0b_v30 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constant S_ .f32 0x3F666666#32 : (Proc.devRef .tc main_while0b_cst_43 : DevRef τ sig).ty.Contents (Elt F)) = Cert.ReferenceIdeal.Step.b4 j s := by
  unfold Cert.ReferenceIdeal.Step.b4
  rfl
set_option maxRecDepth 8192 in
theorem al_5 (h : Holds V0 s j) : (broadcastInDim S256x80 ![] bcast_S_S256x80 (constant S_ .f32 0x3F666666#32) : (Proc.devRef .tc main_while0b_v31 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (mulf (broadcastInDim S256x80 ![] bcast_S_S256x80 (constant S_ .f32 0x3F666666#32)) (V0 (Proc.devRef .tc main_v26_6)) : (Proc.devRef .tc main_while0b_v32 : DevRef τ sig).ty.Contents (Elt F)) = Cert.ReferenceIdeal.Step.b6 j s := by
  unfold Cert.ReferenceIdeal.Step.b6
  rw [← al_5 h, h.f_6]
  try rfl
set_option maxRecDepth 8192 in
theorem al_7 (h : Holds V0 s j) : (res_main_while0b_v33 V0 : (Proc.devRef .tc main_while0b_v33 : DevRef τ sig).ty.Contents (Elt F)) = Cert.ReferenceIdeal.Step.b7 j s := by
  unfold res_main_while0b_v33 Cert.ReferenceIdeal.Step.b7
  rw [← al_6 h, ← al_3 h]
  try rfl
set_option maxRecDepth 8192 in
theorem al_8 (h : Holds V0 s j) : (constant S_ .f32 0x3F666666#32 : (Proc.devRef .tc main_while0b_cst_44 : DevRef τ sig).ty.Contents (Elt F)) = Cert.ReferenceIdeal.Step.b8 j s := by
  unfold Cert.ReferenceIdeal.Step.b8
  rfl
set_option maxRecDepth 8192 in
theorem al_9 (h : Holds V0 s j) : (broadcastInDim S256x80 ![] bcast_S_S256x80 (constant S_ .f32 0x3F666666#32) : (Proc.devRef .tc main_while0b_v34 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (mulf (broadcastInDim S256x80 ![] bcast_S_S256x80 (constant S_ .f32 0x3F666666#32)) (V0 (Proc.devRef .tc main_v26_7)) : (Proc.devRef .tc main_while0b_v35 : DevRef τ sig).ty.Contents (Elt F)) = Cert.ReferenceIdeal.Step.b10 j s := by
  unfold Cert.ReferenceIdeal.Step.b10
  rw [← al_9 h, h.f_7]
  try rfl
set_option maxRecDepth 8192 in
theorem al_11 (h : Holds V0 s j) : (constant S_ .f32 0x3F800000#32 : (Proc.devRef .tc main_while0b_cst_45 : DevRef τ sig).ty.Contents (Elt F)) = Cert.ReferenceIdeal.Step.b11 j s := by
  unfold Cert.ReferenceIdeal.Step.b11
  rfl
set_option maxRecDepth 8192 in
theorem al_12 (h : Holds V0 s j) : (broadcastInDim S256x80 ![] bcast_S_S256x80 (constant S_ .f32 0x3F800000#32) : (Proc.devRef .tc main_while0b_v36 : DevRef τ sig).ty.Contents (Elt F)) = Cert.ReferenceIdeal.Step.b12 j s := by
  unfold Cert.ReferenceIdeal.Step.b12
  rw [← al_11 h]
  try rfl
set_option maxRecDepth 8192 in
theorem al_13 (h : Holds V0 s j) : (subf (broadcastInDim S256x80 ![] bcast_S_S256x80 (constant S_ .f32 0x3F800000#32)) (V0 (Proc.devRef .tc main_v26_8)) : (Proc.devRef .tc main_while0b_v37 : DevRef τ sig).ty.Contents (Elt F)) = Cert.ReferenceIdeal.Step.b13 j s := by
  unfold Cert.ReferenceIdeal.Step.b13
  rw [← al_12 h, h.f_8]
  try rfl
set_option maxRecDepth 8192 in
theorem al_14 (h : Holds V0 s j) : (mulf (mulf (broadcastInDim S256x80 ![] bcast_S_S256x80 (constant S_ .f32 0x3F666666#32)) (V0 (Proc.devRef .tc main_v26_7))) (subf (broadcastInDim S256x80 ![] bcast_S_S256x80 (constant S_ .f32 0x3F800000#32)) (V0 (Proc.devRef .tc main_v26_8))) : (Proc.devRef .tc main_while0b_v38 : DevRef τ sig).ty.Contents (Elt F)) = Cert.ReferenceIdeal.Step.b14 j s := by
  unfold Cert.ReferenceIdeal.Step.b14
  rw [← al_10 h, ← al_13 h]
  try rfl
set_option maxRecDepth 8192 in
theorem al_15 (h : Holds V0 s j) : (res_main_while0b_v39 V0 : (Proc.devRef .tc main_while0b_v39 : DevRef τ sig).ty.Contents (Elt F)) = Cert.ReferenceIdeal.Step.b15 j s := by
  unfold res_main_while0b_v39 Cert.ReferenceIdeal.Step.b15
  rw [← al_14 h, ← al_7 h]
  try rfl
set_option maxRecDepth 8192 in
theorem al_16 (h : Holds V0 s j) : (constant S_ .f32 0x3F800000#32 : (Proc.devRef .tc main_while0b_cst_46 : DevRef τ sig).ty.Contents (Elt F)) = Cert.ReferenceIdeal.Step.b16 j s := by
  unfold Cert.ReferenceIdeal.Step.b16
  rfl
set_option maxRecDepth 8192 in
theorem al_17 (h : Holds V0 s j) : (broadcastInDim S256x80 ![] bcast_S_S256x80 (constant S_ .f32 0x3F800000#32) : (Proc.devRef .tc main_while0b_v40 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (subf (res_main_while0b_v39 V0) (broadcastInDim S256x80 ![] bcast_S_S256x80 (constant S_ .f32 0x3F800000#32)) : (Proc.devRef .tc main_while0b_v41 : DevRef τ sig).ty.Contents (Elt F)) = Cert.ReferenceIdeal.Step.b18 j s := by
  unfold Cert.ReferenceIdeal.Step.b18
  rw [← al_15 h, ← al_17 h]
  try rfl
set_option maxRecDepth 8192 in
theorem al_19 (h : Holds V0 s j) : (constant S_ .f32 0x41200000#32 : (Proc.devRef .tc main_while0b_cst_47 : DevRef τ sig).ty.Contents (Elt F)) = Cert.ReferenceIdeal.Step.b19 j s := by
  unfold Cert.ReferenceIdeal.Step.b19
  rfl
set_option maxRecDepth 8192 in
theorem al_20 (h : Holds V0 s j) : (broadcastInDim S256x80 ![] bcast_S_S256x80 (constant S_ .f32 0x41200000#32) : (Proc.devRef .tc main_while0b_v42 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (mulf (broadcastInDim S256x80 ![] bcast_S_S256x80 (constant S_ .f32 0x41200000#32)) (subf (res_main_while0b_v39 V0) (broadcastInDim S256x80 ![] bcast_S_S256x80 (constant S_ .f32 0x3F800000#32))) : (Proc.devRef .tc main_while0b_v43 : DevRef τ sig).ty.Contents (Elt F)) = Cert.ReferenceIdeal.Step.b21 j s := by
  unfold Cert.ReferenceIdeal.Step.b21
  rw [← al_20 h, ← al_18 h]
  try rfl
set_option maxRecDepth 8192 in
theorem al_22 (h : Holds V0 s j) : (Host.negf (mulf (broadcastInDim S256x80 ![] bcast_S_S256x80 (constant S_ .f32 0x41200000#32)) (subf (res_main_while0b_v39 V0) (broadcastInDim S256x80 ![] bcast_S_S256x80 (constant S_ .f32 0x3F800000#32)))) : (Proc.devRef .tc main_while0b_v44 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (Host.exp (Host.negf (mulf (broadcastInDim S256x80 ![] bcast_S_S256x80 (constant S_ .f32 0x41200000#32)) (subf (res_main_while0b_v39 V0) (broadcastInDim S256x80 ![] bcast_S_S256x80 (constant S_ .f32 0x3F800000#32))))) : (Proc.devRef .tc main_while0b_v45 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constant S_ .f32 0x3F800000#32 : (Proc.devRef .tc main_while0b_cst_48 : DevRef τ sig).ty.Contents (Elt F)) = Cert.ReferenceIdeal.Step.b24 j s := by
  unfold Cert.ReferenceIdeal.Step.b24
  rfl
set_option maxRecDepth 8192 in
theorem al_25 (h : Holds V0 s j) : (broadcastInDim S256x80 ![] bcast_S_S256x80 (constant S_ .f32 0x3F800000#32) : (Proc.devRef .tc main_while0b_v46 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (addf (broadcastInDim S256x80 ![] bcast_S_S256x80 (constant S_ .f32 0x3F800000#32)) (Host.exp (Host.negf (mulf (broadcastInDim S256x80 ![] bcast_S_S256x80 (constant S_ .f32 0x41200000#32)) (subf (res_main_while0b_v39 V0) (broadcastInDim S256x80 ![] bcast_S_S256x80 (constant S_ .f32 0x3F800000#32)))))) : (Proc.devRef .tc main_while0b_v47 : DevRef τ sig).ty.Contents (Elt F)) = Cert.ReferenceIdeal.Step.b26 j s := by
  unfold Cert.ReferenceIdeal.Step.b26
  rw [← al_25 h, ← al_23 h]
  try rfl
set_option maxRecDepth 8192 in
theorem al_27 (h : Holds V0 s j) : (constant S_ .f32 0x3F800000#32 : (Proc.devRef .tc main_while0b_cst_49 : DevRef τ sig).ty.Contents (Elt F)) = Cert.ReferenceIdeal.Step.b27 j s := by
  unfold Cert.ReferenceIdeal.Step.b27
  rfl
set_option maxRecDepth 8192 in
theorem al_28 (h : Holds V0 s j) : (broadcastInDim S256x80 ![] bcast_S_S256x80 (constant S_ .f32 0x3F800000#32) : (Proc.devRef .tc main_while0b_v48 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (res_main_while0b_v49 V0 : (Proc.devRef .tc main_while0b_v49 : DevRef τ sig).ty.Contents (Elt F)) = Cert.ReferenceIdeal.Step.b29 j s := by
  unfold res_main_while0b_v49 Cert.ReferenceIdeal.Step.b29
  rw [← al_28 h, ← al_26 h]
  try rfl
set_option maxRecDepth 8192 in
theorem al_30 (h : Holds V0 s j) : (transpose S80x256 [1, 0] (V0 (Proc.devRef .tc main_v26_1)) transposes_S256x80_S80x256_1_0 : (Proc.devRef .tc main_while0b_v50 : DevRef τ sig).ty.Contents (Elt F)) = Cert.ReferenceIdeal.Step.b30 j s := by
  unfold Cert.ReferenceIdeal.Step.b30
  rw [h.f_1]
  try rfl
set_option maxRecDepth 8192 in
theorem al_31 (h : Holds V0 s j) : (Host.dotGeneral dot_S256x80_S80x256_S256x256_1_0_0_1_n_n none (res_main_while0b_v49 V0) (transpose S80x256 [1, 0] (V0 (Proc.devRef .tc main_v26_1)) transposes_S256x80_S80x256_1_0) : (Proc.devRef .tc main_while0b_v51 : DevRef τ sig).ty.Contents (Elt F)) = Cert.ReferenceIdeal.Step.b31 j s := by
  unfold Cert.ReferenceIdeal.Step.b31
  rw [← al_29 h, ← al_30 h]
  try rfl
set_option maxRecDepth 8192 in
theorem al_32 (h : Holds V0 s j) : (constant S_ .f32 0x3F666666#32 : (Proc.devRef .tc main_while0b_cst_50 : DevRef τ sig).ty.Contents (Elt F)) = Cert.ReferenceIdeal.Step.b32 j s := by
  unfold Cert.ReferenceIdeal.Step.b32
  rfl
set_option maxRecDepth 8192 in
theorem al_33 (h : Holds V0 s j) : (broadcastInDim S256x256 ![] bcast_S_S256x256 (constant S_ .f32 0x3F666666#32) : (Proc.devRef .tc main_while0b_v52 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (mulf (broadcastInDim S256x256 ![] bcast_S_S256x256 (constant S_ .f32 0x3F666666#32)) (V0 (Proc.devRef .tc main_v26_9)) : (Proc.devRef .tc main_while0b_v53 : DevRef τ sig).ty.Contents (Elt F)) = Cert.ReferenceIdeal.Step.b34 j s := by
  unfold Cert.ReferenceIdeal.Step.b34
  rw [← al_33 h, h.f_9]
  try rfl
set_option maxRecDepth 8192 in
theorem al_35 (h : Holds V0 s j) : (res_main_while0b_v54 V0 : (Proc.devRef .tc main_while0b_v54 : DevRef τ sig).ty.Contents (Elt F)) = Cert.ReferenceIdeal.Step.b35 j s := by
  unfold res_main_while0b_v54 Cert.ReferenceIdeal.Step.b35
  rw [← al_34 h, ← al_31 h]
  try rfl
set_option maxRecDepth 8192 in
theorem al_36 (h : Holds V0 s j) : (constant S_ .f32 0x3F666666#32 : (Proc.devRef .tc main_while0b_cst_51 : DevRef τ sig).ty.Contents (Elt F)) = Cert.ReferenceIdeal.Step.b36 j s := by
  unfold Cert.ReferenceIdeal.Step.b36
  rfl
set_option maxRecDepth 8192 in
theorem al_37 (h : Holds V0 s j) : (broadcastInDim S256x256 ![] bcast_S_S256x256 (constant S_ .f32 0x3F666666#32) : (Proc.devRef .tc main_while0b_v55 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (mulf (broadcastInDim S256x256 ![] bcast_S_S256x256 (constant S_ .f32 0x3F666666#32)) (V0 (Proc.devRef .tc main_v26_10)) : (Proc.devRef .tc main_while0b_v56 : DevRef τ sig).ty.Contents (Elt F)) = Cert.ReferenceIdeal.Step.b38 j s := by
  unfold Cert.ReferenceIdeal.Step.b38
  rw [← al_37 h, h.f_10]
  try rfl
set_option maxRecDepth 8192 in
theorem al_39 (h : Holds V0 s j) : (constant S_ .f32 0x3F800000#32 : (Proc.devRef .tc main_while0b_cst_52 : DevRef τ sig).ty.Contents (Elt F)) = Cert.ReferenceIdeal.Step.b39 j s := by
  unfold Cert.ReferenceIdeal.Step.b39
  rfl
set_option maxRecDepth 8192 in
theorem al_40 (h : Holds V0 s j) : (broadcastInDim S256x256 ![] bcast_S_S256x256 (constant S_ .f32 0x3F800000#32) : (Proc.devRef .tc main_while0b_v57 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (subf (broadcastInDim S256x256 ![] bcast_S_S256x256 (constant S_ .f32 0x3F800000#32)) (V0 (Proc.devRef .tc main_v26_11)) : (Proc.devRef .tc main_while0b_v58 : DevRef τ sig).ty.Contents (Elt F)) = Cert.ReferenceIdeal.Step.b41 j s := by
  unfold Cert.ReferenceIdeal.Step.b41
  rw [← al_40 h, h.f_11]
  try rfl
set_option maxRecDepth 8192 in
theorem al_42 (h : Holds V0 s j) : (mulf (mulf (broadcastInDim S256x256 ![] bcast_S_S256x256 (constant S_ .f32 0x3F666666#32)) (V0 (Proc.devRef .tc main_v26_10))) (subf (broadcastInDim S256x256 ![] bcast_S_S256x256 (constant S_ .f32 0x3F800000#32)) (V0 (Proc.devRef .tc main_v26_11))) : (Proc.devRef .tc main_while0b_v59 : DevRef τ sig).ty.Contents (Elt F)) = Cert.ReferenceIdeal.Step.b42 j s := by
  unfold Cert.ReferenceIdeal.Step.b42
  rw [← al_38 h, ← al_41 h]
  try rfl
set_option maxRecDepth 8192 in
theorem al_43 (h : Holds V0 s j) : (res_main_while0b_v60 V0 : (Proc.devRef .tc main_while0b_v60 : DevRef τ sig).ty.Contents (Elt F)) = Cert.ReferenceIdeal.Step.b43 j s := by
  unfold res_main_while0b_v60 Cert.ReferenceIdeal.Step.b43
  rw [← al_42 h, ← al_35 h]
  try rfl
set_option maxRecDepth 8192 in
theorem al_44 (h : Holds V0 s j) : (constant S_ .f32 0x3F800000#32 : (Proc.devRef .tc main_while0b_cst_53 : DevRef τ sig).ty.Contents (Elt F)) = Cert.ReferenceIdeal.Step.b44 j s := by
  unfold Cert.ReferenceIdeal.Step.b44
  rfl
set_option maxRecDepth 8192 in
theorem al_45 (h : Holds V0 s j) : (broadcastInDim S256x256 ![] bcast_S_S256x256 (constant S_ .f32 0x3F800000#32) : (Proc.devRef .tc main_while0b_v61 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (subf (res_main_while0b_v60 V0) (broadcastInDim S256x256 ![] bcast_S_S256x256 (constant S_ .f32 0x3F800000#32)) : (Proc.devRef .tc main_while0b_v62 : DevRef τ sig).ty.Contents (Elt F)) = Cert.ReferenceIdeal.Step.b46 j s := by
  unfold Cert.ReferenceIdeal.Step.b46
  rw [← al_43 h, ← al_45 h]
  try rfl
set_option maxRecDepth 8192 in
theorem al_47 (h : Holds V0 s j) : (constant S_ .f32 0x41200000#32 : (Proc.devRef .tc main_while0b_cst_54 : DevRef τ sig).ty.Contents (Elt F)) = Cert.ReferenceIdeal.Step.b47 j s := by
  unfold Cert.ReferenceIdeal.Step.b47
  rfl
set_option maxRecDepth 8192 in
theorem al_48 (h : Holds V0 s j) : (broadcastInDim S256x256 ![] bcast_S_S256x256 (constant S_ .f32 0x41200000#32) : (Proc.devRef .tc main_while0b_v63 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (mulf (broadcastInDim S256x256 ![] bcast_S_S256x256 (constant S_ .f32 0x41200000#32)) (subf (res_main_while0b_v60 V0) (broadcastInDim S256x256 ![] bcast_S_S256x256 (constant S_ .f32 0x3F800000#32))) : (Proc.devRef .tc main_while0b_v64 : DevRef τ sig).ty.Contents (Elt F)) = Cert.ReferenceIdeal.Step.b49 j s := by
  unfold Cert.ReferenceIdeal.Step.b49
  rw [← al_48 h, ← al_46 h]
  try rfl
set_option maxRecDepth 8192 in
theorem al_50 (h : Holds V0 s j) : (Host.negf (mulf (broadcastInDim S256x256 ![] bcast_S_S256x256 (constant S_ .f32 0x41200000#32)) (subf (res_main_while0b_v60 V0) (broadcastInDim S256x256 ![] bcast_S_S256x256 (constant S_ .f32 0x3F800000#32)))) : (Proc.devRef .tc main_while0b_v65 : DevRef τ sig).ty.Contents (Elt F)) = Cert.ReferenceIdeal.Step.b50 j s := by
  unfold Cert.ReferenceIdeal.Step.b50
  rw [← al_49 h]
  try rfl
set_option maxRecDepth 8192 in
theorem al_51 (h : Holds V0 s j) : (Host.exp (Host.negf (mulf (broadcastInDim S256x256 ![] bcast_S_S256x256 (constant S_ .f32 0x41200000#32)) (subf (res_main_while0b_v60 V0) (broadcastInDim S256x256 ![] bcast_S_S256x256 (constant S_ .f32 0x3F800000#32))))) : (Proc.devRef .tc main_while0b_v66 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (constant S_ .f32 0x3F800000#32 : (Proc.devRef .tc main_while0b_cst_55 : DevRef τ sig).ty.Contents (Elt F)) = Cert.ReferenceIdeal.Step.b52 j s := by
  unfold Cert.ReferenceIdeal.Step.b52
  rfl
set_option maxRecDepth 8192 in
theorem al_53 (h : Holds V0 s j) : (broadcastInDim S256x256 ![] bcast_S_S256x256 (constant S_ .f32 0x3F800000#32) : (Proc.devRef .tc main_while0b_v67 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (addf (broadcastInDim S256x256 ![] bcast_S_S256x256 (constant S_ .f32 0x3F800000#32)) (Host.exp (Host.negf (mulf (broadcastInDim S256x256 ![] bcast_S_S256x256 (constant S_ .f32 0x41200000#32)) (subf (res_main_while0b_v60 V0) (broadcastInDim S256x256 ![] bcast_S_S256x256 (constant S_ .f32 0x3F800000#32)))))) : (Proc.devRef .tc main_while0b_v68 : DevRef τ sig).ty.Contents (Elt F)) = Cert.ReferenceIdeal.Step.b54 j s := by
  unfold Cert.ReferenceIdeal.Step.b54
  rw [← al_53 h, ← al_51 h]
  try rfl
set_option maxRecDepth 8192 in
theorem al_55 (h : Holds V0 s j) : (constant S_ .f32 0x3F800000#32 : (Proc.devRef .tc main_while0b_cst_56 : DevRef τ sig).ty.Contents (Elt F)) = Cert.ReferenceIdeal.Step.b55 j s := by
  unfold Cert.ReferenceIdeal.Step.b55
  rfl
set_option maxRecDepth 8192 in
theorem al_56 (h : Holds V0 s j) : (broadcastInDim S256x256 ![] bcast_S_S256x256 (constant S_ .f32 0x3F800000#32) : (Proc.devRef .tc main_while0b_v69 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (res_main_while0b_v70 V0 : (Proc.devRef .tc main_while0b_v70 : DevRef τ sig).ty.Contents (Elt F)) = Cert.ReferenceIdeal.Step.b57 j s := by
  unfold res_main_while0b_v70 Cert.ReferenceIdeal.Step.b57
  rw [← al_56 h, ← al_54 h]
  try rfl
set_option maxRecDepth 8192 in
theorem al_58 (h : Holds V0 s j) : (transpose S80x256 [1, 0] (V0 (Proc.devRef .tc main_v26_2)) transposes_S256x80_S80x256_1_0 : (Proc.devRef .tc main_while0b_v71 : DevRef τ sig).ty.Contents (Elt F)) = Cert.ReferenceIdeal.Step.b58 j s := by
  unfold Cert.ReferenceIdeal.Step.b58
  rw [h.f_2]
  try rfl
set_option maxRecDepth 8192 in
theorem al_59 (h : Holds V0 s j) : (Host.dotGeneral dot_S256x80_S80x256_S256x256_1_0_0_1_n_n none (res_main_while0b_v49 V0) (transpose S80x256 [1, 0] (V0 (Proc.devRef .tc main_v26_2)) transposes_S256x80_S80x256_1_0) : (Proc.devRef .tc main_while0b_v72 : DevRef τ sig).ty.Contents (Elt F)) = Cert.ReferenceIdeal.Step.b59 j s := by
  unfold Cert.ReferenceIdeal.Step.b59
  rw [← al_29 h, ← al_58 h]
  try rfl
set_option maxRecDepth 8192 in
theorem al_60 (h : Holds V0 s j) : (constant S_ .f32 0x3F666666#32 : (Proc.devRef .tc main_while0b_cst_57 : DevRef τ sig).ty.Contents (Elt F)) = Cert.ReferenceIdeal.Step.b60 j s := by
  unfold Cert.ReferenceIdeal.Step.b60
  rfl
set_option maxRecDepth 8192 in
theorem al_61 (h : Holds V0 s j) : (broadcastInDim S256x256 ![] bcast_S_S256x256 (constant S_ .f32 0x3F666666#32) : (Proc.devRef .tc main_while0b_v73 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (mulf (broadcastInDim S256x256 ![] bcast_S_S256x256 (constant S_ .f32 0x3F666666#32)) (V0 (Proc.devRef .tc main_v26_12)) : (Proc.devRef .tc main_while0b_v74 : DevRef τ sig).ty.Contents (Elt F)) = Cert.ReferenceIdeal.Step.b62 j s := by
  unfold Cert.ReferenceIdeal.Step.b62
  rw [← al_61 h, h.f_12]
  try rfl
set_option maxRecDepth 8192 in
theorem al_63 (h : Holds V0 s j) : (res_main_while0b_v75 V0 : (Proc.devRef .tc main_while0b_v75 : DevRef τ sig).ty.Contents (Elt F)) = Cert.ReferenceIdeal.Step.b63 j s := by
  unfold res_main_while0b_v75 Cert.ReferenceIdeal.Step.b63
  rw [← al_62 h, ← al_59 h]
  try rfl
set_option maxRecDepth 8192 in
theorem al_64 (h : Holds V0 s j) : (constant S_ .f32 0x3F666666#32 : (Proc.devRef .tc main_while0b_cst_58 : DevRef τ sig).ty.Contents (Elt F)) = Cert.ReferenceIdeal.Step.b64 j s := by
  unfold Cert.ReferenceIdeal.Step.b64
  rfl
set_option maxRecDepth 8192 in
theorem al_65 (h : Holds V0 s j) : (broadcastInDim S256x256 ![] bcast_S_S256x256 (constant S_ .f32 0x3F666666#32) : (Proc.devRef .tc main_while0b_v76 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (mulf (broadcastInDim S256x256 ![] bcast_S_S256x256 (constant S_ .f32 0x3F666666#32)) (V0 (Proc.devRef .tc main_v26_13)) : (Proc.devRef .tc main_while0b_v77 : DevRef τ sig).ty.Contents (Elt F)) = Cert.ReferenceIdeal.Step.b66 j s := by
  unfold Cert.ReferenceIdeal.Step.b66
  rw [← al_65 h, h.f_13]
  try rfl
set_option maxRecDepth 8192 in
theorem al_67 (h : Holds V0 s j) : (constant S_ .f32 0x3F800000#32 : (Proc.devRef .tc main_while0b_cst_59 : DevRef τ sig).ty.Contents (Elt F)) = Cert.ReferenceIdeal.Step.b67 j s := by
  unfold Cert.ReferenceIdeal.Step.b67
  rfl
set_option maxRecDepth 8192 in
theorem al_68 (h : Holds V0 s j) : (broadcastInDim S256x256 ![] bcast_S_S256x256 (constant S_ .f32 0x3F800000#32) : (Proc.devRef .tc main_while0b_v78 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (subf (broadcastInDim S256x256 ![] bcast_S_S256x256 (constant S_ .f32 0x3F800000#32)) (V0 (Proc.devRef .tc main_v26_14)) : (Proc.devRef .tc main_while0b_v79 : DevRef τ sig).ty.Contents (Elt F)) = Cert.ReferenceIdeal.Step.b69 j s := by
  unfold Cert.ReferenceIdeal.Step.b69
  rw [← al_68 h, h.f_14]
  try rfl
set_option maxRecDepth 8192 in
theorem al_70 (h : Holds V0 s j) : (mulf (mulf (broadcastInDim S256x256 ![] bcast_S_S256x256 (constant S_ .f32 0x3F666666#32)) (V0 (Proc.devRef .tc main_v26_13))) (subf (broadcastInDim S256x256 ![] bcast_S_S256x256 (constant S_ .f32 0x3F800000#32)) (V0 (Proc.devRef .tc main_v26_14))) : (Proc.devRef .tc main_while0b_v80 : DevRef τ sig).ty.Contents (Elt F)) = Cert.ReferenceIdeal.Step.b70 j s := by
  unfold Cert.ReferenceIdeal.Step.b70
  rw [← al_66 h, ← al_69 h]
  try rfl
set_option maxRecDepth 8192 in
theorem al_71 (h : Holds V0 s j) : (res_main_while0b_v81 V0 : (Proc.devRef .tc main_while0b_v81 : DevRef τ sig).ty.Contents (Elt F)) = Cert.ReferenceIdeal.Step.b71 j s := by
  unfold res_main_while0b_v81 Cert.ReferenceIdeal.Step.b71
  rw [← al_70 h, ← al_63 h]
  try rfl
set_option maxRecDepth 8192 in
theorem al_72 (h : Holds V0 s j) : (constant S_ .f32 0x3F800000#32 : (Proc.devRef .tc main_while0b_cst_60 : DevRef τ sig).ty.Contents (Elt F)) = Cert.ReferenceIdeal.Step.b72 j s := by
  unfold Cert.ReferenceIdeal.Step.b72
  rfl
set_option maxRecDepth 8192 in
theorem al_73 (h : Holds V0 s j) : (broadcastInDim S256x256 ![] bcast_S_S256x256 (constant S_ .f32 0x3F800000#32) : (Proc.devRef .tc main_while0b_v82 : DevRef τ sig).ty.Contents (Elt F)) = Cert.ReferenceIdeal.Step.b73 j s := by
  unfold Cert.ReferenceIdeal.Step.b73
  rw [← al_72 h]
  try rfl
set_option maxRecDepth 8192 in
theorem al_74 (h : Holds V0 s j) : (subf (res_main_while0b_v81 V0) (broadcastInDim S256x256 ![] bcast_S_S256x256 (constant S_ .f32 0x3F800000#32)) : (Proc.devRef .tc main_while0b_v83 : DevRef τ sig).ty.Contents (Elt F)) = Cert.ReferenceIdeal.Step.b74 j s := by
  unfold Cert.ReferenceIdeal.Step.b74
  rw [← al_71 h, ← al_73 h]
  try rfl
set_option maxRecDepth 8192 in
theorem al_75 (h : Holds V0 s j) : (constant S_ .f32 0x41200000#32 : (Proc.devRef .tc main_while0b_cst_61 : DevRef τ sig).ty.Contents (Elt F)) = Cert.ReferenceIdeal.Step.b75 j s := by
  unfold Cert.ReferenceIdeal.Step.b75
  rfl
set_option maxRecDepth 8192 in
theorem al_76 (h : Holds V0 s j) : (broadcastInDim S256x256 ![] bcast_S_S256x256 (constant S_ .f32 0x41200000#32) : (Proc.devRef .tc main_while0b_v84 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (mulf (broadcastInDim S256x256 ![] bcast_S_S256x256 (constant S_ .f32 0x41200000#32)) (subf (res_main_while0b_v81 V0) (broadcastInDim S256x256 ![] bcast_S_S256x256 (constant S_ .f32 0x3F800000#32))) : (Proc.devRef .tc main_while0b_v85 : DevRef τ sig).ty.Contents (Elt F)) = Cert.ReferenceIdeal.Step.b77 j s := by
  unfold Cert.ReferenceIdeal.Step.b77
  rw [← al_76 h, ← al_74 h]
  try rfl
set_option maxRecDepth 8192 in
theorem al_78 (h : Holds V0 s j) : (Host.negf (mulf (broadcastInDim S256x256 ![] bcast_S_S256x256 (constant S_ .f32 0x41200000#32)) (subf (res_main_while0b_v81 V0) (broadcastInDim S256x256 ![] bcast_S_S256x256 (constant S_ .f32 0x3F800000#32)))) : (Proc.devRef .tc main_while0b_v86 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (Host.exp (Host.negf (mulf (broadcastInDim S256x256 ![] bcast_S_S256x256 (constant S_ .f32 0x41200000#32)) (subf (res_main_while0b_v81 V0) (broadcastInDim S256x256 ![] bcast_S_S256x256 (constant S_ .f32 0x3F800000#32))))) : (Proc.devRef .tc main_while0b_v87 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (constant S_ .f32 0x3F800000#32 : (Proc.devRef .tc main_while0b_cst_62 : DevRef τ sig).ty.Contents (Elt F)) = Cert.ReferenceIdeal.Step.b80 j s := by
  unfold Cert.ReferenceIdeal.Step.b80
  rfl
set_option maxRecDepth 8192 in
theorem al_81 (h : Holds V0 s j) : (broadcastInDim S256x256 ![] bcast_S_S256x256 (constant S_ .f32 0x3F800000#32) : (Proc.devRef .tc main_while0b_v88 : DevRef τ sig).ty.Contents (Elt F)) = Cert.ReferenceIdeal.Step.b81 j s := by
  unfold Cert.ReferenceIdeal.Step.b81
  rw [← al_80 h]
  try rfl
set_option maxRecDepth 8192 in
theorem al_82 (h : Holds V0 s j) : (addf (broadcastInDim S256x256 ![] bcast_S_S256x256 (constant S_ .f32 0x3F800000#32)) (Host.exp (Host.negf (mulf (broadcastInDim S256x256 ![] bcast_S_S256x256 (constant S_ .f32 0x41200000#32)) (subf (res_main_while0b_v81 V0) (broadcastInDim S256x256 ![] bcast_S_S256x256 (constant S_ .f32 0x3F800000#32)))))) : (Proc.devRef .tc main_while0b_v89 : DevRef τ sig).ty.Contents (Elt F)) = Cert.ReferenceIdeal.Step.b82 j s := by
  unfold Cert.ReferenceIdeal.Step.b82
  rw [← al_81 h, ← al_79 h]
  try rfl
set_option maxRecDepth 8192 in
theorem al_83 (h : Holds V0 s j) : (constant S_ .f32 0x3F800000#32 : (Proc.devRef .tc main_while0b_cst_63 : DevRef τ sig).ty.Contents (Elt F)) = Cert.ReferenceIdeal.Step.b83 j s := by
  unfold Cert.ReferenceIdeal.Step.b83
  rfl
set_option maxRecDepth 8192 in
theorem al_84 (h : Holds V0 s j) : (broadcastInDim S256x256 ![] bcast_S_S256x256 (constant S_ .f32 0x3F800000#32) : (Proc.devRef .tc main_while0b_v90 : DevRef τ sig).ty.Contents (Elt F)) = Cert.ReferenceIdeal.Step.b84 j s := by
  unfold Cert.ReferenceIdeal.Step.b84
  rw [← al_83 h]
  try rfl
set_option maxRecDepth 8192 in
theorem al_85 (h : Holds V0 s j) : (res_main_while0b_v91 V0 : (Proc.devRef .tc main_while0b_v91 : DevRef τ sig).ty.Contents (Elt F)) = Cert.ReferenceIdeal.Step.b85 j s := by
  unfold res_main_while0b_v91 Cert.ReferenceIdeal.Step.b85
  rw [← al_84 h, ← al_82 h]
  try rfl
set_option maxRecDepth 8192 in
theorem al_86 (h : Holds V0 s j) : (constant S_ .f32 0x3F7383C6#32 : (Proc.devRef .tc main_while0b_cst_64 : DevRef τ sig).ty.Contents (Elt F)) = Cert.ReferenceIdeal.Step.b86 j s := by
  unfold Cert.ReferenceIdeal.Step.b86
  rfl
set_option maxRecDepth 8192 in
theorem al_87 (h : Holds V0 s j) : (broadcastInDim S256x256 ![] bcast_S_S256x256 (constant S_ .f32 0x3F7383C6#32) : (Proc.devRef .tc main_while0b_v92 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (mulf (broadcastInDim S256x256 ![] bcast_S_S256x256 (constant S_ .f32 0x3F7383C6#32)) (V0 (Proc.devRef .tc main_v26_15)) : (Proc.devRef .tc main_while0b_v93 : DevRef τ sig).ty.Contents (Elt F)) = Cert.ReferenceIdeal.Step.b88 j s := by
  unfold Cert.ReferenceIdeal.Step.b88
  rw [← al_87 h, h.f_15]
  try rfl
set_option maxRecDepth 8192 in
theorem al_89 (h : Holds V0 s j) : (res_main_while0b_v94 V0 : (Proc.devRef .tc main_while0b_v94 : DevRef τ sig).ty.Contents (Elt F)) = Cert.ReferenceIdeal.Step.b89 j s := by
  unfold res_main_while0b_v94 Cert.ReferenceIdeal.Step.b89
  rw [← al_88 h, ← al_57 h]
  try rfl
set_option maxRecDepth 8192 in
theorem al_90 (h : Holds V0 s j) : (constant S_ .f32 0x3F7383C6#32 : (Proc.devRef .tc main_while0b_cst_65 : DevRef τ sig).ty.Contents (Elt F)) = Cert.ReferenceIdeal.Step.b90 j s := by
  unfold Cert.ReferenceIdeal.Step.b90
  rfl
set_option maxRecDepth 8192 in
theorem al_91 (h : Holds V0 s j) : (broadcastInDim S256x256 ![] bcast_S_S256x256 (constant S_ .f32 0x3F7383C6#32) : (Proc.devRef .tc main_while0b_v95 : DevRef τ sig).ty.Contents (Elt F)) = Cert.ReferenceIdeal.Step.b91 j s := by
  unfold Cert.ReferenceIdeal.Step.b91
  rw [← al_90 h]
  try rfl
set_option maxRecDepth 8192 in
theorem al_92 (h : Holds V0 s j) : (mulf (broadcastInDim S256x256 ![] bcast_S_S256x256 (constant S_ .f32 0x3F7383C6#32)) (V0 (Proc.devRef .tc main_v26_16)) : (Proc.devRef .tc main_while0b_v96 : DevRef τ sig).ty.Contents (Elt F)) = Cert.ReferenceIdeal.Step.b92 j s := by
  unfold Cert.ReferenceIdeal.Step.b92
  rw [← al_91 h, h.f_16]
  try rfl
set_option maxRecDepth 8192 in
theorem al_93 (h : Holds V0 s j) : (addf (mulf (broadcastInDim S256x256 ![] bcast_S_S256x256 (constant S_ .f32 0x3F7383C6#32)) (V0 (Proc.devRef .tc main_v26_16))) (res_main_while0b_v91 V0) : (Proc.devRef .tc main_while0b_v97 : DevRef τ sig).ty.Contents (Elt F)) = Cert.ReferenceIdeal.Step.b93 j s := by
  unfold Cert.ReferenceIdeal.Step.b93
  rw [← al_92 h, ← al_85 h]
  try rfl
set_option maxRecDepth 8192 in
theorem al_94 (h : Holds V0 s j) : (broadcastInDim S256x256x1 ![0, 1] bcast_S256x256_S256x256x1_0_1 (res_main_while0b_v91 V0) : (Proc.devRef .tc main_while0b_v98 : DevRef τ sig).ty.Contents (Elt F)) = Cert.ReferenceIdeal.Step.b94 j s := by
  unfold Cert.ReferenceIdeal.Step.b94
  rw [← al_85 h]
  try rfl
set_option maxRecDepth 8192 in
theorem al_95 (h : Holds V0 s j) : (broadcastInDim S256x1x256 ![0, 2] bcast_S256x256_S256x1x256_0_2 (res_main_while0b_v94 V0) : (Proc.devRef .tc main_while0b_v99 : DevRef τ sig).ty.Contents (Elt F)) = Cert.ReferenceIdeal.Step.b95 j s := by
  unfold Cert.ReferenceIdeal.Step.b95
  rw [← al_89 h]
  try rfl
set_option maxRecDepth 8192 in
theorem al_96 (h : Holds V0 s j) : (broadcastInDim S256x256x256 ![0, 1, 2] bcast_S256x256x1_S256x256x256_0_1_2 (broadcastInDim S256x256x1 ![0, 1] bcast_S256x256_S256x256x1_0_1 (res_main_while0b_v91 V0)) : (Proc.devRef .tc main_while0b_v100 : DevRef τ sig).ty.Contents (Elt F)) = Cert.ReferenceIdeal.Step.b96 j s := by
  unfold Cert.ReferenceIdeal.Step.b96
  rw [← al_94 h]
  try rfl
set_option maxRecDepth 8192 in
theorem al_97 (h : Holds V0 s j) : (broadcastInDim S256x256x256 ![0, 1, 2] bcast_S256x1x256_S256x256x256_0_1_2 (broadcastInDim S256x1x256 ![0, 2] bcast_S256x256_S256x1x256_0_2 (res_main_while0b_v94 V0)) : (Proc.devRef .tc main_while0b_v101 : DevRef τ sig).ty.Contents (Elt F)) = Cert.ReferenceIdeal.Step.b97 j s := by
  unfold Cert.ReferenceIdeal.Step.b97
  rw [← al_95 h]
  try rfl
set_option maxRecDepth 8192 in
theorem al_98 (h : Holds V0 s j) : (mulf (broadcastInDim S256x256x256 ![0, 1, 2] bcast_S256x256x1_S256x256x256_0_1_2 (broadcastInDim S256x256x1 ![0, 1] bcast_S256x256_S256x256x1_0_1 (res_main_while0b_v91 V0))) (broadcastInDim S256x256x256 ![0, 1, 2] bcast_S256x1x256_S256x256x256_0_1_2 (broadcastInDim S256x1x256 ![0, 2] bcast_S256x256_S256x1x256_0_2 (res_main_while0b_v94 V0))) : (Proc.devRef .tc main_while0b_v102 : DevRef τ sig).ty.Contents (Elt F)) = Cert.ReferenceIdeal.Step.b98 j s := by
  unfold Cert.ReferenceIdeal.Step.b98
  rw [← al_96 h, ← al_97 h]
  try rfl
set_option maxRecDepth 8192 in
theorem al_99 (h : Holds V0 s j) : (constant S_ .f32 0x3C23D70A#32 : (Proc.devRef .tc main_while0b_cst_66 : DevRef τ sig).ty.Contents (Elt F)) = Cert.ReferenceIdeal.Step.b99 j s := by
  unfold Cert.ReferenceIdeal.Step.b99
  rfl
set_option maxRecDepth 8192 in
theorem al_100 (h : Holds V0 s j) : (broadcastInDim S256x256x256 ![] bcast_S_S256x256x256 (constant S_ .f32 0x3C23D70A#32) : (Proc.devRef .tc main_while0b_v103 : DevRef τ sig).ty.Contents (Elt F)) = Cert.ReferenceIdeal.Step.b100 j s := by
  unfold Cert.ReferenceIdeal.Step.b100
  rw [← al_99 h]
  try rfl
set_option maxRecDepth 8192 in
theorem al_101 (h : Holds V0 s j) : (mulf (broadcastInDim S256x256x256 ![] bcast_S_S256x256x256 (constant S_ .f32 0x3C23D70A#32)) (mulf (broadcastInDim S256x256x256 ![0, 1, 2] bcast_S256x256x1_S256x256x256_0_1_2 (broadcastInDim S256x256x1 ![0, 1] bcast_S256x256_S256x256x1_0_1 (res_main_while0b_v91 V0))) (broadcastInDim S256x256x256 ![0, 1, 2] bcast_S256x1x256_S256x256x256_0_1_2 (broadcastInDim S256x1x256 ![0, 2] bcast_S256x256_S256x1x256_0_2 (res_main_while0b_v94 V0)))) : (Proc.devRef .tc main_while0b_v104 : DevRef τ sig).ty.Contents (Elt F)) = Cert.ReferenceIdeal.Step.b101 j s := by
  unfold Cert.ReferenceIdeal.Step.b101
  rw [← al_100 h, ← al_98 h]
  try rfl
set_option maxRecDepth 8192 in
theorem al_102 (h : Holds V0 s j) : (res_main_while0b_v105 V0 : (Proc.devRef .tc main_while0b_v105 : DevRef τ sig).ty.Contents (Elt F)) = Cert.ReferenceIdeal.Step.b102 j s := by
  unfold res_main_while0b_v105 Cert.ReferenceIdeal.Step.b102
  rw [← al_101 h, h.f_5]
  try rfl
set_option maxRecDepth 8192 in
theorem al_103 (h : Holds V0 s j) : (transpose S80x256 [1, 0] (V0 (Proc.devRef .tc main_v26_3)) transposes_S256x80_S80x256_1_0 : (Proc.devRef .tc main_while0b_v106 : DevRef τ sig).ty.Contents (Elt F)) = Cert.ReferenceIdeal.Step.b103 j s := by
  unfold Cert.ReferenceIdeal.Step.b103
  rw [h.f_3]
  try rfl
set_option maxRecDepth 8192 in
theorem al_104 (h : Holds V0 s j) : (Host.dotGeneral dot_S256x80_S80x256_S256x256_1_0_0_1_n_n none (res_main_while0b_v49 V0) (transpose S80x256 [1, 0] (V0 (Proc.devRef .tc main_v26_3)) transposes_S256x80_S80x256_1_0) : (Proc.devRef .tc main_while0b_v107 : DevRef τ sig).ty.Contents (Elt F)) = Cert.ReferenceIdeal.Step.b104 j s := by
  unfold Cert.ReferenceIdeal.Step.b104
  rw [← al_29 h, ← al_103 h]
  try rfl
set_option maxRecDepth 8192 in
theorem al_105 (h : Holds V0 s j) : (constant S_ .f32 0x3F666666#32 : (Proc.devRef .tc main_while0b_cst_67 : DevRef τ sig).ty.Contents (Elt F)) = Cert.ReferenceIdeal.Step.b105 j s := by
  unfold Cert.ReferenceIdeal.Step.b105
  rfl
set_option maxRecDepth 8192 in
theorem al_106 (h : Holds V0 s j) : (broadcastInDim S256x256 ![] bcast_S_S256x256 (constant S_ .f32 0x3F666666#32) : (Proc.devRef .tc main_while0b_v108 : DevRef τ sig).ty.Contents (Elt F)) = Cert.ReferenceIdeal.Step.b106 j s := by
  unfold Cert.ReferenceIdeal.Step.b106
  rw [← al_105 h]
  try rfl
set_option maxRecDepth 8192 in
theorem al_107 (h : Holds V0 s j) : (mulf (broadcastInDim S256x256 ![] bcast_S_S256x256 (constant S_ .f32 0x3F666666#32)) (V0 (Proc.devRef .tc main_v26_17)) : (Proc.devRef .tc main_while0b_v109 : DevRef τ sig).ty.Contents (Elt F)) = Cert.ReferenceIdeal.Step.b107 j s := by
  unfold Cert.ReferenceIdeal.Step.b107
  rw [← al_106 h, h.f_17]
  try rfl
set_option maxRecDepth 8192 in
theorem al_108 (h : Holds V0 s j) : (res_main_while0b_v110 V0 : (Proc.devRef .tc main_while0b_v110 : DevRef τ sig).ty.Contents (Elt F)) = Cert.ReferenceIdeal.Step.b108 j s := by
  unfold res_main_while0b_v110 Cert.ReferenceIdeal.Step.b108
  rw [← al_107 h, ← al_104 h]
  try rfl
set_option maxRecDepth 8192 in
theorem al_109 (h : Holds V0 s j) : (constant S_ .f32 0x3F666666#32 : (Proc.devRef .tc main_while0b_cst_68 : DevRef τ sig).ty.Contents (Elt F)) = Cert.ReferenceIdeal.Step.b109 j s := by
  unfold Cert.ReferenceIdeal.Step.b109
  rfl
set_option maxRecDepth 8192 in
theorem al_110 (h : Holds V0 s j) : (broadcastInDim S256x256 ![] bcast_S_S256x256 (constant S_ .f32 0x3F666666#32) : (Proc.devRef .tc main_while0b_v111 : DevRef τ sig).ty.Contents (Elt F)) = Cert.ReferenceIdeal.Step.b110 j s := by
  unfold Cert.ReferenceIdeal.Step.b110
  rw [← al_109 h]
  try rfl
set_option maxRecDepth 8192 in
theorem al_111 (h : Holds V0 s j) : (mulf (broadcastInDim S256x256 ![] bcast_S_S256x256 (constant S_ .f32 0x3F666666#32)) (V0 (Proc.devRef .tc main_v26_18)) : (Proc.devRef .tc main_while0b_v112 : DevRef τ sig).ty.Contents (Elt F)) = Cert.ReferenceIdeal.Step.b111 j s := by
  unfold Cert.ReferenceIdeal.Step.b111
  rw [← al_110 h, h.f_18]
  try rfl
set_option maxRecDepth 8192 in
theorem al_112 (h : Holds V0 s j) : (constant S_ .f32 0x3F800000#32 : (Proc.devRef .tc main_while0b_cst_69 : DevRef τ sig).ty.Contents (Elt F)) = Cert.ReferenceIdeal.Step.b112 j s := by
  unfold Cert.ReferenceIdeal.Step.b112
  rfl
set_option maxRecDepth 8192 in
theorem al_113 (h : Holds V0 s j) : (broadcastInDim S256x256 ![] bcast_S_S256x256 (constant S_ .f32 0x3F800000#32) : (Proc.devRef .tc main_while0b_v113 : DevRef τ sig).ty.Contents (Elt F)) = Cert.ReferenceIdeal.Step.b113 j s := by
  unfold Cert.ReferenceIdeal.Step.b113
  rw [← al_112 h]
  try rfl
set_option maxRecDepth 8192 in
theorem al_114 (h : Holds V0 s j) : (subf (broadcastInDim S256x256 ![] bcast_S_S256x256 (constant S_ .f32 0x3F800000#32)) (V0 (Proc.devRef .tc main_v26_19)) : (Proc.devRef .tc main_while0b_v114 : DevRef τ sig).ty.Contents (Elt F)) = Cert.ReferenceIdeal.Step.b114 j s := by
  unfold Cert.ReferenceIdeal.Step.b114
  rw [← al_113 h, h.f_19]
  try rfl
set_option maxRecDepth 8192 in
theorem al_115 (h : Holds V0 s j) : (mulf (mulf (broadcastInDim S256x256 ![] bcast_S_S256x256 (constant S_ .f32 0x3F666666#32)) (V0 (Proc.devRef .tc main_v26_18))) (subf (broadcastInDim S256x256 ![] bcast_S_S256x256 (constant S_ .f32 0x3F800000#32)) (V0 (Proc.devRef .tc main_v26_19))) : (Proc.devRef .tc main_while0b_v115 : DevRef τ sig).ty.Contents (Elt F)) = Cert.ReferenceIdeal.Step.b115 j s := by
  unfold Cert.ReferenceIdeal.Step.b115
  rw [← al_111 h, ← al_114 h]
  try rfl
set_option maxRecDepth 8192 in
theorem al_116 (h : Holds V0 s j) : (res_main_while0b_v116 V0 : (Proc.devRef .tc main_while0b_v116 : DevRef τ sig).ty.Contents (Elt F)) = Cert.ReferenceIdeal.Step.b116 j s := by
  unfold res_main_while0b_v116 Cert.ReferenceIdeal.Step.b116
  rw [← al_115 h, ← al_108 h]
  try rfl
set_option maxRecDepth 8192 in
theorem al_117 (h : Holds V0 s j) : (constant S_ .f32 0x3F800000#32 : (Proc.devRef .tc main_while0b_cst_70 : DevRef τ sig).ty.Contents (Elt F)) = Cert.ReferenceIdeal.Step.b117 j s := by
  unfold Cert.ReferenceIdeal.Step.b117
  rfl
set_option maxRecDepth 8192 in
theorem al_118 (h : Holds V0 s j) : (broadcastInDim S256x256 ![] bcast_S_S256x256 (constant S_ .f32 0x3F800000#32) : (Proc.devRef .tc main_while0b_v117 : DevRef τ sig).ty.Contents (Elt F)) = Cert.ReferenceIdeal.Step.b118 j s := by
  unfold Cert.ReferenceIdeal.Step.b118
  rw [← al_117 h]
  try rfl
set_option maxRecDepth 8192 in
theorem al_119 (h : Holds V0 s j) : (subf (res_main_while0b_v116 V0) (broadcastInDim S256x256 ![] bcast_S_S256x256 (constant S_ .f32 0x3F800000#32)) : (Proc.devRef .tc main_while0b_v118 : DevRef τ sig).ty.Contents (Elt F)) = Cert.ReferenceIdeal.Step.b119 j s := by
  unfold Cert.ReferenceIdeal.Step.b119
  rw [← al_116 h, ← al_118 h]
  try rfl
set_option maxRecDepth 8192 in
theorem al_120 (h : Holds V0 s j) : (constant S_ .f32 0x41200000#32 : (Proc.devRef .tc main_while0b_cst_71 : DevRef τ sig).ty.Contents (Elt F)) = Cert.ReferenceIdeal.Step.b120 j s := by
  unfold Cert.ReferenceIdeal.Step.b120
  rfl
set_option maxRecDepth 8192 in
theorem al_121 (h : Holds V0 s j) : (broadcastInDim S256x256 ![] bcast_S_S256x256 (constant S_ .f32 0x41200000#32) : (Proc.devRef .tc main_while0b_v119 : DevRef τ sig).ty.Contents (Elt F)) = Cert.ReferenceIdeal.Step.b121 j s := by
  unfold Cert.ReferenceIdeal.Step.b121
  rw [← al_120 h]
  try rfl
set_option maxRecDepth 8192 in
theorem al_122 (h : Holds V0 s j) : (mulf (broadcastInDim S256x256 ![] bcast_S_S256x256 (constant S_ .f32 0x41200000#32)) (subf (res_main_while0b_v116 V0) (broadcastInDim S256x256 ![] bcast_S_S256x256 (constant S_ .f32 0x3F800000#32))) : (Proc.devRef .tc main_while0b_v120 : DevRef τ sig).ty.Contents (Elt F)) = Cert.ReferenceIdeal.Step.b122 j s := by
  unfold Cert.ReferenceIdeal.Step.b122
  rw [← al_121 h, ← al_119 h]
  try rfl
set_option maxRecDepth 8192 in
theorem al_123 (h : Holds V0 s j) : (Host.negf (mulf (broadcastInDim S256x256 ![] bcast_S_S256x256 (constant S_ .f32 0x41200000#32)) (subf (res_main_while0b_v116 V0) (broadcastInDim S256x256 ![] bcast_S_S256x256 (constant S_ .f32 0x3F800000#32)))) : (Proc.devRef .tc main_while0b_v121 : DevRef τ sig).ty.Contents (Elt F)) = Cert.ReferenceIdeal.Step.b123 j s := by
  unfold Cert.ReferenceIdeal.Step.b123
  rw [← al_122 h]
  try rfl
set_option maxRecDepth 8192 in
theorem al_124 (h : Holds V0 s j) : (Host.exp (Host.negf (mulf (broadcastInDim S256x256 ![] bcast_S_S256x256 (constant S_ .f32 0x41200000#32)) (subf (res_main_while0b_v116 V0) (broadcastInDim S256x256 ![] bcast_S_S256x256 (constant S_ .f32 0x3F800000#32))))) : (Proc.devRef .tc main_while0b_v122 : DevRef τ sig).ty.Contents (Elt F)) = Cert.ReferenceIdeal.Step.b124 j s := by
  unfold Cert.ReferenceIdeal.Step.b124
  rw [← al_123 h]
  try rfl
set_option maxRecDepth 8192 in
theorem al_125 (h : Holds V0 s j) : (constant S_ .f32 0x3F800000#32 : (Proc.devRef .tc main_while0b_cst_72 : DevRef τ sig).ty.Contents (Elt F)) = Cert.ReferenceIdeal.Step.b125 j s := by
  unfold Cert.ReferenceIdeal.Step.b125
  rfl
set_option maxRecDepth 8192 in
theorem al_126 (h : Holds V0 s j) : (broadcastInDim S256x256 ![] bcast_S_S256x256 (constant S_ .f32 0x3F800000#32) : (Proc.devRef .tc main_while0b_v123 : DevRef τ sig).ty.Contents (Elt F)) = Cert.ReferenceIdeal.Step.b126 j s := by
  unfold Cert.ReferenceIdeal.Step.b126
  rw [← al_125 h]
  try rfl
set_option maxRecDepth 8192 in
theorem al_127 (h : Holds V0 s j) : (addf (broadcastInDim S256x256 ![] bcast_S_S256x256 (constant S_ .f32 0x3F800000#32)) (Host.exp (Host.negf (mulf (broadcastInDim S256x256 ![] bcast_S_S256x256 (constant S_ .f32 0x41200000#32)) (subf (res_main_while0b_v116 V0) (broadcastInDim S256x256 ![] bcast_S_S256x256 (constant S_ .f32 0x3F800000#32)))))) : (Proc.devRef .tc main_while0b_v124 : DevRef τ sig).ty.Contents (Elt F)) = Cert.ReferenceIdeal.Step.b127 j s := by
  unfold Cert.ReferenceIdeal.Step.b127
  rw [← al_126 h, ← al_124 h]
  try rfl
set_option maxRecDepth 8192 in
theorem al_128 (h : Holds V0 s j) : (constant S_ .f32 0x3F800000#32 : (Proc.devRef .tc main_while0b_cst_73 : DevRef τ sig).ty.Contents (Elt F)) = Cert.ReferenceIdeal.Step.b128 j s := by
  unfold Cert.ReferenceIdeal.Step.b128
  rfl
set_option maxRecDepth 8192 in
theorem al_129 (h : Holds V0 s j) : (broadcastInDim S256x256 ![] bcast_S_S256x256 (constant S_ .f32 0x3F800000#32) : (Proc.devRef .tc main_while0b_v125 : DevRef τ sig).ty.Contents (Elt F)) = Cert.ReferenceIdeal.Step.b129 j s := by
  unfold Cert.ReferenceIdeal.Step.b129
  rw [← al_128 h]
  try rfl
set_option maxRecDepth 8192 in
theorem al_130 (h : Holds V0 s j) : (res_main_while0b_v126 V0 : (Proc.devRef .tc main_while0b_v126 : DevRef τ sig).ty.Contents (Elt F)) = Cert.ReferenceIdeal.Step.b130 j s := by
  unfold res_main_while0b_v126 Cert.ReferenceIdeal.Step.b130
  rw [← al_129 h, ← al_127 h]
  try rfl
set_option maxRecDepth 8192 in
theorem al_131 (h : Holds V0 s j) : (Host.dotGeneral dot_S256x256x256_S256x256_S256x256_2_1_1_n_0_0 none (res_main_while0b_v105 V0) (res_main_while0b_v126 V0) : (Proc.devRef .tc main_while0b_v127 : DevRef τ sig).ty.Contents (Elt F)) = Cert.ReferenceIdeal.Step.b131 j s := by
  unfold Cert.ReferenceIdeal.Step.b131
  rw [← al_102 h, ← al_130 h]
  try rfl
set_option maxRecDepth 8192 in
theorem al_132 (h : Holds V0 s j) : (constant S_ .f32 0x3F666666#32 : (Proc.devRef .tc main_while0b_cst_74 : DevRef τ sig).ty.Contents (Elt F)) = Cert.ReferenceIdeal.Step.b132 j s := by
  unfold Cert.ReferenceIdeal.Step.b132
  rfl
set_option maxRecDepth 8192 in
theorem al_133 (h : Holds V0 s j) : (broadcastInDim S256x256 ![] bcast_S_S256x256 (constant S_ .f32 0x3F666666#32) : (Proc.devRef .tc main_while0b_v128 : DevRef τ sig).ty.Contents (Elt F)) = Cert.ReferenceIdeal.Step.b133 j s := by
  unfold Cert.ReferenceIdeal.Step.b133
  rw [← al_132 h]
  try rfl
set_option maxRecDepth 8192 in
theorem al_134 (h : Holds V0 s j) : (mulf (broadcastInDim S256x256 ![] bcast_S_S256x256 (constant S_ .f32 0x3F666666#32)) (V0 (Proc.devRef .tc main_v26_20)) : (Proc.devRef .tc main_while0b_v129 : DevRef τ sig).ty.Contents (Elt F)) = Cert.ReferenceIdeal.Step.b134 j s := by
  unfold Cert.ReferenceIdeal.Step.b134
  rw [← al_133 h, h.f_20]
  try rfl
set_option maxRecDepth 8192 in
theorem al_135 (h : Holds V0 s j) : (res_main_while0b_v130 V0 : (Proc.devRef .tc main_while0b_v130 : DevRef τ sig).ty.Contents (Elt F)) = Cert.ReferenceIdeal.Step.b135 j s := by
  unfold res_main_while0b_v130 Cert.ReferenceIdeal.Step.b135
  rw [← al_134 h, ← al_131 h]
  try rfl
set_option maxRecDepth 8192 in
theorem al_136 (h : Holds V0 s j) : (constant S_ .f32 0x3F666666#32 : (Proc.devRef .tc main_while0b_cst_75 : DevRef τ sig).ty.Contents (Elt F)) = Cert.ReferenceIdeal.Step.b136 j s := by
  unfold Cert.ReferenceIdeal.Step.b136
  rfl
set_option maxRecDepth 8192 in
theorem al_137 (h : Holds V0 s j) : (broadcastInDim S256x256 ![] bcast_S_S256x256 (constant S_ .f32 0x3F666666#32) : (Proc.devRef .tc main_while0b_v131 : DevRef τ sig).ty.Contents (Elt F)) = Cert.ReferenceIdeal.Step.b137 j s := by
  unfold Cert.ReferenceIdeal.Step.b137
  rw [← al_136 h]
  try rfl
set_option maxRecDepth 8192 in
theorem al_138 (h : Holds V0 s j) : (mulf (broadcastInDim S256x256 ![] bcast_S_S256x256 (constant S_ .f32 0x3F666666#32)) (V0 (Proc.devRef .tc main_v26_21)) : (Proc.devRef .tc main_while0b_v132 : DevRef τ sig).ty.Contents (Elt F)) = Cert.ReferenceIdeal.Step.b138 j s := by
  unfold Cert.ReferenceIdeal.Step.b138
  rw [← al_137 h, h.f_21]
  try rfl
set_option maxRecDepth 8192 in
theorem al_139 (h : Holds V0 s j) : (constant S_ .f32 0x3F800000#32 : (Proc.devRef .tc main_while0b_cst_76 : DevRef τ sig).ty.Contents (Elt F)) = Cert.ReferenceIdeal.Step.b139 j s := by
  unfold Cert.ReferenceIdeal.Step.b139
  rfl
set_option maxRecDepth 8192 in
theorem al_140 (h : Holds V0 s j) : (broadcastInDim S256x256 ![] bcast_S_S256x256 (constant S_ .f32 0x3F800000#32) : (Proc.devRef .tc main_while0b_v133 : DevRef τ sig).ty.Contents (Elt F)) = Cert.ReferenceIdeal.Step.b140 j s := by
  unfold Cert.ReferenceIdeal.Step.b140
  rw [← al_139 h]
  try rfl
set_option maxRecDepth 8192 in
theorem al_141 (h : Holds V0 s j) : (subf (broadcastInDim S256x256 ![] bcast_S_S256x256 (constant S_ .f32 0x3F800000#32)) (V0 (Proc.devRef .tc main_v26_22)) : (Proc.devRef .tc main_while0b_v134 : DevRef τ sig).ty.Contents (Elt F)) = Cert.ReferenceIdeal.Step.b141 j s := by
  unfold Cert.ReferenceIdeal.Step.b141
  rw [← al_140 h, h.f_22]
  try rfl
set_option maxRecDepth 8192 in
theorem al_142 (h : Holds V0 s j) : (mulf (mulf (broadcastInDim S256x256 ![] bcast_S_S256x256 (constant S_ .f32 0x3F666666#32)) (V0 (Proc.devRef .tc main_v26_21))) (subf (broadcastInDim S256x256 ![] bcast_S_S256x256 (constant S_ .f32 0x3F800000#32)) (V0 (Proc.devRef .tc main_v26_22))) : (Proc.devRef .tc main_while0b_v135 : DevRef τ sig).ty.Contents (Elt F)) = Cert.ReferenceIdeal.Step.b142 j s := by
  unfold Cert.ReferenceIdeal.Step.b142
  rw [← al_138 h, ← al_141 h]
  try rfl
set_option maxRecDepth 8192 in
theorem al_143 (h : Holds V0 s j) : (res_main_while0b_v136 V0 : (Proc.devRef .tc main_while0b_v136 : DevRef τ sig).ty.Contents (Elt F)) = Cert.ReferenceIdeal.Step.b143 j s := by
  unfold res_main_while0b_v136 Cert.ReferenceIdeal.Step.b143
  rw [← al_142 h, ← al_135 h]
  try rfl
set_option maxRecDepth 8192 in
theorem al_144 (h : Holds V0 s j) : (constant S_ .f32 0x3F800000#32 : (Proc.devRef .tc main_while0b_cst_77 : DevRef τ sig).ty.Contents (Elt F)) = Cert.ReferenceIdeal.Step.b144 j s := by
  unfold Cert.ReferenceIdeal.Step.b144
  rfl
set_option maxRecDepth 8192 in
theorem al_145 (h : Holds V0 s j) : (broadcastInDim S256x256 ![] bcast_S_S256x256 (constant S_ .f32 0x3F800000#32) : (Proc.devRef .tc main_while0b_v137 : DevRef τ sig).ty.Contents (Elt F)) = Cert.ReferenceIdeal.Step.b145 j s := by
  unfold Cert.ReferenceIdeal.Step.b145
  rw [← al_144 h]
  try rfl
set_option maxRecDepth 8192 in
theorem al_146 (h : Holds V0 s j) : (subf (res_main_while0b_v136 V0) (broadcastInDim S256x256 ![] bcast_S_S256x256 (constant S_ .f32 0x3F800000#32)) : (Proc.devRef .tc main_while0b_v138 : DevRef τ sig).ty.Contents (Elt F)) = Cert.ReferenceIdeal.Step.b146 j s := by
  unfold Cert.ReferenceIdeal.Step.b146
  rw [← al_143 h, ← al_145 h]
  try rfl
set_option maxRecDepth 8192 in
theorem al_147 (h : Holds V0 s j) : (constant S_ .f32 0x41200000#32 : (Proc.devRef .tc main_while0b_cst_78 : DevRef τ sig).ty.Contents (Elt F)) = Cert.ReferenceIdeal.Step.b147 j s := by
  unfold Cert.ReferenceIdeal.Step.b147
  rfl
set_option maxRecDepth 8192 in
theorem al_148 (h : Holds V0 s j) : (broadcastInDim S256x256 ![] bcast_S_S256x256 (constant S_ .f32 0x41200000#32) : (Proc.devRef .tc main_while0b_v139 : DevRef τ sig).ty.Contents (Elt F)) = Cert.ReferenceIdeal.Step.b148 j s := by
  unfold Cert.ReferenceIdeal.Step.b148
  rw [← al_147 h]
  try rfl
set_option maxRecDepth 8192 in
theorem al_149 (h : Holds V0 s j) : (mulf (broadcastInDim S256x256 ![] bcast_S_S256x256 (constant S_ .f32 0x41200000#32)) (subf (res_main_while0b_v136 V0) (broadcastInDim S256x256 ![] bcast_S_S256x256 (constant S_ .f32 0x3F800000#32))) : (Proc.devRef .tc main_while0b_v140 : DevRef τ sig).ty.Contents (Elt F)) = Cert.ReferenceIdeal.Step.b149 j s := by
  unfold Cert.ReferenceIdeal.Step.b149
  rw [← al_148 h, ← al_146 h]
  try rfl
set_option maxRecDepth 8192 in
theorem al_150 (h : Holds V0 s j) : (Host.negf (mulf (broadcastInDim S256x256 ![] bcast_S_S256x256 (constant S_ .f32 0x41200000#32)) (subf (res_main_while0b_v136 V0) (broadcastInDim S256x256 ![] bcast_S_S256x256 (constant S_ .f32 0x3F800000#32)))) : (Proc.devRef .tc main_while0b_v141 : DevRef τ sig).ty.Contents (Elt F)) = Cert.ReferenceIdeal.Step.b150 j s := by
  unfold Cert.ReferenceIdeal.Step.b150
  rw [← al_149 h]
  try rfl
set_option maxRecDepth 8192 in
theorem al_151 (h : Holds V0 s j) : (Host.exp (Host.negf (mulf (broadcastInDim S256x256 ![] bcast_S_S256x256 (constant S_ .f32 0x41200000#32)) (subf (res_main_while0b_v136 V0) (broadcastInDim S256x256 ![] bcast_S_S256x256 (constant S_ .f32 0x3F800000#32))))) : (Proc.devRef .tc main_while0b_v142 : DevRef τ sig).ty.Contents (Elt F)) = Cert.ReferenceIdeal.Step.b151 j s := by
  unfold Cert.ReferenceIdeal.Step.b151
  rw [← al_150 h]
  try rfl
set_option maxRecDepth 8192 in
theorem al_152 (h : Holds V0 s j) : (constant S_ .f32 0x3F800000#32 : (Proc.devRef .tc main_while0b_cst_79 : DevRef τ sig).ty.Contents (Elt F)) = Cert.ReferenceIdeal.Step.b152 j s := by
  unfold Cert.ReferenceIdeal.Step.b152
  rfl
set_option maxRecDepth 8192 in
theorem al_153 (h : Holds V0 s j) : (broadcastInDim S256x256 ![] bcast_S_S256x256 (constant S_ .f32 0x3F800000#32) : (Proc.devRef .tc main_while0b_v143 : DevRef τ sig).ty.Contents (Elt F)) = Cert.ReferenceIdeal.Step.b153 j s := by
  unfold Cert.ReferenceIdeal.Step.b153
  rw [← al_152 h]
  try rfl
set_option maxRecDepth 8192 in
theorem al_154 (h : Holds V0 s j) : (addf (broadcastInDim S256x256 ![] bcast_S_S256x256 (constant S_ .f32 0x3F800000#32)) (Host.exp (Host.negf (mulf (broadcastInDim S256x256 ![] bcast_S_S256x256 (constant S_ .f32 0x41200000#32)) (subf (res_main_while0b_v136 V0) (broadcastInDim S256x256 ![] bcast_S_S256x256 (constant S_ .f32 0x3F800000#32)))))) : (Proc.devRef .tc main_while0b_v144 : DevRef τ sig).ty.Contents (Elt F)) = Cert.ReferenceIdeal.Step.b154 j s := by
  unfold Cert.ReferenceIdeal.Step.b154
  rw [← al_153 h, ← al_151 h]
  try rfl
set_option maxRecDepth 8192 in
theorem al_155 (h : Holds V0 s j) : (constant S_ .f32 0x3F800000#32 : (Proc.devRef .tc main_while0b_cst_80 : DevRef τ sig).ty.Contents (Elt F)) = Cert.ReferenceIdeal.Step.b155 j s := by
  unfold Cert.ReferenceIdeal.Step.b155
  rfl
set_option maxRecDepth 8192 in
theorem al_156 (h : Holds V0 s j) : (broadcastInDim S256x256 ![] bcast_S_S256x256 (constant S_ .f32 0x3F800000#32) : (Proc.devRef .tc main_while0b_v145 : DevRef τ sig).ty.Contents (Elt F)) = Cert.ReferenceIdeal.Step.b156 j s := by
  unfold Cert.ReferenceIdeal.Step.b156
  rw [← al_155 h]
  try rfl
set_option maxRecDepth 8192 in
theorem al_157 (h : Holds V0 s j) : (res_main_while0b_v146 V0 : (Proc.devRef .tc main_while0b_v146 : DevRef τ sig).ty.Contents (Elt F)) = Cert.ReferenceIdeal.Step.b157 j s := by
  unfold res_main_while0b_v146 Cert.ReferenceIdeal.Step.b157
  rw [← al_156 h, ← al_154 h]
  try rfl
set_option maxRecDepth 8192 in
theorem al_158 (h : Holds V0 s j) : (broadcastInDim S1x256x256 ![1, 2] bcast_S256x256_S1x256x256_1_2 (V0 (Proc.devRef .tc main_v26_23)) : (Proc.devRef .tc main_while0b_call1_v0 : DevRef τ sig).ty.Contents (Elt F)) = Cert.ReferenceIdeal.Step.b158 j s := by
  unfold Cert.ReferenceIdeal.Step.b158
  rw [h.f_23]
  try rfl
set_option maxRecDepth 8192 in
theorem al_159 (h : Holds V0 s j) : (constantI S_ 32 0#32 : (Proc.devRef .tc main_while0b_call1_c : DevRef τ sig).ty.Contents (Elt F)) = Cert.ReferenceIdeal.Step.b159 j s := by
  unfold Cert.ReferenceIdeal.Step.b159
  rfl
set_option maxRecDepth 8192 in
theorem al_160 (h : Holds V0 s j) : (constantI S_ 32 0#32 : (Proc.devRef .tc main_while0b_call1_c_0 : DevRef τ sig).ty.Contents (Elt F)) = Cert.ReferenceIdeal.Step.b160 j s := by
  unfold Cert.ReferenceIdeal.Step.b160
  rfl
set_option maxRecDepth 8192 in
theorem al_161 (h : Holds V0 s j) : (Host.dynamicUpdateSlice (V0 (Proc.devRef .tc main_v26_24)) (broadcastInDim S1x256x256 ![1, 2] bcast_S256x256_S1x256x256_1_2 (V0 (Proc.devRef .tc main_v26_23))) (fun k => (((![V0 (Proc.devRef .tc main_v26_4), constantI S_ 32 0#32, constantI S_ 32 0#32] : Fin 3 → (⟨S_, .i32⟩ : BufTy).Contents (Elt F))) k (Shape.Idx.first h_S_)).toInt) updateFits_S2500x256x256_S1x256x256 : (Proc.devRef .tc main_while0b_v147 : DevRef τ sig).ty.Contents (Elt F)) = Cert.ReferenceIdeal.Step.b161 j s := by
  unfold Cert.ReferenceIdeal.Step.b161
  rw [← al_158 h, ← al_159 h, ← al_160 h, h.f_24, h.n_4]
  try rfl

/-! One trip's step of the carried values is `step`, field by field; a counter steps to the next number. -/

theorem step_5 (h : Holds V0 s j) : step_main_v26_5 V0 = (step j s).main_v26_5 := by
  unfold step_main_v26_5 Cert.ReferenceIdeal.Step.step
  show id (res_main_while0b_v105 V0) = _
  rw [al_102 h]
  try rfl
theorem step_6 (h : Holds V0 s j) : step_main_v26_6 V0 = (step j s).main_v26_6 := by
  unfold step_main_v26_6 Cert.ReferenceIdeal.Step.step
  show id (res_main_while0b_v33 V0) = _
  rw [al_7 h]
  try rfl
theorem step_7 (h : Holds V0 s j) : step_main_v26_7 V0 = (step j s).main_v26_7 := by
  unfold step_main_v26_7 Cert.ReferenceIdeal.Step.step
  show id (res_main_while0b_v39 V0) = _
  rw [al_15 h]
  try rfl
theorem step_8 (h : Holds V0 s j) : step_main_v26_8 V0 = (step j s).main_v26_8 := by
  unfold step_main_v26_8 Cert.ReferenceIdeal.Step.step
  show id (res_main_while0b_v49 V0) = _
  rw [al_29 h]
  try rfl
theorem step_9 (h : Holds V0 s j) : step_main_v26_9 V0 = (step j s).main_v26_9 := by
  unfold step_main_v26_9 Cert.ReferenceIdeal.Step.step
  show id (res_main_while0b_v54 V0) = _
  rw [al_35 h]
  try rfl
theorem step_10 (h : Holds V0 s j) : step_main_v26_10 V0 = (step j s).main_v26_10 := by
  unfold step_main_v26_10 Cert.ReferenceIdeal.Step.step
  show id (res_main_while0b_v60 V0) = _
  rw [al_43 h]
  try rfl
theorem step_11 (h : Holds V0 s j) : step_main_v26_11 V0 = (step j s).main_v26_11 := by
  unfold step_main_v26_11 Cert.ReferenceIdeal.Step.step
  show id (res_main_while0b_v70 V0) = _
  rw [al_57 h]
  try rfl
theorem step_12 (h : Holds V0 s j) : step_main_v26_12 V0 = (step j s).main_v26_12 := by
  unfold step_main_v26_12 Cert.ReferenceIdeal.Step.step
  show id (res_main_while0b_v75 V0) = _
  rw [al_63 h]
  try rfl
theorem step_13 (h : Holds V0 s j) : step_main_v26_13 V0 = (step j s).main_v26_13 := by
  unfold step_main_v26_13 Cert.ReferenceIdeal.Step.step
  show id (res_main_while0b_v81 V0) = _
  rw [al_71 h]
  try rfl
theorem step_14 (h : Holds V0 s j) : step_main_v26_14 V0 = (step j s).main_v26_14 := by
  unfold step_main_v26_14 Cert.ReferenceIdeal.Step.step
  show id (res_main_while0b_v91 V0) = _
  rw [al_85 h]
  try rfl
theorem step_15 (h : Holds V0 s j) : step_main_v26_15 V0 = (step j s).main_v26_15 := by
  unfold step_main_v26_15 Cert.ReferenceIdeal.Step.step
  show id (res_main_while0b_v94 V0) = _
  rw [al_89 h]
  try rfl
theorem step_16 (h : Holds V0 s j) : step_main_v26_16 V0 = (step j s).main_v26_16 := by
  unfold step_main_v26_16 Cert.ReferenceIdeal.Step.step
  show id (addf (mulf (broadcastInDim S256x256 ![] bcast_S_S256x256 (constant S_ .f32 0x3F7383C6#32)) (V0 (Proc.devRef .tc main_v26_16))) (res_main_while0b_v91 V0)) = _
  rw [al_93 h]
  try rfl
theorem step_17 (h : Holds V0 s j) : step_main_v26_17 V0 = (step j s).main_v26_17 := by
  unfold step_main_v26_17 Cert.ReferenceIdeal.Step.step
  show id (res_main_while0b_v110 V0) = _
  rw [al_108 h]
  try rfl
theorem step_18 (h : Holds V0 s j) : step_main_v26_18 V0 = (step j s).main_v26_18 := by
  unfold step_main_v26_18 Cert.ReferenceIdeal.Step.step
  show id (res_main_while0b_v116 V0) = _
  rw [al_116 h]
  try rfl
theorem step_19 (h : Holds V0 s j) : step_main_v26_19 V0 = (step j s).main_v26_19 := by
  unfold step_main_v26_19 Cert.ReferenceIdeal.Step.step
  show id (res_main_while0b_v126 V0) = _
  rw [al_130 h]
  try rfl
theorem step_20 (h : Holds V0 s j) : step_main_v26_20 V0 = (step j s).main_v26_20 := by
  unfold step_main_v26_20 Cert.ReferenceIdeal.Step.step
  show id (res_main_while0b_v130 V0) = _
  rw [al_135 h]
  try rfl
theorem step_21 (h : Holds V0 s j) : step_main_v26_21 V0 = (step j s).main_v26_21 := by
  unfold step_main_v26_21 Cert.ReferenceIdeal.Step.step
  show id (res_main_while0b_v136 V0) = _
  rw [al_143 h]
  try rfl
theorem step_22 (h : Holds V0 s j) : step_main_v26_22 V0 = (step j s).main_v26_22 := by
  unfold step_main_v26_22 Cert.ReferenceIdeal.Step.step
  show id (res_main_while0b_v146 V0) = _
  rw [al_157 h]
  try rfl
theorem step_23 (h : Holds V0 s j) : step_main_v26_23 V0 = (step j s).main_v26_23 := by
  unfold step_main_v26_23 Cert.ReferenceIdeal.Step.step
  show id (res_main_while0b_v146 V0) = _
  rw [al_157 h]
  try rfl
theorem step_24 (h : Holds V0 s j) : step_main_v26_24 V0 = (step j s).main_v26_24 := by
  unfold step_main_v26_24 Cert.ReferenceIdeal.Step.step
  show id (Host.dynamicUpdateSlice (V0 (Proc.devRef .tc main_v26_24)) (broadcastInDim S1x256x256 ![1, 2] bcast_S256x256_S1x256x256_1_2 (V0 (Proc.devRef .tc main_v26_23))) (fun k => (((![V0 (Proc.devRef .tc main_v26_4), constantI S_ 32 0#32, constantI S_ 32 0#32] : Fin 3 → (⟨S_, .i32⟩ : BufTy).Contents (Elt F))) k (Shape.Idx.first h_S_)).toInt) updateFits_S2500x256x256_S1x256x256) = _
  exact al_161 h
theorem step_4 (h : Holds V0 s j) : step_main_v26_4 V0 = constantI S_ 32 (BitVec.ofNat 32 (j + 1)) := by
  unfold step_main_v26_4
  rw [h.n_4]
  funext i
  show BitVec.ofNat 32 j + 1#32 = BitVec.ofNat 32 (j + 1)
  simp only [BitVec.ofNat_add]

set_option maxRecDepth 8192 in
theorem out_main_v29_holds (h : Holds V0 s j) : out_main_v29 V0 = Cert.ReferenceIdeal.Step.R_main_v29 s := by
  unfold out_main_v29 Cert.ReferenceIdeal.Step.R_main_v29
  rw [h.f_24]
  try rfl

/-- One trip keeps the valuation holding: `step` of the state, the same set-up values, the next number. -/
theorem holds_step (h : Holds V0 s j) : Holds (STEP V0) (step j s) (j + 1) where
  f_5 := (STEP_main_v26_5 V0).trans (step_5 h)
  f_6 := (STEP_main_v26_6 V0).trans (step_6 h)
  f_7 := (STEP_main_v26_7 V0).trans (step_7 h)
  f_8 := (STEP_main_v26_8 V0).trans (step_8 h)
  f_9 := (STEP_main_v26_9 V0).trans (step_9 h)
  f_10 := (STEP_main_v26_10 V0).trans (step_10 h)
  f_11 := (STEP_main_v26_11 V0).trans (step_11 h)
  f_12 := (STEP_main_v26_12 V0).trans (step_12 h)
  f_13 := (STEP_main_v26_13 V0).trans (step_13 h)
  f_14 := (STEP_main_v26_14 V0).trans (step_14 h)
  f_15 := (STEP_main_v26_15 V0).trans (step_15 h)
  f_16 := (STEP_main_v26_16 V0).trans (step_16 h)
  f_17 := (STEP_main_v26_17 V0).trans (step_17 h)
  f_18 := (STEP_main_v26_18 V0).trans (step_18 h)
  f_19 := (STEP_main_v26_19 V0).trans (step_19 h)
  f_20 := (STEP_main_v26_20 V0).trans (step_20 h)
  f_21 := (STEP_main_v26_21 V0).trans (step_21 h)
  f_22 := (STEP_main_v26_22 V0).trans (step_22 h)
  f_23 := (STEP_main_v26_23 V0).trans (step_23 h)
  f_24 := (STEP_main_v26_24 V0).trans (step_24 h)
  n_4 := (STEP_main_v26_4 V0).trans (step_4 h)
  f_0 := (STEP_main_v26_0 V0).trans h.f_0
  f_1 := (STEP_main_v26_1 V0).trans h.f_1
  f_2 := (STEP_main_v26_2 V0).trans h.f_2
  f_3 := (STEP_main_v26_3 V0).trans h.f_3

/-- The state the first trip starts from, of the memory the run starts from. -/
abbrev initState (m : (ℓ : Loc nD τ sig) → Buf (Elt F) ℓ) (c : Dev nD) : State F :=
  init (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg0)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 1000000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2500 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v29) = Cert.ReferenceIdeal.Step.R_main_v29 (it c 2500)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 2500
    ⟨(h c).1.trans (out_main_v29_holds hk), (h c).2.1, (h c).2.2.1, (h c).2.2.2.1, (h c).2.2.2.2.1, (h c).2.2.2.2.2.1, (h c).2.2.2.2.2.2.1, (h c).2.2.2.2.2.2.2⟩) (Value.run m ρ)

end Cert.ReferenceIdeal.StepRun

end
-- ==== Proof.KI.ChainDefs.lean ====
module

public import proofs.«01_k».proof.Proof.Gen.KernelIdeal.Skeleton
public import proofs.«01_k».proof.Proof.Gen.KernelIdeal.Loops
public import Idealize.ShloMosaic.Lib.VecWindow
public import Idealize.ShloMosaic.Lib.Pipeline.FrameBody

@[expose] public section

set_option maxRecDepth 16384

noncomputable section

/-! What one grid point of the first call computes, as functions of its blocks and of the carried scratch. -/

namespace Cert.KernelIdeal.Hand

open Cert.KernelIdeal Cert.KernelIdeal.Gen
open Idealize.ShloMosaic Idealize.ShloMosaic.TcCoe

variable {F : FTy → Type} [FloatOps F]

/-- The encoder's state: current, voltage, last tanh. -/
abbrev St80 (F : FTy → Type) [FloatOps F] := FVec F S64x80 .f32 × FVec F S64x80 .f32 × FVec F S64x80 .f32
/-- One chain's state. -/
abbrev St256 (F : FTy → Type) [FloatOps F] := FVec F S64x256 .f32 × FVec F S64x256 .f32 × FVec F S64x256 .f32
/-- The first chain's state: it carries its trace too. -/
abbrev StTk (F : FTy → Type) [FloatOps F] := FVec F S64x256 .f32 × FVec F S64x256 .f32 × FVec F S64x256 .f32 × Vec F S64x256 .f32

/-- The encoder's state after `k` steps. -/
def encIt (x0 : Vec F S1x64x200 .f32) (x1 : Vec F S80x200 .f32) (x2 : Vec F S80x80 .f32) (init : St80 F) : ℕ → St80 F
  | 0 => init
  | k + 1 => (k0_pay16 x0 x1 x2 (encIt x0 x1 x2 init k).1,
      k0_pay17 x0 x1 x2 (encIt x0 x1 x2 init k).1 (encIt x0 x1 x2 init k).2.1 (encIt x0 x1 x2 init k).2.2,
      k0_pay18 x0 x1 x2 (encIt x0 x1 x2 init k).1 (encIt x0 x1 x2 init k).2.1 (encIt x0 x1 x2 init k).2.2)

/-- The index of a row of the activations within its block of 64 rows. -/
abbrev inRow (y : S3200x80.Idx) : S64x80.Idx := fun a => match a with
  | ⟨0, _⟩ => (⟨(y 0).val % 64, Nat.mod_lt _ (by decide)⟩ : Fin 64)
  | ⟨1, _⟩ => ⟨(y 1).val, (y 1).isLt⟩

/-- The encoder's activations, one block of 64 rows per step. -/
def zeV (x0 : Vec F S1x64x200 .f32) (x1 : Vec F S80x200 .f32) (x2 : Vec F S80x80 .f32) (init : St80 F) : Vec F S3200x80 .f32 := fun y =>
  k0_pay19 x0 x1 x2 (encIt x0 x1 x2 init ((y 0).val / 64)).1 (encIt x0 x1 x2 init ((y 0).val / 64)).2.1 (encIt x0 x1 x2 init ((y 0).val / 64)).2.2 (inRow y)

/-- Chain `l`'s input at step `k`. -/
def xrow (X : Vec F S3200x768 .f32) (l : Fin 3) (k : Fin 50) : Vec F S64x256 .f32 :=
  VecWindow.window (s := S3200x768) X ![64 * k.val, 256 * l.val] S64x256.size (by intro a; fin_cases a <;> simp <;> omega)

/-- A chain's step. -/
def chStep (x : Vec F S64x256 .f32) (s : St256 F) : St256 F := (k0_pay3 s.1 x, k0_pay4 s.1 s.2.1 s.2.2 x, k0_pay5 s.1 s.2.1 s.2.2 x)

/-- A chain's state after `k` steps. -/
def chIt (g : Fin 50 → Vec F S64x256 .f32) (init : St256 F) : ℕ → St256 F
  | 0 => init
  | k + 1 => if h : k < 50 then chStep (g ⟨k, h⟩) (chIt g init k) else chIt g init k

/-- The first chain's trace after `k` steps. -/
def tkIt (g : Fin 50 → Vec F S64x256 .f32) (init : St256 F) (tk0 : Vec F S64x256 .f32) : ℕ → Vec F S64x256 .f32
  | 0 => tk0
  | k + 1 => if h : k < 50 then k0_pay30 (chIt g init k).1 (chIt g init k).2.1 (chIt g init k).2.2 (tkIt g init tk0 k) (g ⟨k, h⟩) else tkIt g init tk0 k

/-- The index of a row of a [50, 64, 256] block within its plane. -/
abbrev inPlane (y : S50x64x256.Idx) : S1x64x256.Idx := fun a => match a with
  | ⟨0, _⟩ => (0 : Fin 1)
  | ⟨1, _⟩ => ⟨(y 1).val, (y 1).isLt⟩
  | ⟨2, _⟩ => ⟨(y 2).val, (y 2).isLt⟩

/-- The first result's block: the trace, plane by plane. -/
def tkOut (g : Fin 50 → Vec F S64x256 .f32) (init : St256 F) (tk0 : Vec F S64x256 .f32) : Vec F S50x64x256 .bf16 := fun y =>
  k0_pay31 (chIt g init (y 0).val).1 (chIt g init (y 0).val).2.1 (chIt g init (y 0).val).2.2 (tkIt g init tk0 (y 0).val) (g (y 0)) (inPlane y)

/-- The other results' blocks: the activations, plane by plane. -/
def zOut (g : Fin 50 → Vec F S64x256 .f32) (init : St256 F) : Vec F S50x64x256 .bf16 := fun y =>
  k0_pay6 (chIt g init (y 0).val).1 (chIt g init (y 0).val).2.1 (chIt g init (y 0).val).2.2 (g (y 0)) (inPlane y)

/-- The encoder's state read from its scratch. -/
def getEnc (xe : Vec F S3x64x80 .f32) : St80 F :=
  (k0_pay13 (VecWindow.window (s := S3x64x80) xe ![0, 0, 0] S1x64x80.size (by decide)),
    k0_pay14 (VecWindow.window (s := S3x64x80) xe ![1, 0, 0] S1x64x80.size (by decide)),
    k0_pay15 (VecWindow.window (s := S3x64x80) xe ![2, 0, 0] S1x64x80.size (by decide)))

/-- The encoder's scratch with a state written into it. -/
def putEnc (xe : Vec F S3x64x80 .f32) (s : St80 F) : Vec F S3x64x80 .f32 :=
  VecWindow.put (VecWindow.put (VecWindow.put xe ![0, 0, 0] S1x64x80.size (k0_pay20 s.1)) ![1, 0, 0] S1x64x80.size (k0_pay21 s.2.1)) ![2, 0, 0] S1x64x80.size (k0_pay22 s.2.2)

/-- A chain's state read from the chains' scratch: the chain's columns begin at `o`. -/
def getCh (o : ℕ) (ho : o + 256 ≤ 768) (xc : Vec F S3x64x768 .f32) : St256 F :=
  (k0_pay46 (VecWindow.window (s := S3x64x768) xc ![0, 0, o] S1x64x256.size (by intro a; fin_cases a <;> simp <;> omega)),
    k0_pay1 (VecWindow.window (s := S3x64x768) xc ![1, 0, o] S1x64x256.size (by intro a; fin_cases a <;> simp <;> omega)),
    k0_pay2 (VecWindow.window (s := S3x64x768) xc ![2, 0, o] S1x64x256.size (by intro a; fin_cases a <;> simp <;> omega)))

/-- The chains' scratch with a chain's state written into it. -/
def putCh (o : ℕ) (xc : Vec F S3x64x768 .f32) (s : St256 F) : Vec F S3x64x768 .f32 :=
  VecWindow.put (VecWindow.put (VecWindow.put xc ![0, 0, o] S1x64x256.size (k0_pay7 s.1)) ![1, 0, o] S1x64x256.size (k0_pay8 s.2.1)) ![2, 0, o] S1x64x256.size (k0_pay9 s.2.2)

/-! ## One grid point, over what the scratch holds after the reset -/

section
variable (x0 : Vec F S1x64x200 .f32) (x1 : Vec F S80x200 .f32) (x2 : Vec F S80x80 .f32) (x3 : Vec F S768x80 .f32)
  (xe : Vec F S3x64x80 .f32) (xc : Vec F S3x64x768 .f32) (xt : Vec F S64x256 .f32)

/-- The chains' inputs. -/
def xinV : Vec F S3200x768 .f32 := k0_pay23 (zeV x0 x1 x2 (getEnc xe)) x3
/-- The encoder's scratch after the point. -/
def encN : Vec F S3x64x80 .f32 := putEnc xe (encIt x0 x1 x2 (getEnc xe) 50)
/-- A chain's state after the point. -/
def chS (l : Fin 3) (o : ℕ) (ho : o + 256 ≤ 768) : St256 F := chIt (xrow (xinV x0 x1 x2 x3 xe) l) (getCh o ho xc) 50
/-- The chains' scratch after the point. -/
def chC : Vec F S3x64x768 .f32 := putCh 512 (putCh 256 (putCh 0 xc (chS x0 x1 x2 x3 xe xc 0 0 (by decide))) (chS x0 x1 x2 x3 xe xc 1 256 (by decide))) (chS x0 x1 x2 x3 xe xc 2 512 (by decide))
/-- The trace after the point. -/
def tkN : Vec F S64x256 .f32 := k0_pay35 (tkIt (xrow (xinV x0 x1 x2 x3 xe) 0) (getCh 0 (by decide) xc) xt 50)
/-- The three results' blocks. -/
def o0 : Vec F S50x64x256 .bf16 := tkOut (xrow (xinV x0 x1 x2 x3 xe) 0) (getCh 0 (by decide) xc) xt
def o1 : Vec F S50x64x256 .bf16 := zOut (xrow (xinV x0 x1 x2 x3 xe) 1) (getCh 256 (by decide) xc)
def o2 : Vec F S50x64x256 .bf16 := zOut (xrow (xinV x0 x1 x2 x3 xe) 2) (getCh 512 (by decide) xc)
end

end Cert.KernelIdeal.Hand

end
-- ==== Proof.KI.ChainLoops.lean ====
module

public import proofs.«01_k».proof.Proof.KI.ChainDefs

@[expose] public section

set_option maxRecDepth 16384

noncomputable section

/-! The four loops of the first call's body: the carried values and the pieces written, in closed form. -/

namespace Cert.KernelIdeal.Hand

open Cert.KernelIdeal Cert.KernelIdeal.Gen
open Idealize.ShloMosaic Idealize.ShloMosaic.TcCoe

variable {F : FTy → Type} [FloatOps F]

section
variable (c : Dev nD) (i : grid0.Coords) (arg2 : Memref sig .tc .vmem S1x64x200 .f32) (harg2 : arg2.IsWhole) (arg3 : Memref sig .tc .vmem S80x200 .f32) (harg3 : arg3.IsWhole) (arg4 : Memref sig .tc .vmem S80x80 .f32) (harg4 : arg4.IsWhole) (arg5 : Memref sig .tc .vmem S768x80 .f32) (harg5 : arg5.IsWhole) (arg6 : Memref sig .tc .vmem S50x64x256 .bf16) (harg6 : arg6.IsWhole) (arg7 : Memref sig .tc .vmem S50x64x256 .bf16) (harg7 : arg7.IsWhole) (arg8 : Memref sig .tc .vmem S50x64x256 .bf16) (harg8 : arg8.IsWhole) (arg9 : Memref sig .tc .vmem S3200x80 .f32) (harg9 : arg9.IsWhole) (arg10 : Memref sig .tc .vmem S3200x768 .f32) (harg10 : arg10.IsWhole) (arg11 : Memref sig .tc .vmem S3x64x80 .f32) (harg11 : arg11.IsWhole) (arg12 : Memref sig .tc .vmem S3x64x768 .f32) (harg12 : arg12.IsWhole) (arg13 : Memref sig .tc .vmem S64x256 .f32) (harg13 : arg13.IsWhole)

theorem trips_t1 : k0_t1_loop.trips = 50 := by decide
theorem trips_t2 : k0_t2_loop.trips = 50 := by decide
theorem trips_t3 : k0_t3_loop.trips = 50 := by decide
theorem trips_t4 : k0_t4_loop.trips = 50 := by decide

theorem st1_val (v3 : Vec F S1x64x200 .f32) (v5 : Vec F S80x200 .f32) (v7 : Vec F S80x80 .f32) (init : St80 F) :
    ∀ k : ℕ, k ≤ 50 → (st_k0_t1 (F := F) Variants.none c none i arg2 harg2 arg3 harg3 arg4 harg4 arg5 harg5 arg6 harg6 arg7 harg7 arg8 harg8 arg9 harg9 arg10 harg10 arg11 harg11 arg12 harg12 arg13 harg13 v3 v5 v7 init k).1 = encIt v3 v5 v7 init k
  | 0, _ => rfl
  | k + 1, hk => by
    have e := st_k0_t1_succ (F := F) Variants.none c none i arg2 harg2 arg3 harg3 arg4 harg4 arg5 harg5 arg6 harg6 arg7 harg7 arg8 harg8 arg9 harg9 arg10 harg10 arg11 harg11 arg12 harg12 arg13 harg13 v3 v5 v7 init ⟨k, by rw [trips_t1]; omega⟩
    rw [show k + 1 = (⟨k, by rw [trips_t1]; omega⟩ : Fin k0_t1_loop.trips).val + 1 from rfl, e]
    unfold tripR_k0_t1 trip_k0_t1
    dsimp only
    rw [st1_val v3 v5 v7 init k (by omega)]
    rfl

theorem st1_read (v3 : Vec F S1x64x200 .f32) (v5 : Vec F S80x200 .f32) (v7 : Vec F S80x80 .f32) (init : St80 F) (f : BufTy.Contents (Elt F) arg9.view.ty) :
    ∀ k : ℕ, k ≤ 50 → ∀ y : S3200x80.Idx, (y 0).val < 64 * k →
      arg9.view.read (Elt F) (arg9.view.writes (Elt F) f (st_k0_t1 (F := F) Variants.none c none i arg2 harg2 arg3 harg3 arg4 harg4 arg5 harg5 arg6 harg6 arg7 harg7 arg8 harg8 arg9 harg9 arg10 harg10 arg11 harg11 arg12 harg12 arg13 harg13 v3 v5 v7 init k).2) y = zeV v3 v5 v7 init y
  | 0, _, y, h => absurd h (by omega)
  | k + 1, hk, y, hy => by
    have e := st_k0_t1_succ (F := F) Variants.none c none i arg2 harg2 arg3 harg3 arg4 harg4 arg5 harg5 arg6 harg6 arg7 harg7 arg8 harg8 arg9 harg9 arg10 harg10 arg11 harg11 arg12 harg12 arg13 harg13 v3 v5 v7 init ⟨k, by rw [trips_t1]; omega⟩
    rw [show k + 1 = (⟨k, by rw [trips_t1]; omega⟩ : Fin k0_t1_loop.trips).val + 1 from rfl, e]
    unfold tripL_k0_t1 trip_k0_t1
    dsimp only
    rw [st1_val c i arg2 harg2 arg3 harg3 arg4 harg4 arg5 harg5 arg6 harg6 arg7 harg7 arg8 harg8 arg9 harg9 arg10 harg10 arg11 harg11 arg12 harg12 arg13 harg13 v3 v5 v7 init k (by omega)]
    rw [List.singleton_append]
    by_cases h : (y 0).val < 64 * k
    · rw [View.read_writes_cons_unit_of_not_mem _ _ _ _ _ y (k0_off1_eq _) 0 (by left; simpa using h)]
      exact st1_read v3 v5 v7 init f k (by omega) y h
    · have hq : (y 0).val / 64 = k := by omega
      refine (View.read_writes_cons_unit_of_mem _ _ _ _ _ y (inRow y) (k0_off1_eq ⟨k, by rw [trips_t1]; omega⟩) (by intro a; fin_cases a <;> simp <;> omega)).trans ?_
      unfold zeV
      rw [hq]

/-- What a trip of the chain `l` loads. -/
theorem xrow_of {f : BufTy.Contents (Elt F) arg10.view.ty} (l : Fin 3) (k : Fin 50) {off : Fin 2 → ℕ} (h : off = ![64 * k.val, 256 * l.val]) (inb) :
    arg10.view.readAt (Elt F) (Rect.unit (s := S3200x768) off ![64, 256] inb).toLoadRect f = xrow (arg10.view.read (Elt F) f) l k :=
  View.readAt_unit arg10.view f inb h _

theorem st4_val (X : BufTy.Contents (Elt F) arg10.view.ty) (init : St256 F) :
    ∀ k : ℕ, k ≤ 50 → (st_k0_t4 (F := F) Variants.none c none i arg2 harg2 arg3 harg3 arg4 harg4 arg5 harg5 arg6 harg6 arg7 harg7 arg8 harg8 arg9 harg9 arg10 harg10 arg11 harg11 arg12 harg12 arg13 harg13 X init k).1 = chIt (xrow (arg10.view.read (Elt F) X) 2) init k
  | 0, _ => rfl
  | k + 1, hk => by
    have e := st_k0_t4_succ (F := F) Variants.none c none i arg2 harg2 arg3 harg3 arg4 harg4 arg5 harg5 arg6 harg6 arg7 harg7 arg8 harg8 arg9 harg9 arg10 harg10 arg11 harg11 arg12 harg12 arg13 harg13 X init ⟨k, by rw [trips_t4]; omega⟩
    rw [show k + 1 = (⟨k, by rw [trips_t4]; omega⟩ : Fin k0_t4_loop.trips).val + 1 from rfl, e]
    unfold tripR_k0_t4 trip_k0_t4
    dsimp only
    rw [st4_val X init k (by omega)]
    set_option backward.isDefEq.respectTransparency false in
    rw [xrow_of (F := F) arg10 (f := X) 2 ⟨k, by omega⟩ (k0_off6_eq _)]
    simp only [chIt, show k < 50 by omega, dite_true]
    rfl

theorem st4_read (X : BufTy.Contents (Elt F) arg10.view.ty) (init : St256 F) (f : BufTy.Contents (Elt F) arg8.view.ty) :
    ∀ k : ℕ, k ≤ 50 → ∀ y : S50x64x256.Idx, (y 0).val < k →
      arg8.view.read (Elt F) (arg8.view.writes (Elt F) f (st_k0_t4 (F := F) Variants.none c none i arg2 harg2 arg3 harg3 arg4 harg4 arg5 harg5 arg6 harg6 arg7 harg7 arg8 harg8 arg9 harg9 arg10 harg10 arg11 harg11 arg12 harg12 arg13 harg13 X init k).2) y = zOut (xrow (arg10.view.read (Elt F) X) 2) init y
  | 0, _, y, h => absurd h (by omega)
  | k + 1, hk, y, hy => by
    have e := st_k0_t4_succ (F := F) Variants.none c none i arg2 harg2 arg3 harg3 arg4 harg4 arg5 harg5 arg6 harg6 arg7 harg7 arg8 harg8 arg9 harg9 arg10 harg10 arg11 harg11 arg12 harg12 arg13 harg13 X init ⟨k, by rw [trips_t4]; omega⟩
    rw [show k + 1 = (⟨k, by rw [trips_t4]; omega⟩ : Fin k0_t4_loop.trips).val + 1 from rfl, e]
    unfold tripL_k0_t4 trip_k0_t4
    dsimp only
    rw [st4_val c i arg2 harg2 arg3 harg3 arg4 harg4 arg5 harg5 arg6 harg6 arg7 harg7 arg8 harg8 arg9 harg9 arg10 harg10 arg11 harg11 arg12 harg12 arg13 harg13 X init k (by omega)]
    set_option backward.isDefEq.respectTransparency false in
    rw [xrow_of (F := F) arg10 (f := X) 2 ⟨k, by omega⟩ (k0_off6_eq _)]
    rw [List.singleton_append]
    by_cases h : (y 0).val < k
    · rw [View.read_writes_cons_unit_of_not_mem _ _ _ _ _ y (k0_off7_eq _) 0 (by left; simpa using h)]
      exact st4_read X init f k (by omega) y h
    · have hq : (y 0).val = k := by omega
      refine (View.read_writes_cons_unit_of_mem _ _ _ _ _ y (inPlane y) (k0_off7_eq ⟨k, by rw [trips_t4]; omega⟩) (by intro a; fin_cases a <;> simp <;> omega)).trans ?_
      unfold zOut
      rw [show (y 0) = (⟨k, by omega⟩ : Fin 50) from Fin.ext hq]

theorem st3_val (a b) (X : BufTy.Contents (Elt F) arg10.view.ty) (init : St256 F) :
    ∀ k : ℕ, k ≤ 50 → (st_k0_t3 (F := F) Variants.none c none i arg2 harg2 arg3 harg3 arg4 harg4 arg5 harg5 arg6 harg6 arg7 harg7 arg8 harg8 arg9 harg9 arg10 harg10 arg11 harg11 arg12 harg12 arg13 harg13 a b X init k).1 = chIt (xrow (arg10.view.read (Elt F) X) 1) init k
  | 0, _ => rfl
  | k + 1, hk => by
    have e := st_k0_t3_succ (F := F) Variants.none c none i arg2 harg2 arg3 harg3 arg4 harg4 arg5 harg5 arg6 harg6 arg7 harg7 arg8 harg8 arg9 harg9 arg10 harg10 arg11 harg11 arg12 harg12 arg13 harg13 a b X init ⟨k, by rw [trips_t3]; omega⟩
    rw [show k + 1 = (⟨k, by rw [trips_t3]; omega⟩ : Fin k0_t3_loop.trips).val + 1 from rfl, e]
    unfold tripR_k0_t3 trip_k0_t3
    dsimp only
    rw [st3_val a b X init k (by omega)]
    set_option backward.isDefEq.respectTransparency false in
    rw [xrow_of (F := F) arg10 (f := X) 1 ⟨k, by omega⟩ (k0_off4_eq _)]
    simp only [chIt, show k < 50 by omega, dite_true]
    rfl

theorem st3_read (a b) (X : BufTy.Contents (Elt F) arg10.view.ty) (init : St256 F) (f : BufTy.Contents (Elt F) arg7.view.ty) :
    ∀ k : ℕ, k ≤ 50 → ∀ y : S50x64x256.Idx, (y 0).val < k →
      arg7.view.read (Elt F) (arg7.view.writes (Elt F) f (st_k0_t3 (F := F) Variants.none c none i arg2 harg2 arg3 harg3 arg4 harg4 arg5 harg5 arg6 harg6 arg7 harg7 arg8 harg8 arg9 harg9 arg10 harg10 arg11 harg11 arg12 harg12 arg13 harg13 a b X init k).2) y = zOut (xrow (arg10.view.read (Elt F) X) 1) init y
  | 0, _, y, h => absurd h (by omega)
  | k + 1, hk, y, hy => by
    have e := st_k0_t3_succ (F := F) Variants.none c none i arg2 harg2 arg3 harg3 arg4 harg4 arg5 harg5 arg6 harg6 arg7 harg7 arg8 harg8 arg9 harg9 arg10 harg10 arg11 harg11 arg12 harg12 arg13 harg13 a b X init ⟨k, by rw [trips_t3]; omega⟩
    rw [show k + 1 = (⟨k, by rw [trips_t3]; omega⟩ : Fin k0_t3_loop.trips).val + 1 from rfl, e]
    unfold tripL_k0_t3 trip_k0_t3
    dsimp only
    rw [st3_val c i arg2 harg2 arg3 harg3 arg4 harg4 arg5 harg5 arg6 harg6 arg7 harg7 arg8 harg8 arg9 harg9 arg10 harg10 arg11 harg11 arg12 harg12 arg13 harg13 a b X init k (by omega)]
    set_option backward.isDefEq.respectTransparency false in
    rw [xrow_of (F := F) arg10 (f := X) 1 ⟨k, by omega⟩ (k0_off4_eq _)]
    rw [List.singleton_append]
    by_cases h : (y 0).val < k
    · rw [View.read_writes_cons_unit_of_not_mem _ _ _ _ _ y (k0_off5_eq _) 0 (by left; simpa using h)]
      exact st3_read a b X init f k (by omega) y h
    · have hq : (y 0).val = k := by omega
      refine (View.read_writes_cons_unit_of_mem _ _ _ _ _ y (inPlane y) (k0_off5_eq ⟨k, by rw [trips_t3]; omega⟩) (by intro a; fin_cases a <;> simp <;> omega)).trans ?_
      unfold zOut
      rw [show (y 0) = (⟨k, by omega⟩ : Fin 50) from Fin.ext hq]
      rfl

/-- The first chain's carried value from the chain's state and its trace. -/
abbrev tkSt (s : St256 F) (tk : Vec F S64x256 .f32) : StTk F := (s.1, s.2.1, s.2.2, tk)

theorem st2_val (a) (X : BufTy.Contents (Elt F) arg10.view.ty) (init : StTk F) :
    ∀ k : ℕ, k ≤ 50 → (st_k0_t2 (F := F) Variants.none c none i arg2 harg2 arg3 harg3 arg4 harg4 arg5 harg5 arg6 harg6 arg7 harg7 arg8 harg8 arg9 harg9 arg10 harg10 arg11 harg11 arg12 harg12 arg13 harg13 a X init k).1
      = tkSt (chIt (xrow (arg10.view.read (Elt F) X) 0) (init.1, init.2.1, init.2.2.1) k) (tkIt (xrow (arg10.view.read (Elt F) X) 0) (init.1, init.2.1, init.2.2.1) init.2.2.2 k)
  | 0, _ => rfl
  | k + 1, hk => by
    have e := st_k0_t2_succ (F := F) Variants.none c none i arg2 harg2 arg3 harg3 arg4 harg4 arg5 harg5 arg6 harg6 arg7 harg7 arg8 harg8 arg9 harg9 arg10 harg10 arg11 harg11 arg12 harg12 arg13 harg13 a X init ⟨k, by rw [trips_t2]; omega⟩
    rw [show k + 1 = (⟨k, by rw [trips_t2]; omega⟩ : Fin k0_t2_loop.trips).val + 1 from rfl, e]
    unfold tripR_k0_t2 trip_k0_t2
    dsimp only
    rw [st2_val a X init k (by omega)]
    set_option backward.isDefEq.respectTransparency false in
    rw [xrow_of (F := F) arg10 (f := X) 0 ⟨k, by omega⟩ (k0_off2_eq _)]
    simp only [chIt, tkIt, show k < 50 by omega, dite_true]
    rfl

theorem st2_read (a) (X : BufTy.Contents (Elt F) arg10.view.ty) (init : StTk F) (f : BufTy.Contents (Elt F) arg6.view.ty) :
    ∀ k : ℕ, k ≤ 50 → ∀ y : S50x64x256.Idx, (y 0).val < k →
      arg6.view.read (Elt F) (arg6.view.writes (Elt F) f (st_k0_t2 (F := F) Variants.none c none i arg2 harg2 arg3 harg3 arg4 harg4 arg5 harg5 arg6 harg6 arg7 harg7 arg8 harg8 arg9 harg9 arg10 harg10 arg11 harg11 arg12 harg12 arg13 harg13 a X init k).2) y
        = tkOut (xrow (arg10.view.read (Elt F) X) 0) (init.1, init.2.1, init.2.2.1) init.2.2.2 y
  | 0, _, y, h => absurd h (by omega)
  | k + 1, hk, y, hy => by
    have e := st_k0_t2_succ (F := F) Variants.none c none i arg2 harg2 arg3 harg3 arg4 harg4 arg5 harg5 arg6 harg6 arg7 harg7 arg8 harg8 arg9 harg9 arg10 harg10 arg11 harg11 arg12 harg12 arg13 harg13 a X init ⟨k, by rw [trips_t2]; omega⟩
    rw [show k + 1 = (⟨k, by rw [trips_t2]; omega⟩ : Fin k0_t2_loop.trips).val + 1 from rfl, e]
    unfold tripL_k0_t2 trip_k0_t2
    dsimp only
    rw [st2_val c i arg2 harg2 arg3 harg3 arg4 harg4 arg5 harg5 arg6 harg6 arg7 harg7 arg8 harg8 arg9 harg9 arg10 harg10 arg11 harg11 arg12 harg12 arg13 harg13 a X init k (by omega)]
    set_option backward.isDefEq.respectTransparency false in
    rw [xrow_of (F := F) arg10 (f := X) 0 ⟨k, by omega⟩ (k0_off2_eq _)]
    rw [List.singleton_append]
    by_cases h : (y 0).val < k
    · rw [View.read_writes_cons_unit_of_not_mem _ _ _ _ _ y (k0_off3_eq _) 0 (by left; simpa using h)]
      exact st2_read a X init f k (by omega) y h
    · have hq : (y 0).val = k := by omega
      refine (View.read_writes_cons_unit_of_mem _ _ _ _ _ y (inPlane y) (k0_off3_eq ⟨k, by rw [trips_t2]; omega⟩) (by intro a; fin_cases a <;> simp <;> omega)).trans ?_
      unfold tkOut
      rw [show (y 0) = (⟨k, by omega⟩ : Fin 50) from Fin.ext hq]

end

end Cert.KernelIdeal.Hand

end
-- ==== Proof.KI.ChainBody.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.ChainLoops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the chains body's first branch: the grid's second coordinate is 0. -/
abbrev cond0 (i : grid0.Coords) : Prop := (Scalar.cmpi .ne (Scalar.extui (Scalar.cmpi .eq (BitVec.ofNat 32 (i 1).val) 0#32)) 0#32) = 1#1

theorem tr1 : (Scf.trips k0_t1_loop.lb k0_t1_loop.ub k0_t1_loop.st) = 50 := by decide
theorem tr2 : (Scf.trips k0_t2_loop.lb k0_t2_loop.ub k0_t2_loop.st) = 50 := by decide
theorem tr3 : (Scf.trips k0_t3_loop.lb k0_t3_loop.ub k0_t3_loop.st) = 50 := by decide
theorem tr4 : (Scf.trips k0_t4_loop.lb k0_t4_loop.ub k0_t4_loop.st) = 50 := by decide

section
variable (c : Dev nD) (i : grid0.Coords) (arg2 : Memref sig .tc .vmem S1x64x200 .f32) (harg2 : arg2.IsWhole) (arg3 : Memref sig .tc .vmem S80x200 .f32) (harg3 : arg3.IsWhole) (arg4 : Memref sig .tc .vmem S80x80 .f32) (harg4 : arg4.IsWhole) (arg5 : Memref sig .tc .vmem S768x80 .f32) (harg5 : arg5.IsWhole) (arg6 : Memref sig .tc .vmem S50x64x256 .bf16) (harg6 : arg6.IsWhole) (arg7 : Memref sig .tc .vmem S50x64x256 .bf16) (harg7 : arg7.IsWhole) (arg8 : Memref sig .tc .vmem S50x64x256 .bf16) (harg8 : arg8.IsWhole) (arg9 : Memref sig .tc .vmem S3200x80 .f32) (harg9 : arg9.IsWhole) (arg10 : Memref sig .tc .vmem S3200x768 .f32) (harg10 : arg10.IsWhole) (arg11 : Memref sig .tc .vmem S3x64x80 .f32) (harg11 : arg11.IsWhole) (arg12 : Memref sig .tc .vmem S3x64x768 .f32) (harg12 : arg12.IsWhole) (arg13 : Memref sig .tc .vmem S64x256 .f32) (harg13 : arg13.IsWhole)
/-! ## What the run leaves, by buffer -/

/-- The encoder's loop, run to its end. -/
abbrev T1 (f2 : BufTy.Contents (Elt F) arg2.view.ty) (f3 : BufTy.Contents (Elt F) arg3.view.ty) (f4 : BufTy.Contents (Elt F) arg4.view.ty) (f11 : BufTy.Contents (Elt F) arg11.view.ty) := st_k0_t1 (F := F) Variants.none c none i arg2 harg2 arg3 harg3 arg4 harg4 arg5 harg5 arg6 harg6 arg7 harg7 arg8 harg8 arg9 harg9 arg10 harg10 arg11 harg11 arg12 harg12 arg13 harg13 (arg2.view.readAt (Elt F) (Rect.unit (s := S1x64x200) ![0, 0, 0] S1x64x200.size (by decide)).toLoadRect f2) (arg3.view.readAt (Elt F) (Rect.unit (s := S80x200) ![0, 0] S80x200.size (by decide)).toLoadRect f3) (arg4.view.readAt (Elt F) (Rect.unit (s := S80x80) ![0, 0] S80x80.size (by decide)).toLoadRect f4) (k0_pay13 (arg11.view.readAt (Elt F) (Rect.unit (s := S3x64x80) ![0, 0, 0] S1x64x80.size (by decide)).toLoadRect f11), k0_pay14 (arg11.view.readAt (Elt F) (Rect.unit (s := S3x64x80) ![1, 0, 0] S1x64x80.size (by decide)).toLoadRect f11), k0_pay15 (arg11.view.readAt (Elt F) (Rect.unit (s := S3x64x80) ![2, 0, 0] S1x64x80.size (by decide)).toLoadRect f11)) (Scf.trips k0_t1_loop.lb k0_t1_loop.ub k0_t1_loop.st)
/-- The chains' inputs as stored. -/
abbrev W10 (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f11 : BufTy.Contents (Elt F) arg11.view.ty) : BufTy.Contents (Elt F) arg10.view.ty := arg10.view.writes (Elt F) arg10.view.junk [⟨(Rect.unit (s := S3200x768) ![0, 0] S3200x768.size (by decide)), k0_pay23 (arg9.view.readAt (Elt F) (Rect.unit (s := S3200x80) ![0, 0] S3200x80.size (by decide)).toLoadRect (arg9.view.writes (Elt F) f9 (T1 c i arg2 harg2 arg3 harg3 arg4 harg4 arg5 harg5 arg6 harg6 arg7 harg7 arg8 harg8 arg9 harg9 arg10 harg10 arg11 harg11 arg12 harg12 arg13 harg13 f2 f3 f4 f11).2)) (arg5.view.readAt (Elt F) (Rect.unit (s := S768x80) ![0, 0] S768x80.size (by decide)).toLoadRect f5)⟩]
/-- The chains' loops, run to their ends. -/
abbrev T2 (X : BufTy.Contents (Elt F) arg10.view.ty) (f12 : BufTy.Contents (Elt F) arg12.view.ty) (f13 : BufTy.Contents (Elt F) arg13.view.ty) (v) := st_k0_t2 (F := F) Variants.none c none i arg2 harg2 arg3 harg3 arg4 harg4 arg5 harg5 arg6 harg6 arg7 harg7 arg8 harg8 arg9 harg9 arg10 harg10 arg11 harg11 arg12 harg12 arg13 harg13 v X (k0_pay24 (arg12.view.readAt (Elt F) (Rect.unit (s := S3x64x768) ![0, 0, 0] S1x64x256.size (by decide)).toLoadRect f12), k0_pay25 (arg12.view.readAt (Elt F) (Rect.unit (s := S3x64x768) ![1, 0, 0] S1x64x256.size (by decide)).toLoadRect f12), k0_pay26 (arg12.view.readAt (Elt F) (Rect.unit (s := S3x64x768) ![2, 0, 0] S1x64x256.size (by decide)).toLoadRect f12), (arg13.view.readAt (Elt F) (Rect.unit (s := S64x256) ![0, 0] S64x256.size (by decide)).toLoadRect f13)) (Scf.trips k0_t2_loop.lb k0_t2_loop.ub k0_t2_loop.st)
abbrev T3 (X : BufTy.Contents (Elt F) arg10.view.ty) (f12 : BufTy.Contents (Elt F) arg12.view.ty) (v w) := st_k0_t3 (F := F) Variants.none c none i arg2 harg2 arg3 harg3 arg4 harg4 arg5 harg5 arg6 harg6 arg7 harg7 arg8 harg8 arg9 harg9 arg10 harg10 arg11 harg11 arg12 harg12 arg13 harg13 v w X (k0_pay36 (arg12.view.readAt (Elt F) (Rect.unit (s := S3x64x768) ![0, 0, 256] S1x64x256.size (by decide)).toLoadRect f12), k0_pay37 (arg12.view.readAt (Elt F) (Rect.unit (s := S3x64x768) ![1, 0, 256] S1x64x256.size (by decide)).toLoadRect f12), k0_pay38 (arg12.view.readAt (Elt F) (Rect.unit (s := S3x64x768) ![2, 0, 256] S1x64x256.size (by decide)).toLoadRect f12)) (Scf.trips k0_t3_loop.lb k0_t3_loop.ub k0_t3_loop.st)
abbrev T4 (X : BufTy.Contents (Elt F) arg10.view.ty) (f12 : BufTy.Contents (Elt F) arg12.view.ty) := st_k0_t4 (F := F) Variants.none c none i arg2 harg2 arg3 harg3 arg4 harg4 arg5 harg5 arg6 harg6 arg7 harg7 arg8 harg8 arg9 harg9 arg10 harg10 arg11 harg11 arg12 harg12 arg13 harg13 X (k0_pay46 (arg12.view.readAt (Elt F) (Rect.unit (s := S3x64x768) ![0, 0, 512] S1x64x256.size (by decide)).toLoadRect f12), k0_pay1 (arg12.view.readAt (Elt F) (Rect.unit (s := S3x64x768) ![1, 0, 512] S1x64x256.size (by decide)).toLoadRect f12), k0_pay2 (arg12.view.readAt (Elt F) (Rect.unit (s := S3x64x768) ![2, 0, 512] S1x64x256.size (by decide)).toLoadRect f12)) (Scf.trips k0_t4_loop.lb k0_t4_loop.ub k0_t4_loop.st)

variable (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f11 : BufTy.Contents (Elt F) arg11.view.ty) (f12 : BufTy.Contents (Elt F) arg12.view.ty) (f13 : BufTy.Contents (Elt F) arg13.view.ty)

theorem t1_val : (T1 c i arg2 harg2 arg3 harg3 arg4 harg4 arg5 harg5 arg6 harg6 arg7 harg7 arg8 harg8 arg9 harg9 arg10 harg10 arg11 harg11 arg12 harg12 arg13 harg13 f2 f3 f4 f11).1 = encIt (arg2.view.read (Elt F) f2) (arg3.view.read (Elt F) f3) (arg4.view.read (Elt F) f4) (getEnc (arg11.view.read (Elt F) f11)) 50 := by
  unfold T1
  rw [tr1, st1_val c i arg2 harg2 arg3 harg3 arg4 harg4 arg5 harg5 arg6 harg6 arg7 harg7 arg8 harg8 arg9 harg9 arg10 harg10 arg11 harg11 arg12 harg12 arg13 harg13 _ _ _ _ 50 le_rfl, View.readAt_full, View.readAt_full, View.readAt_full]
  rfl

theorem t1_read : arg9.view.read (Elt F) (arg9.view.writes (Elt F) f9 (T1 c i arg2 harg2 arg3 harg3 arg4 harg4 arg5 harg5 arg6 harg6 arg7 harg7 arg8 harg8 arg9 harg9 arg10 harg10 arg11 harg11 arg12 harg12 arg13 harg13 f2 f3 f4 f11).2) = zeV (arg2.view.read (Elt F) f2) (arg3.view.read (Elt F) f3) (arg4.view.read (Elt F) f4) (getEnc (arg11.view.read (Elt F) f11)) := by
  funext y
  unfold T1
  have hy : (y 0).val < 64 * 50 := (y 0).isLt
  rw [tr1, st1_read c i arg2 harg2 arg3 harg3 arg4 harg4 arg5 harg5 arg6 harg6 arg7 harg7 arg8 harg8 arg9 harg9 arg10 harg10 arg11 harg11 arg12 harg12 arg13 harg13 _ _ _ _ f9 50 le_rfl y hy, View.readAt_full, View.readAt_full, View.readAt_full]
  rfl

theorem rd10 : arg10.view.read (Elt F) (W10 c i arg2 harg2 arg3 harg3 arg4 harg4 arg5 harg5 arg6 harg6 arg7 harg7 arg8 harg8 arg9 harg9 arg10 harg10 arg11 harg11 arg12 harg12 arg13 harg13 f2 f3 f4 f5 f9 f11) = xinV (arg2.view.read (Elt F) f2) (arg3.view.read (Elt F) f3) (arg4.view.read (Elt F) f4) (arg5.view.read (Elt F) f5) (arg11.view.read (Elt F) f11) := by
  unfold W10
  rw [View.read_writes_full, View.readAt_full, View.readAt_full, t1_read]
  rfl

theorem t4_val : (T4 c i arg2 harg2 arg3 harg3 arg4 harg4 arg5 harg5 arg6 harg6 arg7 harg7 arg8 harg8 arg9 harg9 arg10 harg10 arg11 harg11 arg12 harg12 arg13 harg13 (W10 c i arg2 harg2 arg3 harg3 arg4 harg4 arg5 harg5 arg6 harg6 arg7 harg7 arg8 harg8 arg9 harg9 arg10 harg10 arg11 harg11 arg12 harg12 arg13 harg13 f2 f3 f4 f5 f9 f11) f12).1 = chS (arg2.view.read (Elt F) f2) (arg3.view.read (Elt F) f3) (arg4.view.read (Elt F) f4) (arg5.view.read (Elt F) f5) (arg11.view.read (Elt F) f11) (arg12.view.read (Elt F) f12) 2 512 (by decide) := by
  unfold T4
  rw [tr4, st4_val c i arg2 harg2 arg3 harg3 arg4 harg4 arg5 harg5 arg6 harg6 arg7 harg7 arg8 harg8 arg9 harg9 arg10 harg10 arg11 harg11 arg12 harg12 arg13 harg13 _ _ 50 le_rfl, rd10]
  rfl

theorem t3_val (v' w) : (T3 c i arg2 harg2 arg3 harg3 arg4 harg4 arg5 harg5 arg6 harg6 arg7 harg7 arg8 harg8 arg9 harg9 arg10 harg10 arg11 harg11 arg12 harg12 arg13 harg13 (W10 c i arg2 harg2 arg3 harg3 arg4 harg4 arg5 harg5 arg6 harg6 arg7 harg7 arg8 harg8 arg9 harg9 arg10 harg10 arg11 harg11 arg12 harg12 arg13 harg13 f2 f3 f4 f5 f9 f11) f12 v' w).1 = chS (arg2.view.read (Elt F) f2) (arg3.view.read (Elt F) f3) (arg4.view.read (Elt F) f4) (arg5.view.read (Elt F) f5) (arg11.view.read (Elt F) f11) (arg12.view.read (Elt F) f12) 1 256 (by decide) := by
  unfold T3
  rw [tr3, st3_val c i arg2 harg2 arg3 harg3 arg4 harg4 arg5 harg5 arg6 harg6 arg7 harg7 arg8 harg8 arg9 harg9 arg10 harg10 arg11 harg11 arg12 harg12 arg13 harg13 _ _ _ _ 50 le_rfl, rd10]
  rfl

theorem t2_val (v) : (T2 c i arg2 harg2 arg3 harg3 arg4 harg4 arg5 harg5 arg6 harg6 arg7 harg7 arg8 harg8 arg9 harg9 arg10 harg10 arg11 harg11 arg12 harg12 arg13 harg13 (W10 c i arg2 harg2 arg3 harg3 arg4 harg4 arg5 harg5 arg6 harg6 arg7 harg7 arg8 harg8 arg9 harg9 arg10 harg10 arg11 harg11 arg12 harg12 arg13 harg13 f2 f3 f4 f5 f9 f11) f12 f13 v).1 = tkSt (chS (arg2.view.read (Elt F) f2) (arg3.view.read (Elt F) f3) (arg4.view.read (Elt F) f4) (arg5.view.read (Elt F) f5) (arg11.view.read (Elt F) f11) (arg12.view.read (Elt F) f12) 0 0 (by decide))
    (tkIt (xrow (xinV (arg2.view.read (Elt F) f2) (arg3.view.read (Elt F) f3) (arg4.view.read (Elt F) f4) (arg5.view.read (Elt F) f5) (arg11.view.read (Elt F) f11)) 0) (getCh 0 (by decide) (arg12.view.read (Elt F) f12)) (arg13.view.read (Elt F) f13) 50) := by
  unfold T2
  rw [tr2, st2_val c i arg2 harg2 arg3 harg3 arg4 harg4 arg5 harg5 arg6 harg6 arg7 harg7 arg8 harg8 arg9 harg9 arg10 harg10 arg11 harg11 arg12 harg12 arg13 harg13 _ _ _ 50 le_rfl, rd10, View.readAt_full]
  dsimp only
  exact congrArg₂ tkSt rfl rfl

theorem rd6 (v) : arg6.view.read (Elt F) (arg6.view.writes (Elt F) f6 (T2 c i arg2 harg2 arg3 harg3 arg4 harg4 arg5 harg5 arg6 harg6 arg7 harg7 arg8 harg8 arg9 harg9 arg10 harg10 arg11 harg11 arg12 harg12 arg13 harg13 (W10 c i arg2 harg2 arg3 harg3 arg4 harg4 arg5 harg5 arg6 harg6 arg7 harg7 arg8 harg8 arg9 harg9 arg10 harg10 arg11 harg11 arg12 harg12 arg13 harg13 f2 f3 f4 f5 f9 f11) f12 f13 v).2) = o0 (arg2.view.read (Elt F) f2) (arg3.view.read (Elt F) f3) (arg4.view.read (Elt F) f4) (arg5.view.read (Elt F) f5) (arg11.view.read (Elt F) f11) (arg12.view.read (Elt F) f12) (arg13.view.read (Elt F) f13) := by
  funext y
  unfold T2
  rw [tr2, st2_read c i arg2 harg2 arg3 harg3 arg4 harg4 arg5 harg5 arg6 harg6 arg7 harg7 arg8 harg8 arg9 harg9 arg10 harg10 arg11 harg11 arg12 harg12 arg13 harg13 _ _ _ f6 50 le_rfl y (y 0).isLt, rd10, View.readAt_full]
  rfl

theorem rd7 (v' w) : arg7.view.read (Elt F) (arg7.view.writes (Elt F) f7 (T3 c i arg2 harg2 arg3 harg3 arg4 harg4 arg5 harg5 arg6 harg6 arg7 harg7 arg8 harg8 arg9 harg9 arg10 harg10 arg11 harg11 arg12 harg12 arg13 harg13 (W10 c i arg2 harg2 arg3 harg3 arg4 harg4 arg5 harg5 arg6 harg6 arg7 harg7 arg8 harg8 arg9 harg9 arg10 harg10 arg11 harg11 arg12 harg12 arg13 harg13 f2 f3 f4 f5 f9 f11) f12 v' w).2) = o1 (arg2.view.read (Elt F) f2) (arg3.view.read (Elt F) f3) (arg4.view.read (Elt F) f4) (arg5.view.read (Elt F) f5) (arg11.view.read (Elt F) f11) (arg12.view.read (Elt F) f12) := by
  funext y
  unfold T3
  rw [tr3, st3_read c i arg2 harg2 arg3 harg3 arg4 harg4 arg5 harg5 arg6 harg6 arg7 harg7 arg8 harg8 arg9 harg9 arg10 harg10 arg11 harg11 arg12 harg12 arg13 harg13 _ _ _ _ f7 50 le_rfl y (y 0).isLt, rd10]
  rfl

theorem rd8 : arg8.view.read (Elt F) (arg8.view.writes (Elt F) f8 (T4 c i arg2 harg2 arg3 harg3 arg4 harg4 arg5 harg5 arg6 harg6 arg7 harg7 arg8 harg8 arg9 harg9 arg10 harg10 arg11 harg11 arg12 harg12 arg13 harg13 (W10 c i arg2 harg2 arg3 harg3 arg4 harg4 arg5 harg5 arg6 harg6 arg7 harg7 arg8 harg8 arg9 harg9 arg10 harg10 arg11 harg11 arg12 harg12 arg13 harg13 f2 f3 f4 f5 f9 f11) f12).2) = o2 (arg2.view.read (Elt F) f2) (arg3.view.read (Elt F) f3) (arg4.view.read (Elt F) f4) (arg5.view.read (Elt F) f5) (arg11.view.read (Elt F) f11) (arg12.view.read (Elt F) f12) := by
  funext y
  unfold T4
  rw [tr4, st4_read c i arg2 harg2 arg3 harg3 arg4 harg4 arg5 harg5 arg6 harg6 arg7 harg7 arg8 harg8 arg9 harg9 arg10 harg10 arg11 harg11 arg12 harg12 arg13 harg13 _ _ f8 50 le_rfl y (y 0).isLt, rd10]
  rfl

/-- A state written into the encoder's scratch covers it. -/
theorem putEnc_any (xe xe' : Vec F S3x64x80 .f32) (s : St80 F) : putEnc xe s = putEnc xe' s := by
  funext y
  unfold putEnc VecWindow.put
  have h0 : (y 0).val < 3 := (y 0).isLt
  have h1 : (y 1).val < 64 := (y 1).isLt
  have h2 : (y 2).val < 80 := (y 2).isLt
  split
  · rfl
  · rename_i n2
    split
    · rfl
    · rename_i n1
      split
      · rfl
      · rename_i n0
        simp [Fin.forall_fin_succ] at n0 n1 n2
        omega

theorem rd11 : arg11.view.read (Elt F) (arg11.view.writes (Elt F) arg11.view.junk [⟨(Rect.unit (s := S3x64x80) ![2, 0, 0] S1x64x80.size (by decide)), k0_pay22 (T1 c i arg2 harg2 arg3 harg3 arg4 harg4 arg5 harg5 arg6 harg6 arg7 harg7 arg8 harg8 arg9 harg9 arg10 harg10 arg11 harg11 arg12 harg12 arg13 harg13 f2 f3 f4 f11).1.2.2⟩, ⟨(Rect.unit (s := S3x64x80) ![1, 0, 0] S1x64x80.size (by decide)), k0_pay21 (T1 c i arg2 harg2 arg3 harg3 arg4 harg4 arg5 harg5 arg6 harg6 arg7 harg7 arg8 harg8 arg9 harg9 arg10 harg10 arg11 harg11 arg12 harg12 arg13 harg13 f2 f3 f4 f11).1.2.1⟩, ⟨(Rect.unit (s := S3x64x80) ![0, 0, 0] S1x64x80.size (by decide)), k0_pay20 (T1 c i arg2 harg2 arg3 harg3 arg4 harg4 arg5 harg5 arg6 harg6 arg7 harg7 arg8 harg8 arg9 harg9 arg10 harg10 arg11 harg11 arg12 harg12 arg13 harg13 f2 f3 f4 f11).1.1⟩])
    = encN (arg2.view.read (Elt F) f2) (arg3.view.read (Elt F) f3) (arg4.view.read (Elt F) f4) (arg11.view.read (Elt F) f11) := by
  rw [View.read_writes_cons_put _ _ _ _ _ rfl, View.read_writes_cons_put _ _ _ _ _ rfl, View.read_writes_cons_put _ _ _ _ _ rfl, t1_val]
  exact putEnc_any _ _ _

theorem rd12 (v v' w) : arg12.view.read (Elt F) (arg12.view.writes (Elt F) f12 [⟨(Rect.unit (s := S3x64x768) ![2, 0, 512] S1x64x256.size (by decide)), k0_pay9 (T4 c i arg2 harg2 arg3 harg3 arg4 harg4 arg5 harg5 arg6 harg6 arg7 harg7 arg8 harg8 arg9 harg9 arg10 harg10 arg11 harg11 arg12 harg12 arg13 harg13 (W10 c i arg2 harg2 arg3 harg3 arg4 harg4 arg5 harg5 arg6 harg6 arg7 harg7 arg8 harg8 arg9 harg9 arg10 harg10 arg11 harg11 arg12 harg12 arg13 harg13 f2 f3 f4 f5 f9 f11) f12).1.2.2⟩, ⟨(Rect.unit (s := S3x64x768) ![1, 0, 512] S1x64x256.size (by decide)), k0_pay8 (T4 c i arg2 harg2 arg3 harg3 arg4 harg4 arg5 harg5 arg6 harg6 arg7 harg7 arg8 harg8 arg9 harg9 arg10 harg10 arg11 harg11 arg12 harg12 arg13 harg13 (W10 c i arg2 harg2 arg3 harg3 arg4 harg4 arg5 harg5 arg6 harg6 arg7 harg7 arg8 harg8 arg9 harg9 arg10 harg10 arg11 harg11 arg12 harg12 arg13 harg13 f2 f3 f4 f5 f9 f11) f12).1.2.1⟩, ⟨(Rect.unit (s := S3x64x768) ![0, 0, 512] S1x64x256.size (by decide)), k0_pay7 (T4 c i arg2 harg2 arg3 harg3 arg4 harg4 arg5 harg5 arg6 harg6 arg7 harg7 arg8 harg8 arg9 harg9 arg10 harg10 arg11 harg11 arg12 harg12 arg13 harg13 (W10 c i arg2 harg2 arg3 harg3 arg4 harg4 arg5 harg5 arg6 harg6 arg7 harg7 arg8 harg8 arg9 harg9 arg10 harg10 arg11 harg11 arg12 harg12 arg13 harg13 f2 f3 f4 f5 f9 f11) f12).1.1⟩, ⟨(Rect.unit (s := S3x64x768) ![2, 0, 256] S1x64x256.size (by decide)), k0_pay45 (T3 c i arg2 harg2 arg3 harg3 arg4 harg4 arg5 harg5 arg6 harg6 arg7 harg7 arg8 harg8 arg9 harg9 arg10 harg10 arg11 harg11 arg12 harg12 arg13 harg13 (W10 c i arg2 harg2 arg3 harg3 arg4 harg4 arg5 harg5 arg6 harg6 arg7 harg7 arg8 harg8 arg9 harg9 arg10 harg10 arg11 harg11 arg12 harg12 arg13 harg13 f2 f3 f4 f5 f9 f11) f12 v' w).1.2.2⟩, ⟨(Rect.unit (s := S3x64x768) ![1, 0, 256] S1x64x256.size (by decide)), k0_pay44 (T3 c i arg2 harg2 arg3 harg3 arg4 harg4 arg5 harg5 arg6 harg6 arg7 harg7 arg8 harg8 arg9 harg9 arg10 harg10 arg11 harg11 arg12 harg12 arg13 harg13 (W10 c i arg2 harg2 arg3 harg3 arg4 harg4 arg5 harg5 arg6 harg6 arg7 harg7 arg8 harg8 arg9 harg9 arg10 harg10 arg11 harg11 arg12 harg12 arg13 harg13 f2 f3 f4 f5 f9 f11) f12 v' w).1.2.1⟩, ⟨(Rect.unit (s := S3x64x768) ![0, 0, 256] S1x64x256.size (by decide)), k0_pay43 (T3 c i arg2 harg2 arg3 harg3 arg4 harg4 arg5 harg5 arg6 harg6 arg7 harg7 arg8 harg8 arg9 harg9 arg10 harg10 arg11 harg11 arg12 harg12 arg13 harg13 (W10 c i arg2 harg2 arg3 harg3 arg4 harg4 arg5 harg5 arg6 harg6 arg7 harg7 arg8 harg8 arg9 harg9 arg10 harg10 arg11 harg11 arg12 harg12 arg13 harg13 f2 f3 f4 f5 f9 f11) f12 v' w).1.1⟩, ⟨(Rect.unit (s := S3x64x768) ![2, 0, 0] S1x64x256.size (by decide)), k0_pay34 (T2 c i arg2 harg2 arg3 harg3 arg4 harg4 arg5 harg5 arg6 harg6 arg7 harg7 arg8 harg8 arg9 harg9 arg10 harg10 arg11 harg11 arg12 harg12 arg13 harg13 (W10 c i arg2 harg2 arg3 harg3 arg4 harg4 arg5 harg5 arg6 harg6 arg7 harg7 arg8 harg8 arg9 harg9 arg10 harg10 arg11 harg11 arg12 harg12 arg13 harg13 f2 f3 f4 f5 f9 f11) f12 f13 v).1.2.2.1⟩, ⟨(Rect.unit (s := S3x64x768) ![1, 0, 0] S1x64x256.size (by decide)), k0_pay33 (T2 c i arg2 harg2 arg3 harg3 arg4 harg4 arg5 harg5 arg6 harg6 arg7 harg7 arg8 harg8 arg9 harg9 arg10 harg10 arg11 harg11 arg12 harg12 arg13 harg13 (W10 c i arg2 harg2 arg3 harg3 arg4 harg4 arg5 harg5 arg6 harg6 arg7 harg7 arg8 harg8 arg9 harg9 arg10 harg10 arg11 harg11 arg12 harg12 arg13 harg13 f2 f3 f4 f5 f9 f11) f12 f13 v).1.2.1⟩, ⟨(Rect.unit (s := S3x64x768) ![0, 0, 0] S1x64x256.size (by decide)), k0_pay32 (T2 c i arg2 harg2 arg3 harg3 arg4 harg4 arg5 harg5 arg6 harg6 arg7 harg7 arg8 harg8 arg9 harg9 arg10 harg10 arg11 harg11 arg12 harg12 arg13 harg13 (W10 c i arg2 harg2 arg3 harg3 arg4 harg4 arg5 harg5 arg6 harg6 arg7 harg7 arg8 harg8 arg9 harg9 arg10 harg10 arg11 harg11 arg12 harg12 arg13 harg13 f2 f3 f4 f5 f9 f11) f12 f13 v).1.1⟩])
    = chC (arg2.view.read (Elt F) f2) (arg3.view.read (Elt F) f3) (arg4.view.read (Elt F) f4) (arg5.view.read (Elt F) f5) (arg11.view.read (Elt F) f11) (arg12.view.read (Elt F) f12) := by
  rw [t4_val, t3_val, t2_val]
  iterate 9 rw [View.read_writes_cons_put _ _ _ _ _ rfl]
  rfl

theorem rd13 (v) : arg13.view.read (Elt F) (arg13.view.writes (Elt F) arg13.view.junk [⟨(Rect.unit (s := S64x256) ![0, 0] S64x256.size (by decide)), k0_pay35 (T2 c i arg2 harg2 arg3 harg3 arg4 harg4 arg5 harg5 arg6 harg6 arg7 harg7 arg8 harg8 arg9 harg9 arg10 harg10 arg11 harg11 arg12 harg12 arg13 harg13 (W10 c i arg2 harg2 arg3 harg3 arg4 harg4 arg5 harg5 arg6 harg6 arg7 harg7 arg8 harg8 arg9 harg9 arg10 harg10 arg11 harg11 arg12 harg12 arg13 harg13 f2 f3 f4 f5 f9 f11) f12 f13 v).1.2.2.2⟩])
    = tkN (arg2.view.read (Elt F) f2) (arg3.view.read (Elt F) f3) (arg4.view.read (Elt F) f4) (arg5.view.read (Elt F) f5) (arg11.view.read (Elt F) f11) (arg12.view.read (Elt F) f12) (arg13.view.read (Elt F) f13) := by
  rw [View.read_writes_full, t2_val]
  rfl

end

section
variable (c : Dev nD) (i : grid0.Coords) (arg2 : Memref sig .tc .vmem S1x64x200 .f32) (harg2 : arg2.IsWhole) (arg3 : Memref sig .tc .vmem S80x200 .f32) (harg3 : arg3.IsWhole) (arg4 : Memref sig .tc .vmem S80x80 .f32) (harg4 : arg4.IsWhole) (arg5 : Memref sig .tc .vmem S768x80 .f32) (harg5 : arg5.IsWhole) (arg6 : Memref sig .tc .vmem S50x64x256 .bf16) (harg6 : arg6.IsWhole) (arg7 : Memref sig .tc .vmem S50x64x256 .bf16) (harg7 : arg7.IsWhole) (arg8 : Memref sig .tc .vmem S50x64x256 .bf16) (harg8 : arg8.IsWhole) (arg9 : Memref sig .tc .vmem S3200x80 .f32) (harg9 : arg9.IsWhole) (arg10 : Memref sig .tc .vmem S3200x768 .f32) (harg10 : arg10.IsWhole) (arg11 : Memref sig .tc .vmem S3x64x80 .f32) (harg11 : arg11.IsWhole) (arg12 : Memref sig .tc .vmem S3x64x768 .f32) (harg12 : arg12.IsWhole) (arg13 : Memref sig .tc .vmem S64x256 .f32) (harg13 : arg13.IsWhole)
    (x0 : Vec F S1x64x200 .f32) (x1 : Vec F S80x200 .f32) (x2 : Vec F S80x80 .f32) (x3 : Vec F S768x80 .f32) (xe : Vec F S3x64x80 .f32) (xc : Vec F S3x64x768 .f32) (xt : Vec F S64x256 .f32)

set_option maxHeartbeats 4000000 in
/-- A grid point that does not reset the scratch. -/
theorem body0_B (hc0 : ¬ cond0 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xe ∗ owns (c : Thread nD τ) arg12 fullShare xc ∗ owns (c : Thread nD τ) arg13 fullShare xt
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (o0 x0 x1 x2 x3 xe xc xt) ∗ owns (c : Thread nD τ) arg7 fullShare (o1 x0 x1 x2 x3 xe xc) ∗ owns (c : Thread nD τ) arg8 fullShare (o2 x0 x1 x2 x3 xe xc) ∗ (∃ d, owns (c : Thread nD τ) arg9 fullShare d) ∗ (∃ d, owns (c : Thread nD τ) arg10 fullShare d) ∗ owns (c : Thread nD τ) arg11 fullShare (encN x0 x1 x2 xe) ∗ owns (c : Thread nD τ) arg12 fullShare (chC x0 x1 x2 x3 xe xc) ∗ owns (c : Thread nD τ) arg13 fullShare (tkN x0 x1 x2 x3 xe xc xt)) -∗ K ⟨⟩))
     ⊢ wp frame (wpE (defs₀ (F := F)) Variants.none c none) E (cc0_lif_chains i arg2 harg2 arg3 harg3 arg4 harg4 arg5 harg5 arg6 harg6 arg7 harg7 arg8 harg8 arg9 harg9 arg10 harg10 arg11 harg11 arg12 harg12 arg13 harg13) K := by
  simp only [cc0_lif_chains_eq_skeleton]; unfold cc0_lif_chains_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%f12, %hf12, H12⟩, ⟨%f13, %hf13, H13⟩, Hk⟩
  subst hf2 hf3 hf4 hf5 hf11 hf12 hf13
  sl_exec (disch := first | sl_exact hc0)
  sl_step
  sl_unfold_run_names
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; exact rd6 (c := c) (i := i) (harg3 := harg3) (f5 := f5) (f9 := f9) ..
  isplitl [H7]
  · iexists _; isplitr; swap; · iexact H7
    ipureintro; exact rd7 ..
  isplitl [H8]
  · iexists _; isplitr; swap; · iexact H8
    ipureintro; exact rd8 ..
  isplitl [H9]
  · iexists _, _; isplitr; swap; · iexact H9
    ipureintro; rfl
  isplitl [H10]
  · iexists _, _; isplitr; swap; · iexact H10
    ipureintro; rfl
  isplitl [H11]
  · iexists _; isplitr; swap; · iexact H11
    ipureintro; exact rd11 ..
  isplitl [H12]
  · iexists _; isplitr; swap; · iexact H12
    ipureintro; exact rd12 ..
  iexists _; isplitr; swap; · iexact H13
  ipureintro; exact rd13 ..

set_option maxHeartbeats 4000000 in
/-- A grid point that resets the scratch first. -/
theorem body0_A (hc0 : cond0 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xe ∗ owns (c : Thread nD τ) arg12 fullShare xc ∗ owns (c : Thread nD τ) arg13 fullShare xt
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (o0 x0 x1 x2 x3 k0_pay10 k0_pay11 k0_pay12) ∗ owns (c : Thread nD τ) arg7 fullShare (o1 x0 x1 x2 x3 k0_pay10 k0_pay11) ∗ owns (c : Thread nD τ) arg8 fullShare (o2 x0 x1 x2 x3 k0_pay10 k0_pay11) ∗ (∃ d, owns (c : Thread nD τ) arg9 fullShare d) ∗ (∃ d, owns (c : Thread nD τ) arg10 fullShare d) ∗ owns (c : Thread nD τ) arg11 fullShare (encN x0 x1 x2 k0_pay10) ∗ owns (c : Thread nD τ) arg12 fullShare (chC x0 x1 x2 x3 k0_pay10 k0_pay11) ∗ owns (c : Thread nD τ) arg13 fullShare (tkN x0 x1 x2 x3 k0_pay10 k0_pay11 k0_pay12)) -∗ K ⟨⟩))
     ⊢ wp frame (wpE (defs₀ (F := F)) Variants.none c none) E (cc0_lif_chains i arg2 harg2 arg3 harg3 arg4 harg4 arg5 harg5 arg6 harg6 arg7 harg7 arg8 harg8 arg9 harg9 arg10 harg10 arg11 harg11 arg12 harg12 arg13 harg13) K := by
  simp only [cc0_lif_chains_eq_skeleton]; unfold cc0_lif_chains_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%f12, %hf12, H12⟩, ⟨%f13, %hf13, H13⟩, Hk⟩
  subst hf2 hf3 hf4 hf5 hf11 hf12 hf13
  (set_option sl_exec.maxSteps 8 in
    sl_exec (disch := first | sl_exact hc0))
  generalize h11 : arg11.view.writes (Elt F) f11 [⟨Rect.unit (s := S3x64x80) ![0, 0, 0] S3x64x80.size inb_S3x64x80_S3x64x80_0_0_0, k0_pay10⟩] = g11
  generalize h12 : arg12.view.writes (Elt F) f12 [⟨Rect.unit (s := S3x64x768) ![0, 0, 0] S3x64x768.size inb_S3x64x768_S3x64x768_0_0_0, k0_pay11⟩] = g12
  generalize h13 : arg13.view.writes (Elt F) f13 [⟨Rect.unit (s := S64x256) ![0, 0] S64x256.size inb_S64x256_S64x256_0_0, k0_pay12⟩] = g13
  have e11 : arg11.view.read (Elt F) g11 = k0_pay10 := h11 ▸ View.read_writes_full ..
  have e12 : arg12.view.read (Elt F) g12 = k0_pay11 := h12 ▸ View.read_writes_full ..
  have e13 : arg13.view.read (Elt F) g13 = k0_pay12 := h13 ▸ View.read_writes_full ..
  rw [← e11, ← e12, ← e13]
  sl_exec (disch := first | sl_exact hc0)
  sl_step
  sl_unfold_run_names
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; exact rd6 (c := c) (i := i) (harg3 := harg3) (f5 := f5) (f9 := f9) ..
  isplitl [H7]
  · iexists _; isplitr; swap; · iexact H7
    ipureintro; exact rd7 ..
  isplitl [H8]
  · iexists _; isplitr; swap; · iexact H8
    ipureintro; exact rd8 ..
  isplitl [H9]
  · iexists _, _; isplitr; swap; · iexact H9
    ipureintro; rfl
  isplitl [H10]
  · iexists _, _; isplitr; swap; · iexact H10
    ipureintro; rfl
  isplitl [H11]
  · iexists _; isplitr; swap; · iexact H11
    ipureintro; exact rd11 ..
  isplitl [H12]
  · iexists _; isplitr; swap; · iexact H12
    ipureintro; exact rd12 ..
  iexists _; isplitr; swap; · iexact H13
  ipureintro; exact rd13 ..

end

end Cert.KernelIdeal.Hand

end
-- ==== Proof.KI.Reg0.lean ====
module

public import proofs.«01_k».proof.Proof.KI.ChainBody
public import proofs.«01_k».proof.Proof.Gen.KernelIdeal.Regions
public import Idealize.ShloMosaic.Lib.Pipeline.RegionArraysS

@[expose] public section

set_option maxRecDepth 16384

noncomputable section

/-! The chains call's run: what each point finds and leaves, and the obligation its body meets. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (W : Dev nD → Valuation τ sig (Elt F))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))
abbrev x0_0 (c : Dev nD) (t : Fin cfg0.N) : Vec F S1x64x200 .f32 := iblk0 W c 0 t
abbrev x0_1 (c : Dev nD) (t : Fin cfg0.N) : Vec F S80x200 .f32 := iblk0 W c 1 t
abbrev x0_2 (c : Dev nD) (t : Fin cfg0.N) : Vec F S80x80 .f32 := iblk0 W c 2 t
abbrev x0_3 (c : Dev nD) (t : Fin cfg0.N) : Vec F S768x80 .f32 := iblk0 W c 3 t

/-- The carried scratch the body computes from at point `t`, given what the point before left. -/
def start0 (W : Dev nD → Valuation τ sig (Elt F)) (c : Dev nD) (t : Fin cfg0.N) (s : Vec F S3x64x80 .f32 × Vec F S3x64x768 .f32 × Vec F S64x256 .f32) : Vec F S3x64x80 .f32 × Vec F S3x64x768 .f32 × Vec F S64x256 .f32 := if t.val % 50 = 0 then (k0_pay10, k0_pay11, k0_pay12) else s
/-- What the body leaves in it. -/
def next0 (c : Dev nD) (t : Fin cfg0.N) (s : Vec F S3x64x80 .f32 × Vec F S3x64x768 .f32 × Vec F S64x256 .f32) : Vec F S3x64x80 .f32 × Vec F S3x64x768 .f32 × Vec F S64x256 .f32 := (encN (x0_0 W c t) (x0_1 W c t) (x0_2 W c t) s.1, chC (x0_0 W c t) (x0_1 W c t) (x0_2 W c t) (x0_3 W c t) s.1 s.2.1, tkN (x0_0 W c t) (x0_1 W c t) (x0_2 W c t) (x0_3 W c t) s.1 s.2.1 s.2.2)
/-- The carried scratch before point `n`. -/
def carry0 (c : Dev nD) : ℕ → Vec F S3x64x80 .f32 × Vec F S3x64x768 .f32 × Vec F S64x256 .f32
  | 0 => (k0_pay10, k0_pay11, k0_pay12)
  | n + 1 => if h : n < cfg0.N then next0 W c ⟨n, h⟩ (start0 W c ⟨n, h⟩ (carry0 c n)) else carry0 c n
/-- The carried scratch the body computes from at point `t`. -/
def at0 (c : Dev nD) (t : Fin cfg0.N) : Vec F S3x64x80 .f32 × Vec F S3x64x768 .f32 × Vec F S64x256 .f32 := start0 W c t (carry0 W c t.val)

theorem carry0_succ (c : Dev nD) (t : Fin cfg0.N) : carry0 W c (t.val + 1) = next0 W c t (at0 W c t) := dif_pos t.isLt
theorem start0_reset (c : Dev nD) (t : Fin cfg0.N) (h : t.val % 50 = 0) (s : Vec F S3x64x80 .f32 × Vec F S3x64x768 .f32 × Vec F S64x256 .f32) : start0 W c t s = (k0_pay10, k0_pay11, k0_pay12) := if_pos h
theorem start0_keep (c : Dev nD) (t : Fin cfg0.N) (h : ¬ t.val % 50 = 0) (s : Vec F S3x64x80 .f32 × Vec F S3x64x768 .f32 × Vec F S64x256 .f32) : start0 W c t s = s := if_neg h
/-- Result 0's block. -/
def res0_0 (c : Dev nD) (t : Fin cfg0.N) (s : Vec F S3x64x80 .f32 × Vec F S3x64x768 .f32 × Vec F S64x256 .f32) : Vec F S50x64x256 .bf16 := o0 (x0_0 W c t) (x0_1 W c t) (x0_2 W c t) (x0_3 W c t) s.1 s.2.1 s.2.2
/-- Result 1's block. -/
def res0_1 (c : Dev nD) (t : Fin cfg0.N) (s : Vec F S3x64x80 .f32 × Vec F S3x64x768 .f32 × Vec F S64x256 .f32) : Vec F S50x64x256 .bf16 := o1 (x0_0 W c t) (x0_1 W c t) (x0_2 W c t) (x0_3 W c t) s.1 s.2.1
/-- Result 2's block. -/
def res0_2 (c : Dev nD) (t : Fin cfg0.N) (s : Vec F S3x64x80 .f32 × Vec F S3x64x768 .f32 × Vec F S64x256 .f32) : Vec F S50x64x256 .bf16 := o2 (x0_0 W c t) (x0_1 W c t) (x0_2 W c t) (x0_3 W c t) s.1 s.2.1

/-- What the body holds of its own before point `n`: the carried scratch at its contents (unless the point resets it), the other scratch and
    the other calls' buffers at anything. -/
def Phi0 (c : Dev nD) (n : ℕ) : sProp 𝕄 :=
  iprop(∃ S : Vec F S3x64x80 .f32 × Vec F S3x64x768 .f32 × Vec F S64x256 .f32, ⌜¬ n % 50 = 0 → S = carry0 W c n⌝ ∗ ((∃ d, owns (c : Thread nD τ) (Memref.whole cc0_scratch0 : Memref sig .tc .vmem S3200x80 .f32) fullShare d) ∗ (∃ d, owns (c : Thread nD τ) (Memref.whole cc0_scratch1 : Memref sig .tc .vmem S3200x768 .f32) fullShare d) ∗ owns (c : Thread nD τ) (Memref.whole cc0_scratch2 : Memref sig .tc .vmem S3x64x80 .f32) fullShare (S.1) ∗ owns (c : Thread nD τ) (Memref.whole cc0_scratch3 : Memref sig .tc .vmem S3x64x768 .f32) fullShare (S.2.1) ∗ owns (c : Thread nD τ) (Memref.whole cc0_scratch4 : Memref sig .tc .vmem S64x256 .f32) fullShare (S.2.2))
    ∗ Pipeline.scopedRestBut (Ix := Unit) (Name := ℕ) (U := UR sig nD τ) (Lvl := ℕ) (Val := Elt F) spec0 c [cc0_scratch0, cc0_scratch1, cc0_scratch2, cc0_scratch3, cc0_scratch4])

/-- The call's proof data: the arrays as it finds them, each input's staging buffer at its block and each output's at the body's result. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => res0_0 W c t (at0 W c t)
    | ⟨5, _⟩ => res0_1 W c t (at0 W c t)
    | ⟨6, _⟩ => res0_2 W c t (at0 W c t)
  Φ t := Phi0 W c t.val
  q _ := fullShare
  owed _ := 0

theorem dat0_A (c : Dev nD) (w : Fin cfg0.W) : (dat0 W c).A w = W c (Proc.devRef .tc (Pipeline.arrRef spec0 w)) := by dsimp only [dat0]
theorem dat0_Phi (c : Dev nD) (t : Fin (cfg0.N + 1)) : (dat0 W c).Φ t = Phi0 W c t.val := by dsimp only [dat0]
theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = iblk0 W c 3 t := by dsimp only [dat0]
theorem after0_4 (c : Dev nD) (t : Fin cfg0.N) : (dat0 W c).after 4 t = res0_0 W c t (at0 W c t) := by dsimp only [dat0]
theorem after0_5 (c : Dev nD) (t : Fin cfg0.N) : (dat0 W c).after 5 t = res0_1 W c t (at0 W c t) := by dsimp only [dat0]
theorem after0_6 (c : Dev nD) (t : Fin cfg0.N) : (dat0 W c).after 6 t = res0_2 W c t (at0 W c t) := by dsimp only [dat0]
theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
theorem before0_1 (c : Dev nD) (t : Fin cfg0.N) (d) : (dat0 W c).before 1 t d = iblk0 W c 1 t :=
  ((dat0 W c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)
theorem before0_2 (c : Dev nD) (t : Fin cfg0.N) (d) : (dat0 W c).before 2 t d = iblk0 W c 2 t :=
  ((dat0 W c).before_in_eq_fetched 2 rfl (fun _ => rfl) (fun _ _ _ => rfl) (fun t => by rw [after0_2]; unfold Dat.blockOf iblk0; rw [dat0_A]; try rfl) t d).trans
    (by unfold Dat.fetched Dat.blockOf iblk0; rw [dat0_A]; try rfl)
theorem before0_3 (c : Dev nD) (t : Fin cfg0.N) (d) : (dat0 W c).before 3 t d = iblk0 W c 3 t :=
  ((dat0 W c).before_in_eq_fetched 3 rfl (fun _ => rfl) (fun _ _ _ => rfl) (fun t => by rw [after0_3]; unfold Dat.blockOf iblk0; rw [dat0_A]; try rfl) t d).trans
    (by unfold Dat.fetched Dat.blockOf iblk0; rw [dat0_A]; try rfl)

theorem hcond0 : ∀ t : Fin cfg0.N, cond0 (grid0.coords t) ↔ t.val % 50 = 0 :=
  (fun t => by
    have ht : t.val < 200 := Nat.lt_of_lt_of_eq t.isLt N_0
    have e0 : (grid0.coords t 0).val = t.val / 50 % 4 := Pipeline.Grid.coords_val t 0 (by decide) rfl
    have e1 : (grid0.coords t 1).val = t.val / 1 % 50 := Pipeline.Grid.coords_val t 1 (by decide) rfl
    simp only [cond0, e0, e1]
    word_cmp
   : ∀ t : Fin grid0.N, cond0 (grid0.coords t) ↔ t.val % 50 = 0)

/-- What the body is called with at point `t`. -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d))
    ∗ (∃ d, owns (c : Thread nD τ) (st0_6 t) fullShare ((dat0 W c).before 6 t d)))

/-- What it returns. -/
def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t)
    ∗ owns (c : Thread nD τ) (st0_5 t) fullShare ((dat0 W c).after 5 t)
    ∗ owns (c : Thread nD τ) (st0_6 t) fullShare ((dat0 W c).after 6 t))

set_option maxHeartbeats 2000000 in
/-- The body at any point. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3]
  rw [show (dat0 W c).owesAt () t.succ = (dat0 W c).owesAt () t.castSucc from rfl, after0_0, after0_1, after0_2, after0_3, after0_4, after0_5, after0_6,
    dat0_Phi, dat0_Phi, show (t.castSucc : Fin (cfg0.N + 1)).val = t.val from rfl, show (t.succ : Fin (cfg0.N + 1)).val = t.val + 1 from rfl]
  unfold Phi0
  rw [carry0_succ]
  iintro ⟨⟨%S, %hS, ⟨HS0, HS1, HS2, HS3, HS4⟩, Hr⟩, Ho, ⟨%d0, H0⟩, ⟨%d1, H1⟩, ⟨%d2, H2⟩, ⟨%d3, H3⟩, ⟨%d4, H4⟩, ⟨%d5, H5⟩, ⟨%d6, H6⟩⟩
  by_cases h0 : t.val % 50 = 0
  · skip
    rw [show at0 W c t = _ from start0_reset W c t h0 _]
    iapply (body0_A c (grid0.coords t) _ _ _ _ _ _ _ _ _ _ _ _ _ _ _ _ _ _ _ _ _ _ _ _ (x0_0 W c t) (x0_1 W c t) (x0_2 W c t) (x0_3 W c t) (S.1) (S.2.1) (S.2.2) ((hcond0 t).mpr h0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, HS0, HS1, HS2, HS3, HS4⟩
    isplitl [HS0 HS1 HS2 HS3 HS4 Hr]
    · iexists _; isplitr; · ipureintro; exact fun _ => rfl
      isplitr [Hr]
      · isplitl [HS0]; · iexact HS0
        isplitl [HS1]; · iexact HS1
        isplitl [HS2]; · iexact HS2
        isplitl [HS3]; · iexact HS3
        iexact HS4
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · skip
    obtain rfl := hS h0
    rw [show at0 W c t = _ from start0_keep W c t h0 _]
    iapply (body0_B c (grid0.coords t) _ _ _ _ _ _ _ _ _ _ _ _ _ _ _ _ _ _ _ _ _ _ _ _ (x0_0 W c t) (x0_1 W c t) (x0_2 W c t) (x0_3 W c t) (carry0 W c t.val).1 (carry0 W c t.val).2.1 (carry0 W c t.val).2.2 (fun h => h0 ((hcond0 t).mp h)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, HS0, HS1, HS2, HS3, HS4⟩
    isplitl [HS0 HS1 HS2 HS3 HS4 Hr]
    · iexists _; isplitr; · ipureintro; exact fun _ => rfl
      isplitr [Hr]
      · isplitl [HS0]; · iexact HS0
        isplitl [HS1]; · iexact HS1
        isplitl [HS2]; · iexact HS2
        isplitl [HS3]; · iexact HS3
        iexact HS4
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The obligation at every point. -/
theorem obligation0 (c : Dev nD) : BodyObligation (dat0 (F := F) W c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body0 W c t) rfl .rfl fun _ => .rfl

/-- The launch hands the body's invariant, and gets its buffers back at the end. -/
theorem hin0 (c : Dev nD) : iprop(Pipeline.scopedRest (Ix := Unit) (Name := ℕ) (U := UR sig nD τ) (Lvl := ℕ) (Val := Elt F) spec0 c ∗ BI.emp) ⊢ (dat0 W c).Φ 0 := by
  rw [dat0_Phi, scopedRest0_split]
  simp only [← owns_whole]
  unfold Phi0
  iintro ⟨⟨⟨HS0, HS1, ⟨%s2, HS2⟩, ⟨%s3, HS3⟩, ⟨%s4, HS4⟩⟩, Hr⟩, -⟩
  iexists (s2, s3, s4)
  isplitr; · ipureintro; exact fun h => absurd rfl h
  isplitr [Hr]
  · isplitl [HS0]; · iexact HS0
    isplitl [HS1]; · iexact HS1
    isplitl [HS2]; · iexact HS2
    isplitl [HS3]; · iexact HS3
    iexact HS4
  iexact Hr
theorem hout0 (c : Dev nD) : (dat0 W c).Φ (Fin.last cfg0.N) ⊢ iprop(Pipeline.scopedRest (Ix := Unit) (Name := ℕ) (U := UR sig nD τ) (Lvl := ℕ) (Val := Elt F) spec0 c ∗ BI.emp) := by
  rw [dat0_Phi, scopedRest0_split]
  simp only [← owns_whole]
  unfold Phi0
  iintro ⟨%S, -, ⟨HS0, HS1, HS2, HS3, HS4⟩, Hr⟩
  isplitl [HS0 HS1 HS2 HS3 HS4 Hr]; swap; · iempintro
  isplitr [Hr]
  · isplitl [HS0]; · iexact HS0
    isplitl [HS1]; · iexact HS1
    isplitl [HS2]; · iexists _; iexact HS2
    isplitl [HS3]; · iexists _; iexact HS3
    iexists _; iexact HS4
  iexact Hr
end

end Cert.KernelIdeal.Hand

end
-- ==== Proof.KI.MemDefs.lean ====
module

public import proofs.«01_k».proof.Proof.Gen.KernelIdeal.Skeleton
public import Idealize.ShloMosaic.Lib.VecWindow
public import Idealize.ShloMosaic.Lib.Pointwise.Index
public import Idealize.ShloMosaic.Lib.Pipeline.FrameBody

@[expose] public section

set_option maxRecDepth 16384

noncomputable section

/-! What one grid point of the second call computes, as functions of its blocks and of the carried memory. -/

namespace Cert.KernelIdeal.Hand

open Cert.KernelIdeal Cert.KernelIdeal.Gen
open Idealize.ShloMosaic Idealize.ShloMosaic.TcCoe

variable {F : FTy → Type} [FloatOps F]

/-- The batch row `b` of a batch-major block. -/
def zRow (X : Vec F S32x125x256 .bf16) (b : Fin 32) : Vec F S1x125x256 .bf16 :=
  VecWindow.window (s := S32x125x256) X ![b.val, 0, 0] S1x125x256.size (by intro a; fin_cases a <;> simp <;> omega)

/-- The batch row `b` of the memory. -/
def mRow (X : Vec F S32x256x256 .f32) (b : Fin 32) : Vec F S1x256x256 .f32 :=
  VecWindow.window (s := S32x256x256) X ![b.val, 0, 0] S1x256x256.size (by intro a; fin_cases a <;> simp <;> omega)

/-- What row `b` reads out of the memory during the chunk. -/
def mRead (x0 x1 x2 : Vec F S125x32x256 .bf16) (xm : Vec F S32x256x256 .f32) (b : Fin 32) : Vec F S1x125x256 .bf16 :=
  k1_pay11 k1_pay7 (k1_pay8 (zRow (k1_pay4 x0) b)) (k1_pay9 (zRow (k1_pay5 x1) b)) (zRow (k1_pay6 x2) b) (mRow xm b)

/-- Row `b` of the memory after the chunk. -/
def mUpd (x0 x1 : Vec F S125x32x256 .bf16) (xm : Vec F S32x256x256 .f32) (b : Fin 32) : Vec F S1x256x256 .f32 :=
  k1_pay12 (k1_pay8 (zRow (k1_pay4 x0) b)) (k1_pay9 (zRow (k1_pay5 x1) b)) (mRow xm b)

/-- All rows' reads. -/
def mReads (x0 x1 x2 : Vec F S125x32x256 .bf16) (xm : Vec F S32x256x256 .f32) : Vec F S32x125x256 .bf16 :=
  fun y => mRead x0 x1 x2 xm (y 0) (ix3 (0 : Fin 1) (y 1) (y 2) : S1x125x256.Idx)

/-- The memory after the chunk. -/
def mNext (x0 x1 : Vec F S125x32x256 .bf16) (xm : Vec F S32x256x256 .f32) : Vec F S32x256x256 .f32 :=
  fun y => mUpd x0 x1 xm (y 0) (ix3 (0 : Fin 1) (y 1) (y 2) : S1x256x256.Idx)

/-- The call's block of reads. -/
def mOut (x0 x1 x2 : Vec F S125x32x256 .bf16) (xm : Vec F S32x256x256 .f32) : Vec F S125x32x256 .bf16 := k1_pay2 (mReads x0 x1 x2 xm)

end Cert.KernelIdeal.Hand

end
-- ==== Proof.KI.MemBody.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.MemDefs
public import Idealize.ShloMosaic.Lib.Pipeline.FrameBody
public import Idealize.ShloMosaic.Lib.Ring
public import Idealize.ShloMosaic.Lib.Pointwise.Index
public import Idealize.ShloMosaic.Lib.Pipeline.ValueKit
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem inbO (b : Fin 32) : ∀ a, (![b.val, 0, 0] : Fin 3 → ℕ) a + S1x125x256.size a ≤ S32x125x256.size a := by
  intro a; fin_cases a <;> simp <;> omega
theorem inbM (b : Fin 32) : ∀ a, (![b.val, 0, 0] : Fin 3 → ℕ) a + S1x256x256.size a ≤ S32x256x256.size a := by
  intro a; fin_cases a <;> simp <;> omega

/-- The rows, last first. -/
abbrev rowsDesc : List (Fin 32) := [31, 30, 29, 28, 27, 26, 25, 24, 23, 22, 21, 20, 19, 18, 17, 16, 15, 14, 13, 12, 11, 10, 9, 8, 7, 6, 5, 4, 3, 2, 1, 0]
theorem mem_rowsDesc : ∀ b : Fin 32, b ∈ rowsDesc := by decide

/-- A buffer written row by row reads, at an index of row `b`, what was written into row `b`. -/
theorem read_rows {sp : Space} {n k : ℕ} {e : EltTy} (v : View sig .tc sp (⟨3, ![32, n, k]⟩ : Shape) e) (f : v.ty.Contents (Elt F))
    (inb : ∀ (b : Fin 32) a, (![b.val, 0, 0] : Fin 3 → ℕ) a + (![1, n, k] : Fin 3 → ℕ) a ≤ (⟨3, ![32, n, k]⟩ : Shape).size a)
    (P : (b : Fin 32) → Vec F (⟨3, ![1, n, k]⟩ : Shape) e) :
    v.read (Elt F) (v.writes (Elt F) f (rowsDesc.map fun b => (⟨Rect.unit (s := (⟨3, ![32, n, k]⟩ : Shape)) ![b.val, 0, 0] ![1, n, k] (inb b), P b⟩ : View.Piece (Elt F) (⟨3, ![32, n, k]⟩ : Shape) e)))
      = fun y => P (y 0) (ix3 (0 : Fin 1) (y 1) (y 2)) := by
  funext y
  refine View.read_writes_apply_of_pieces v f (fun y => P (y 0) (ix3 (0 : Fin 1) (y 1) (y 2))) _ ?_ y ?_
  · intro p hp x
    obtain ⟨b, -, rfl⟩ := List.mem_map.mp hp
    have h0 : (x 0).val = 0 := by have := (x 0).isLt; change (x 0).val < 1 at this; omega
    have e0 : ((Rect.unit (s := (⟨3, ![32, n, k]⟩ : Shape)) ![b.val, 0, 0] ![1, n, k] (inb b)).emb x) 0 = b := Fin.ext (by
      rw [Rect.emb_apply]; simp [Rect.unit, h0])
    have ex : (ix3 (0 : Fin 1) (((Rect.unit (s := (⟨3, ![32, n, k]⟩ : Shape)) ![b.val, 0, 0] ![1, n, k] (inb b)).emb x) 1) (((Rect.unit (s := (⟨3, ![32, n, k]⟩ : Shape)) ![b.val, 0, 0] ![1, n, k] (inb b)).emb x) 2) : (⟨3, ![1, n, k]⟩ : Shape).Idx) = x := by
      funext a; apply Fin.ext
      match a with
      | ⟨0, _⟩ => exact h0.symm
      | ⟨1, _⟩ => show (((Rect.unit (s := (⟨3, ![32, n, k]⟩ : Shape)) ![b.val, 0, 0] ![1, n, k] (inb b)).emb x) 1).val = _; rw [Rect.emb_apply]; simp [Rect.unit]
      | ⟨2, _⟩ => show (((Rect.unit (s := (⟨3, ![32, n, k]⟩ : Shape)) ![b.val, 0, 0] ![1, n, k] (inb b)).emb x) 2).val = _; rw [Rect.emb_apply]; simp [Rect.unit]
    dsimp only
    rw [ex, e0]
  · refine ⟨_, List.mem_map.mpr ⟨y 0, mem_rowsDesc _, rfl⟩, ?_⟩
    rw [Rect.mem_set_unit]
    intro a
    match a with
    | ⟨0, _⟩ => exact ⟨le_rfl, Nat.lt_succ_self _⟩
    | ⟨1, _⟩ => exact ⟨Nat.zero_le _, by have := (y 1).isLt; simpa using this⟩
    | ⟨2, _⟩ => exact ⟨Nat.zero_le _, by have := (y 2).isLt; simpa using this⟩

section
variable {c : Dev nD} {i : grid1.Coords} {arg2 : Memref sig .tc .vmem S125x32x256 .bf16} {harg2 : arg2.IsWhole} {arg3 : Memref sig .tc .vmem S125x32x256 .bf16} {harg3 : arg3.IsWhole} {arg4 : Memref sig .tc .vmem S125x32x256 .bf16} {harg4 : arg4.IsWhole} {arg5 : Memref sig .tc .vmem S32x256x256 .f32} {harg5 : arg5.IsWhole} {arg6 : Memref sig .tc .vmem S125x32x256 .bf16} {harg6 : arg6.IsWhole} {arg7 : Memref sig .tc .vmem S32x256x256 .f32} {harg7 : arg7.IsWhole} {arg8 : Memref sig .tc .vmem S32x125x256 .bf16} {harg8 : arg8.IsWhole} {arg9 : Memref sig .tc .vmem S32x125x256 .bf16} {harg9 : arg9.IsWhole} {arg10 : Memref sig .tc .vmem S32x125x256 .bf16} {harg10 : arg10.IsWhole} {arg11 : Memref sig .tc .vmem S32x125x256 .bf16} {harg11 : arg11.IsWhole} {f2 : BufTy.Contents (Elt F) arg2.view.ty} {f3 : BufTy.Contents (Elt F) arg3.view.ty} {f4 : BufTy.Contents (Elt F) arg4.view.ty} {f7 : BufTy.Contents (Elt F) arg7.view.ty}

theorem c8_val (b : Fin 32) : (arg8.view.readCov [⟨(Rect.unit (s := S32x125x256) ![0, 0, 0] S32x125x256.size (by decide)), k1_pay4 (arg2.view.readAt (Elt F) (Rect.unit (s := S125x32x256) ![0, 0, 0] S125x32x256.size (by decide)).toLoadRect f2)⟩] (Rect.unit (s := S32x125x256) ![b.val, 0, 0] S1x125x256.size (inbO b)).toLoadRect) = zRow (k1_pay4 (arg2.view.read (Elt F) f2)) b := by
  unfold View.readCov
  rw [View.readAt_unit _ _ _ rfl (inbO b), View.read_writes_full, View.readAt_full]; rfl
theorem c9_val (b : Fin 32) : (arg9.view.readCov [⟨(Rect.unit (s := S32x125x256) ![0, 0, 0] S32x125x256.size (by decide)), k1_pay5 (arg3.view.readAt (Elt F) (Rect.unit (s := S125x32x256) ![0, 0, 0] S125x32x256.size (by decide)).toLoadRect f3)⟩] (Rect.unit (s := S32x125x256) ![b.val, 0, 0] S1x125x256.size (inbO b)).toLoadRect) = zRow (k1_pay5 (arg3.view.read (Elt F) f3)) b := by
  unfold View.readCov
  rw [View.readAt_unit _ _ _ rfl (inbO b), View.read_writes_full, View.readAt_full]; rfl
theorem c10_val (b : Fin 32) : (arg10.view.readCov [⟨(Rect.unit (s := S32x125x256) ![0, 0, 0] S32x125x256.size (by decide)), k1_pay6 (arg4.view.readAt (Elt F) (Rect.unit (s := S125x32x256) ![0, 0, 0] S125x32x256.size (by decide)).toLoadRect f4)⟩] (Rect.unit (s := S32x125x256) ![b.val, 0, 0] S1x125x256.size (inbO b)).toLoadRect) = zRow (k1_pay6 (arg4.view.read (Elt F) f4)) b := by
  unfold View.readCov
  rw [View.readAt_unit _ _ _ rfl (inbO b), View.read_writes_full, View.readAt_full]; rfl
theorem c7_val (b : Fin 32) : (arg7.view.readAt (Elt F) (Rect.unit (s := S32x256x256) ![b.val, 0, 0] S1x256x256.size (inbM b)).toLoadRect f7) = mRow (arg7.view.read (Elt F) f7) b := View.readAt_unit _ _ _ rfl _

/-- The rows written into the memory, with their loads as the run leaves them. -/
abbrev LM (arg2 : Memref sig .tc .vmem S125x32x256 .bf16) (arg3 : Memref sig .tc .vmem S125x32x256 .bf16) (arg7 : Memref sig .tc .vmem S32x256x256 .f32) (arg8 : Memref sig .tc .vmem S32x125x256 .bf16) (arg9 : Memref sig .tc .vmem S32x125x256 .bf16) (f2 : BufTy.Contents (Elt F) arg2.view.ty) (f3 : BufTy.Contents (Elt F) arg3.view.ty) (f7 : BufTy.Contents (Elt F) arg7.view.ty) : List (View.Piece (Elt F) S32x256x256 .f32) :=
  rowsDesc.map fun b => ⟨Rect.unit (s := S32x256x256) ![b.val, 0, 0] S1x256x256.size (inbM b), k1_pay12 (k1_pay8 (arg8.view.readCov [⟨(Rect.unit (s := S32x125x256) ![0, 0, 0] S32x125x256.size (by decide)), k1_pay4 (arg2.view.readAt (Elt F) (Rect.unit (s := S125x32x256) ![0, 0, 0] S125x32x256.size (by decide)).toLoadRect f2)⟩] (Rect.unit (s := S32x125x256) ![b.val, 0, 0] S1x125x256.size (inbO b)).toLoadRect)) (k1_pay9 (arg9.view.readCov [⟨(Rect.unit (s := S32x125x256) ![0, 0, 0] S32x125x256.size (by decide)), k1_pay5 (arg3.view.readAt (Elt F) (Rect.unit (s := S125x32x256) ![0, 0, 0] S125x32x256.size (by decide)).toLoadRect f3)⟩] (Rect.unit (s := S32x125x256) ![b.val, 0, 0] S1x125x256.size (inbO b)).toLoadRect)) (arg7.view.readAt (Elt F) (Rect.unit (s := S32x256x256) ![b.val, 0, 0] S1x256x256.size (inbM b)).toLoadRect f7)⟩

/-- The rows of reads, likewise. -/
abbrev LO (arg2 : Memref sig .tc .vmem S125x32x256 .bf16) (arg3 : Memref sig .tc .vmem S125x32x256 .bf16) (arg4 : Memref sig .tc .vmem S125x32x256 .bf16) (arg7 : Memref sig .tc .vmem S32x256x256 .f32) (arg8 : Memref sig .tc .vmem S32x125x256 .bf16) (arg9 : Memref sig .tc .vmem S32x125x256 .bf16) (arg10 : Memref sig .tc .vmem S32x125x256 .bf16) (f2 : BufTy.Contents (Elt F) arg2.view.ty) (f3 : BufTy.Contents (Elt F) arg3.view.ty) (f4 : BufTy.Contents (Elt F) arg4.view.ty) (f7 : BufTy.Contents (Elt F) arg7.view.ty) : List (View.Piece (Elt F) S32x125x256 .bf16) :=
  rowsDesc.map fun b => ⟨Rect.unit (s := S32x125x256) ![b.val, 0, 0] S1x125x256.size (inbO b), k1_pay11 k1_pay7 (k1_pay8 (arg8.view.readCov [⟨(Rect.unit (s := S32x125x256) ![0, 0, 0] S32x125x256.size (by decide)), k1_pay4 (arg2.view.readAt (Elt F) (Rect.unit (s := S125x32x256) ![0, 0, 0] S125x32x256.size (by decide)).toLoadRect f2)⟩] (Rect.unit (s := S32x125x256) ![b.val, 0, 0] S1x125x256.size (inbO b)).toLoadRect)) (k1_pay9 (arg9.view.readCov [⟨(Rect.unit (s := S32x125x256) ![0, 0, 0] S32x125x256.size (by decide)), k1_pay5 (arg3.view.readAt (Elt F) (Rect.unit (s := S125x32x256) ![0, 0, 0] S125x32x256.size (by decide)).toLoadRect f3)⟩] (Rect.unit (s := S32x125x256) ![b.val, 0, 0] S1x125x256.size (inbO b)).toLoadRect)) (arg10.view.readCov [⟨(Rect.unit (s := S32x125x256) ![0, 0, 0] S32x125x256.size (by decide)), k1_pay6 (arg4.view.readAt (Elt F) (Rect.unit (s := S125x32x256) ![0, 0, 0] S125x32x256.size (by decide)).toLoadRect f4)⟩] (Rect.unit (s := S32x125x256) ![b.val, 0, 0] S1x125x256.size (inbO b)).toLoadRect) (arg7.view.readAt (Elt F) (Rect.unit (s := S32x256x256) ![b.val, 0, 0] S1x256x256.size (inbM b)).toLoadRect f7)⟩

theorem rm7 (f : BufTy.Contents (Elt F) arg7.view.ty) : arg7.view.read (Elt F) (arg7.view.writes (Elt F) f (LM arg2 arg3 arg7 arg8 arg9 f2 f3 f7))
    = mNext (arg2.view.read (Elt F) f2) (arg3.view.read (Elt F) f3) (arg7.view.read (Elt F) f7) := by
  refine (read_rows arg7.view f inbM _).trans ?_
  funext y
  unfold mNext mUpd
  rw [← c8_val (arg8 := arg8) (y 0), ← c9_val (arg9 := arg9) (y 0), ← c7_val (y 0)]

theorem rm11 (f : BufTy.Contents (Elt F) arg11.view.ty) : arg11.view.read (Elt F) (arg11.view.writes (Elt F) f (LO arg2 arg3 arg4 arg7 arg8 arg9 arg10 f2 f3 f4 f7))
    = mReads (arg2.view.read (Elt F) f2) (arg3.view.read (Elt F) f3) (arg4.view.read (Elt F) f4) (arg7.view.read (Elt F) f7) := by
  refine (read_rows arg11.view f inbO _).trans ?_
  funext y
  unfold mReads mRead
  rw [← c8_val (arg8 := arg8) (y 0), ← c9_val (arg9 := arg9) (y 0), ← c10_val (arg10 := arg10) (y 0), ← c7_val (y 0)]

theorem rm6 (f : BufTy.Contents (Elt F) arg6.view.ty) : arg6.view.read (Elt F) (arg6.view.writes (Elt F) f [⟨(Rect.unit (s := S125x32x256) ![0, 0, 0] S125x32x256.size (by decide)), k1_pay2 (arg11.view.readCov (LO arg2 arg3 arg4 arg7 arg8 arg9 arg10 f2 f3 f4 f7) (Rect.unit (s := S32x125x256) ![0, 0, 0] S32x125x256.size (by decide)).toLoadRect)⟩])
    = mOut (arg2.view.read (Elt F) f2) (arg3.view.read (Elt F) f3) (arg4.view.read (Elt F) f4) (arg7.view.read (Elt F) f7) := by
  rw [View.read_writes_full]
  unfold View.readCov mOut
  rw [View.readAt_full, rm11]
end

/-- The condition of the memory call's reset: its grid's second coordinate is zero. -/
abbrev cond1 (i : grid1.Coords) : Prop := (Scalar.cmpi .ne (Scalar.extui (Scalar.cmpi .eq (BitVec.ofNat 32 (i 1).val : BitVec 32) 0#32)) (0#32 : BitVec 32)) = 1#1

section
variable (c : Dev nD) (i : grid1.Coords) (arg2 : Memref sig .tc .vmem S125x32x256 .bf16) (harg2 : arg2.IsWhole) (arg3 : Memref sig .tc .vmem S125x32x256 .bf16) (harg3 : arg3.IsWhole) (arg4 : Memref sig .tc .vmem S125x32x256 .bf16) (harg4 : arg4.IsWhole) (arg5 : Memref sig .tc .vmem S32x256x256 .f32) (harg5 : arg5.IsWhole) (arg6 : Memref sig .tc .vmem S125x32x256 .bf16) (harg6 : arg6.IsWhole) (arg7 : Memref sig .tc .vmem S32x256x256 .f32) (harg7 : arg7.IsWhole) (arg8 : Memref sig .tc .vmem S32x125x256 .bf16) (harg8 : arg8.IsWhole) (arg9 : Memref sig .tc .vmem S32x125x256 .bf16) (harg9 : arg9.IsWhole) (arg10 : Memref sig .tc .vmem S32x125x256 .bf16) (harg10 : arg10.IsWhole) (arg11 : Memref sig .tc .vmem S32x125x256 .bf16) (harg11 : arg11.IsWhole) (x0 x1 x2 : Vec F S125x32x256 .bf16) (x3 xm : Vec F S32x256x256 .f32)

set_option maxHeartbeats 1000000 in
theorem body1_B (hc0 : ¬ cond1 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xm ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (mOut x0 x1 x2 xm) ∗ owns (c : Thread nD τ) arg7 fullShare (mNext x0 x1 xm) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
     ⊢ wp frame (wpE (defs₀ (F := F)) Variants.none c none) E (cc1_memory_read i arg2 harg2 arg3 harg3 arg4 harg4 arg5 harg5 arg6 harg6 arg7 harg7 arg8 harg8 arg9 harg9 arg10 harg10 arg11 harg11) K := by
  simp only [cc1_memory_read_eq_skeleton]; unfold cc1_memory_read_skel
  simp only [k1_part31_eq_skeleton]; unfold k1_part31_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%d11, %f11, -, H11⟩, Hk⟩
  subst hf2 hf3 hf4 hf5 hf7
  sl_exec (disch := first | sl_exact hc0)
  sl_step
  sl_unfold_run_names
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; exact rm6 (f7 := f7) ..
  isplitl [H7]
  · iexists _; isplitr; swap; · iexact H7
    ipureintro; exact rm7 (f7 := f7) ..
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

set_option maxHeartbeats 1000000 in
theorem body1_A (hc0 : cond1 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xm ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (mOut x0 x1 x2 (k1_pay3 x3)) ∗ owns (c : Thread nD τ) arg7 fullShare (mNext x0 x1 (k1_pay3 x3)) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
     ⊢ wp frame (wpE (defs₀ (F := F)) Variants.none c none) E (cc1_memory_read i arg2 harg2 arg3 harg3 arg4 harg4 arg5 harg5 arg6 harg6 arg7 harg7 arg8 harg8 arg9 harg9 arg10 harg10 arg11 harg11) K := by
  simp only [cc1_memory_read_eq_skeleton]; unfold cc1_memory_read_skel
  simp only [k1_part31_eq_skeleton]; unfold k1_part31_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%d11, %f11, -, H11⟩, Hk⟩
  subst hf2 hf3 hf4 hf5 hf7
  (set_option sl_exec.maxSteps 6 in
    sl_exec (disch := first | sl_exact hc0))
  generalize h7 : arg7.view.writes (Elt F) f7 [⟨Rect.unit (s := S32x256x256) ![0, 0, 0] S32x256x256.size inb_S32x256x256_S32x256x256_0_0_0, k1_pay3 (arg5.view.readAt (Elt F) (Rect.unit (s := S32x256x256) ![0, 0, 0] S32x256x256.size inb_S32x256x256_S32x256x256_0_0_0).toLoadRect f5)⟩] = g7
  have e7 : arg7.view.read (Elt F) g7 = k1_pay3 (arg5.view.read (Elt F) f5) := by
    rw [← h7, View.read_writes_full, View.readAt_full]
  rw [← e7]
  sl_exec (disch := first | sl_exact hc0)
  sl_step
  sl_unfold_run_names
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; exact rm6 (f7 := g7) ..
  isplitl [H7]
  · iexists _; isplitr; swap; · iexact H7
    ipureintro; exact rm7 (f7 := g7) ..
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl
end

end Cert.KernelIdeal.Hand

end
-- ==== Proof.KI.Reg1.lean ====
module

public import proofs.«01_k».proof.Proof.KI.MemBody
public import proofs.«01_k».proof.Proof.Gen.KernelIdeal.Regions
public import Idealize.ShloMosaic.Lib.Pipeline.RegionArraysS

@[expose] public section

set_option maxRecDepth 16384

noncomputable section

/-! The memory call's run: what each point finds and leaves, and the obligation its body meets. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (W : Dev nD → Valuation τ sig (Elt F))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))
abbrev x1_0 (c : Dev nD) (t : Fin cfg1.N) : Vec F S125x32x256 .bf16 := iblk1 W c 0 t
abbrev x1_1 (c : Dev nD) (t : Fin cfg1.N) : Vec F S125x32x256 .bf16 := iblk1 W c 1 t
abbrev x1_2 (c : Dev nD) (t : Fin cfg1.N) : Vec F S125x32x256 .bf16 := iblk1 W c 2 t
abbrev x1_3 (c : Dev nD) (t : Fin cfg1.N) : Vec F S32x256x256 .f32 := iblk1 W c 3 t

/-- The carried scratch the body computes from at point `t`, given what the point before left. -/
def start1 (W : Dev nD → Valuation τ sig (Elt F)) (c : Dev nD) (t : Fin cfg1.N) (s : Vec F S32x256x256 .f32) : Vec F S32x256x256 .f32 := if t.val % 20 = 0 then k1_pay3 (x1_3 W c t) else s
/-- What the body leaves in it. -/
def next1 (c : Dev nD) (t : Fin cfg1.N) (s : Vec F S32x256x256 .f32) : Vec F S32x256x256 .f32 := mNext (x1_0 W c t) (x1_1 W c t) s
/-- The carried scratch before point `n`. -/
def carry1 (c : Dev nD) : ℕ → Vec F S32x256x256 .f32
  | 0 => k1_pay3 (x1_3 W c ⟨0, by decide⟩)
  | n + 1 => if h : n < cfg1.N then next1 W c ⟨n, h⟩ (start1 W c ⟨n, h⟩ (carry1 c n)) else carry1 c n
/-- The carried scratch the body computes from at point `t`. -/
def at1 (c : Dev nD) (t : Fin cfg1.N) : Vec F S32x256x256 .f32 := start1 W c t (carry1 W c t.val)

theorem carry1_succ (c : Dev nD) (t : Fin cfg1.N) : carry1 W c (t.val + 1) = next1 W c t (at1 W c t) := dif_pos t.isLt
theorem start1_reset (c : Dev nD) (t : Fin cfg1.N) (h : t.val % 20 = 0) (s : Vec F S32x256x256 .f32) : start1 W c t s = k1_pay3 (x1_3 W c t) := if_pos h
theorem start1_keep (c : Dev nD) (t : Fin cfg1.N) (h : ¬ t.val % 20 = 0) (s : Vec F S32x256x256 .f32) : start1 W c t s = s := if_neg h
/-- Result 0's block. -/
def res1_0 (c : Dev nD) (t : Fin cfg1.N) (s : Vec F S32x256x256 .f32) : Vec F S125x32x256 .bf16 := mOut (x1_0 W c t) (x1_1 W c t) (x1_2 W c t) s

/-- What the body holds of its own before point `n`: the carried scratch at its contents (unless the point resets it), the other scratch and
    the other calls' buffers at anything. -/
def Phi1 (c : Dev nD) (n : ℕ) : sProp 𝕄 :=
  iprop(∃ S : Vec F S32x256x256 .f32, ⌜¬ n % 20 = 0 → S = carry1 W c n⌝ ∗ (owns (c : Thread nD τ) (Memref.whole cc1_scratch0 : Memref sig .tc .vmem S32x256x256 .f32) fullShare (S) ∗ (∃ d, owns (c : Thread nD τ) (Memref.whole cc1_scratch1 : Memref sig .tc .vmem S32x125x256 .bf16) fullShare d) ∗ (∃ d, owns (c : Thread nD τ) (Memref.whole cc1_scratch2 : Memref sig .tc .vmem S32x125x256 .bf16) fullShare d) ∗ (∃ d, owns (c : Thread nD τ) (Memref.whole cc1_scratch3 : Memref sig .tc .vmem S32x125x256 .bf16) fullShare d) ∗ (∃ d, owns (c : Thread nD τ) (Memref.whole cc1_scratch4 : Memref sig .tc .vmem S32x125x256 .bf16) fullShare d))
    ∗ Pipeline.scopedRestBut (Ix := Unit) (Name := ℕ) (U := UR sig nD τ) (Lvl := ℕ) (Val := Elt F) spec1 c [cc1_scratch0, cc1_scratch1, cc1_scratch2, cc1_scratch3, cc1_scratch4])

/-- The call's proof data: the arrays as it finds them, each input's staging buffer at its block and each output's at the body's result. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => res1_0 W c t (at1 W c t)
  Φ t := Phi1 W c t.val
  q _ := fullShare
  owed _ := 0

theorem dat1_A (c : Dev nD) (w : Fin cfg1.W) : (dat1 W c).A w = W c (Proc.devRef .tc (Pipeline.arrRef spec1 w)) := by dsimp only [dat1]
theorem dat1_Phi (c : Dev nD) (t : Fin (cfg1.N + 1)) : (dat1 W c).Φ t = Phi1 W c t.val := by dsimp only [dat1]
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = res1_0 W c t (at1 W c t) := by dsimp only [dat1]
theorem before1_0 (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [dat1_A]; try rfl) t d).trans
    (by unfold Dat.fetched Dat.blockOf iblk1; rw [dat1_A]; try rfl)
theorem before1_2 (c : Dev nD) (t : Fin cfg1.N) (d) : (dat1 W c).before 2 t d = iblk1 W c 2 t :=
  ((dat1 W c).before_in_eq_fetched 2 rfl (fun _ => rfl) (fun _ _ _ => rfl) (fun t => by rw [after1_2]; unfold Dat.blockOf iblk1; rw [dat1_A]; try rfl) t d).trans
    (by unfold Dat.fetched Dat.blockOf iblk1; rw [dat1_A]; try rfl)
theorem before1_3 (c : Dev nD) (t : Fin cfg1.N) (d) : (dat1 W c).before 3 t d = iblk1 W c 3 t :=
  ((dat1 W c).before_in_eq_fetched 3 rfl (fun _ => rfl) (fun _ _ _ => rfl) (fun t => by rw [after1_3]; unfold Dat.blockOf iblk1; rw [dat1_A]; try rfl) t d).trans
    (by unfold Dat.fetched Dat.blockOf iblk1; rw [dat1_A]; try rfl)

theorem hcond1 : ∀ t : Fin cfg1.N, cond1 (grid1.coords t) ↔ t.val % 20 = 0 :=
  (fun t => by
    have ht : t.val < 160 := Nat.lt_of_lt_of_eq t.isLt N_1
    have e0 : (grid1.coords t 0).val = t.val / 20 % 8 := Pipeline.Grid.coords_val t 0 (by decide) rfl
    have e1 : (grid1.coords t 1).val = t.val / 1 % 20 := Pipeline.Grid.coords_val t 1 (by decide) rfl
    simp only [cond1, e0, e1]
    word_cmp
   : ∀ t : Fin grid1.N, cond1 (grid1.coords t) ↔ t.val % 20 = 0)

/-- What the body is called with at point `t`. -/
def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d)))

/-- What it returns. -/
def bodyPost1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ owns (c : Thread nD τ) (st1_3 t) fullShare ((dat1 W c).after 3 t)
    ∗ owns (c : Thread nD τ) (st1_4 t) fullShare ((dat1 W c).after 4 t))

set_option maxHeartbeats 2000000 in
/-- The body at any point. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3]
  rw [show (dat1 W c).owesAt () t.succ = (dat1 W c).owesAt () t.castSucc from rfl, after1_0, after1_1, after1_2, after1_3, after1_4,
    dat1_Phi, dat1_Phi, show (t.castSucc : Fin (cfg1.N + 1)).val = t.val from rfl, show (t.succ : Fin (cfg1.N + 1)).val = t.val + 1 from rfl]
  unfold Phi1
  rw [carry1_succ]
  iintro ⟨⟨%S, %hS, ⟨HS0, HS1, HS2, HS3, HS4⟩, Hr⟩, Ho, ⟨%d0, H0⟩, ⟨%d1, H1⟩, ⟨%d2, H2⟩, ⟨%d3, H3⟩, ⟨%d4, H4⟩⟩
  by_cases h0 : t.val % 20 = 0
  · skip
    rw [show at1 W c t = _ from start1_reset W c t h0 _]
    iapply (body1_A c (grid1.coords t) _ _ _ _ _ _ _ _ _ _ _ _ _ _ _ _ _ _ _ _ (x1_0 W c t) (x1_1 W c t) (x1_2 W c t) (x1_3 W c t) (S) ((hcond1 t).mpr h0) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨H0, H1, H2, H3, H4, HS0, HS1, HS2, HS3, HS4⟩
    isplitl [HS0 HS1 HS2 HS3 HS4 Hr]
    · iexists _; isplitr; · ipureintro; exact fun _ => rfl
      isplitr [Hr]
      · isplitl [HS0]; · iexact HS0
        isplitl [HS1]; · iexact HS1
        isplitl [HS2]; · iexact HS2
        isplitl [HS3]; · iexact HS3
        iexact HS4
      iexact Hr
    isplitl [Ho]; · iexact Ho
    isplitl [H0]; · iexact H0
    isplitl [H1]; · iexact H1
    isplitl [H2]; · iexact H2
    isplitl [H3]; · iexact H3
    iexact H4
  · skip
    obtain rfl := hS h0
    rw [show at1 W c t = _ from start1_keep W c t h0 _]
    iapply (body1_B c (grid1.coords t) _ _ _ _ _ _ _ _ _ _ _ _ _ _ _ _ _ _ _ _ (x1_0 W c t) (x1_1 W c t) (x1_2 W c t) (x1_3 W c t) (carry1 W c t.val) (fun h => h0 ((hcond1 t).mp h)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨H0, H1, H2, H3, H4, HS0, HS1, HS2, HS3, HS4⟩
    isplitl [HS0 HS1 HS2 HS3 HS4 Hr]
    · iexists _; isplitr; · ipureintro; exact fun _ => rfl
      isplitr [Hr]
      · isplitl [HS0]; · iexact HS0
        isplitl [HS1]; · iexact HS1
        isplitl [HS2]; · iexact HS2
        isplitl [HS3]; · iexact HS3
        iexact HS4
      iexact Hr
    isplitl [Ho]; · iexact Ho
    isplitl [H0]; · iexact H0
    isplitl [H1]; · iexact H1
    isplitl [H2]; · iexact H2
    isplitl [H3]; · iexact H3
    iexact H4

/-- The obligation at every point. -/
theorem obligation1 (c : Dev nD) : BodyObligation (dat1 (F := F) W c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (sound_body1 W c t) rfl .rfl fun _ => .rfl

/-- The launch hands the body's invariant, and gets its buffers back at the end. -/
theorem hin1 (c : Dev nD) : iprop(Pipeline.scopedRest (Ix := Unit) (Name := ℕ) (U := UR sig nD τ) (Lvl := ℕ) (Val := Elt F) spec1 c ∗ BI.emp) ⊢ (dat1 W c).Φ 0 := by
  rw [dat1_Phi, scopedRest1_split]
  simp only [← owns_whole]
  unfold Phi1
  iintro ⟨⟨⟨⟨%s0, HS0⟩, HS1, HS2, HS3, HS4⟩, Hr⟩, -⟩
  iexists (s0)
  isplitr; · ipureintro; exact fun h => absurd rfl h
  isplitr [Hr]
  · isplitl [HS0]; · iexact HS0
    isplitl [HS1]; · iexact HS1
    isplitl [HS2]; · iexact HS2
    isplitl [HS3]; · iexact HS3
    iexact HS4
  iexact Hr
theorem hout1 (c : Dev nD) : (dat1 W c).Φ (Fin.last cfg1.N) ⊢ iprop(Pipeline.scopedRest (Ix := Unit) (Name := ℕ) (U := UR sig nD τ) (Lvl := ℕ) (Val := Elt F) spec1 c ∗ BI.emp) := by
  rw [dat1_Phi, scopedRest1_split]
  simp only [← owns_whole]
  unfold Phi1
  iintro ⟨%S, -, ⟨HS0, HS1, HS2, HS3, HS4⟩, Hr⟩
  isplitl [HS0 HS1 HS2 HS3 HS4 Hr]; swap; · iempintro
  isplitr [Hr]
  · isplitl [HS0]; · iexists _; iexact HS0
    isplitl [HS1]; · iexact HS1
    isplitl [HS2]; · iexact HS2
    isplitl [HS3]; · iexact HS3
    iexact HS4
  iexact Hr
end

end Cert.KernelIdeal.Hand

end
-- ==== Proof.KI.ReadDefs.lean ====
module

public import proofs.«01_k».proof.Proof.Gen.KernelIdeal.Skeleton
public import proofs.«01_k».proof.Proof.Gen.KernelIdeal.Loops
public import Idealize.ShloMosaic.Lib.VecWindow
public import Idealize.ShloMosaic.Lib.Pipeline.FrameBody

@[expose] public section

set_option maxRecDepth 16384

noncomputable section

/-! What one grid point of the third call computes, as functions of its block and of the carried scratch. -/

namespace Cert.KernelIdeal.Hand

open Cert.KernelIdeal Cert.KernelIdeal.Gen
open Idealize.ShloMosaic Idealize.ShloMosaic.TcCoe

variable {F : FTy → Type} [FloatOps F]

/-- The readout neuron's state: current, voltage, last tanh. -/
abbrev StR (F : FTy → Type) [FloatOps F] := FVec F S64x256 .f32 × FVec F S64x256 .f32 × FVec F S64x256 .f32

/-- The retrieved drive of step `k`. -/
def rPlane (X : Vec F S50x64x256 .bf16) (k : Fin 50) : Vec F S1x64x256 .bf16 :=
  VecWindow.window (s := S50x64x256) X ![k.val, 0, 0] S1x64x256.size (by intro a; fin_cases a <;> simp <;> omega)

/-- The readout neuron's step. -/
def rStep (x : Vec F S1x64x256 .bf16) (s : StR F) : StR F := (k2_pay9 s.1 x, k2_pay10 s.1 s.2.1 s.2.2 x, k2_pay11 s.1 s.2.1 s.2.2 x)

/-- Its state after `k` steps. -/
def rIt (g : Fin 50 → Vec F S1x64x256 .bf16) (init : StR F) : ℕ → StR F
  | 0 => init
  | k + 1 => if h : k < 50 then rStep (g ⟨k, h⟩) (rIt g init k) else rIt g init k

/-- The sum of the activations of the first `k` steps from step 19 on. -/
def accIt (g : Fin 50 → Vec F S1x64x256 .bf16) (init : StR F) : ℕ → Vec F S64x256 .f32
  | 0 => k2_pay5
  | k + 1 => if h : k + 19 < 50 then k2_pay15 (rIt g init (k + 19)).1 (rIt g init (k + 19)).2.1 (rIt g init (k + 19)).2.2 (g ⟨k + 19, h⟩) (accIt g init k) else accIt g init k

/-- The neuron's state read from its scratch. -/
def getR (x : Vec F S3x64x256 .f32) : StR F :=
  (k2_pay6 (VecWindow.window (s := S3x64x256) x ![0, 0, 0] S1x64x256.size (by decide)),
    k2_pay7 (VecWindow.window (s := S3x64x256) x ![1, 0, 0] S1x64x256.size (by decide)),
    k2_pay8 (VecWindow.window (s := S3x64x256) x ![2, 0, 0] S1x64x256.size (by decide)))

/-- The scratch with a state written into it. -/
def putR (x : Vec F S3x64x256 .f32) (s : StR F) : Vec F S3x64x256 .f32 :=
  VecWindow.put (VecWindow.put (VecWindow.put x ![0, 0, 0] S1x64x256.size (k2_pay19 s.1)) ![1, 0, 0] S1x64x256.size (k2_pay1 s.2.1)) ![2, 0, 0] S1x64x256.size (k2_pay2 s.2.2)

/-- The scratch after the point, over what it holds after the reset. -/
def rN (x0 : Vec F S50x64x256 .bf16) (xs : Vec F S3x64x256 .f32) : Vec F S3x64x256 .f32 := putR xs (rIt (rPlane x0) (getR xs) 50)
/-- The result's block. -/
def rOut (x0 : Vec F S50x64x256 .bf16) (xs : Vec F S3x64x256 .f32) : Vec F S1x64x256 .f32 := k2_pay3 (accIt (rPlane x0) (getR xs) 30)

end Cert.KernelIdeal.Hand

end
-- ==== Proof.KI.ReadBody.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.ReadDefs
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the readout body's first branch: the grid's second coordinate is 0. -/
abbrev cond2 (i : grid2.Coords) : Prop := (Scalar.cmpi .ne (Scalar.extui (Scalar.cmpi .eq (BitVec.ofNat 32 (i 1).val) 0#32)) 0#32) = 1#1

theorem rtrips_t1 : k2_t1_loop.trips = 19 := by decide
theorem rtrips_t2 : k2_t2_loop.trips = 30 := by decide
theorem rtrips_t3 : k2_t3_loop.trips = 1 := by decide
theorem rtr1 : (Scf.trips k2_t1_loop.lb k2_t1_loop.ub k2_t1_loop.st) = 19 := by decide
theorem rtr2 : (Scf.trips k2_t2_loop.lb k2_t2_loop.ub k2_t2_loop.st) = 30 := by decide
theorem rtr3 : (Scf.trips k2_t3_loop.lb k2_t3_loop.ub k2_t3_loop.st) = 1 := by decide

section
variable (c : Dev nD) (i : grid2.Coords) (arg2 : Memref sig .tc .vmem S50x64x256 .bf16) (harg2 : arg2.IsWhole) (arg3 : Memref sig .tc .vmem S1x64x256 .f32) (harg3 : arg3.IsWhole) (arg4 : Memref sig .tc .vmem S3x64x256 .f32) (harg4 : arg4.IsWhole) (arg5 : Memref sig .tc .vmem S64x256 .f32) (harg5 : arg5.IsWhole)

/-- What a trip loads. -/
theorem rplane_of {f : BufTy.Contents (Elt F) arg2.view.ty} (k : Fin 50) {off : Fin 3 → ℕ} (h : off = ![k.val, 0, 0]) (inb) :
    arg2.view.readAt (Elt F) (Rect.unit (s := S50x64x256) off ![1, 64, 256] inb).toLoadRect f = rPlane (arg2.view.read (Elt F) f) k :=
  View.readAt_unit arg2.view f inb h _

theorem r1_val (X : BufTy.Contents (Elt F) arg2.view.ty) (init0 : StR F) (init : StR F) (hi : init = rIt (rPlane (arg2.view.read (Elt F) X)) init0 0) :
    ∀ k : ℕ, k ≤ 19 → st_k2_t1 (F := F) Variants.none c none i arg2 harg2 arg3 harg3 arg4 harg4 arg5 harg5 X init k = rIt (rPlane (arg2.view.read (Elt F) X)) init0 (k + 0)
  | 0, _ => hi.trans (by rw [Nat.zero_add])
  | k + 1, hk => by
    have e := st_k2_t1_succ (F := F) Variants.none c none i arg2 harg2 arg3 harg3 arg4 harg4 arg5 harg5 X init ⟨k, by rw [rtrips_t1]; omega⟩
    rw [show k + 1 = (⟨k, by rw [rtrips_t1]; omega⟩ : Fin k2_t1_loop.trips).val + 1 from rfl, e]
    unfold tripR_k2_t1 trip_k2_t1
    dsimp only
    rw [r1_val X init0 init hi k (by omega), show k + 1 + 0 = (k + 0) + 1 by omega]
    set_option backward.isDefEq.respectTransparency false in
    rw [rplane_of (F := F) arg2 (f := X) ⟨k + 0, by omega⟩ (k2_off1_eq ⟨k, by rw [rtrips_t1]; omega⟩)]
    simp only [rIt, show k + 0 < 50 by omega, show k < 50 by omega, dite_true]
    rfl

theorem r3_val (X : BufTy.Contents (Elt F) arg2.view.ty) (init0 : StR F) (init : StR F) (hi : init = rIt (rPlane (arg2.view.read (Elt F) X)) init0 49) :
    ∀ k : ℕ, k ≤ 1 → st_k2_t3 (F := F) Variants.none c none i arg2 harg2 arg3 harg3 arg4 harg4 arg5 harg5 X init k = rIt (rPlane (arg2.view.read (Elt F) X)) init0 (k + 49)
  | 0, _ => hi.trans (by rw [Nat.zero_add])
  | k + 1, hk => by
    have e := st_k2_t3_succ (F := F) Variants.none c none i arg2 harg2 arg3 harg3 arg4 harg4 arg5 harg5 X init ⟨k, by rw [rtrips_t3]; omega⟩
    rw [show k + 1 = (⟨k, by rw [rtrips_t3]; omega⟩ : Fin k2_t3_loop.trips).val + 1 from rfl, e]
    unfold tripR_k2_t3 trip_k2_t3
    dsimp only
    rw [r3_val X init0 init hi k (by omega), show k + 1 + 49 = (k + 49) + 1 by omega]
    set_option backward.isDefEq.respectTransparency false in
    rw [rplane_of (F := F) arg2 (f := X) ⟨k + 49, by omega⟩ (k2_off3_eq ⟨k, by rw [rtrips_t3]; omega⟩)]
    simp only [rIt, show k + 49 < 50 by omega, show k < 50 by omega, dite_true]
    rfl

theorem r2_val (X : BufTy.Contents (Elt F) arg2.view.ty) (G : BufTy.Contents (Elt F) arg5.view.ty) (hG : arg5.view.read (Elt F) G = k2_pay5) (init0 : StR F) (init : StR F) (hi : init = rIt (rPlane (arg2.view.read (Elt F) X)) init0 19) :
    ∀ k : ℕ, k ≤ 30 → (st_k2_t2 (F := F) Variants.none c none i arg2 harg2 arg3 harg3 arg4 harg4 arg5 harg5 X G init k).1 = rIt (rPlane (arg2.view.read (Elt F) X)) init0 (k + 19)
      ∧ arg5.view.read (Elt F) (arg5.view.writes (Elt F) G (st_k2_t2 (F := F) Variants.none c none i arg2 harg2 arg3 harg3 arg4 harg4 arg5 harg5 X G init k).2) = accIt (rPlane (arg2.view.read (Elt F) X)) init0 k
  | 0, _ => ⟨hi.trans (by rw [Nat.zero_add]), hG⟩
  | k + 1, hk => by
    have e := st_k2_t2_succ (F := F) Variants.none c none i arg2 harg2 arg3 harg3 arg4 harg4 arg5 harg5 X G init ⟨k, by rw [rtrips_t2]; omega⟩
    obtain ⟨i1, i2⟩ := r2_val X G hG init0 init hi k (by omega)
    rw [show k + 1 = (⟨k, by rw [rtrips_t2]; omega⟩ : Fin k2_t2_loop.trips).val + 1 from rfl, e]
    unfold tripR_k2_t2 tripL_k2_t2 trip_k2_t2
    dsimp only
    rw [i1, show k + 1 + 19 = (k + 19) + 1 by omega]
    set_option backward.isDefEq.respectTransparency false in
    rw [rplane_of (F := F) arg2 (f := X) ⟨k + 19, by omega⟩ (k2_off2_eq ⟨k, by rw [rtrips_t2]; omega⟩)]
    refine ⟨?_, ?_⟩
    · simp only [rIt, show k + 19 < 50 by omega, dite_true]
      rfl
    · rw [List.singleton_append]
      refine (View.read_writes_full ..).trans ?_
      simp only [accIt, show k + 19 < 50 by omega, dite_true]
      rw [← i2]
      exact congrArg _ (View.readAt_full ..)

variable (f2 : BufTy.Contents (Elt F) arg2.view.ty) (f3 : BufTy.Contents (Elt F) arg3.view.ty) (f4 : BufTy.Contents (Elt F) arg4.view.ty)

/-- The three loops, run to their ends. -/
abbrev L1 := st_k2_t1 (F := F) Variants.none c none i arg2 harg2 arg3 harg3 arg4 harg4 arg5 harg5 f2 (k2_pay6 (arg4.view.readAt (Elt F) (Rect.unit (s := S3x64x256) ![0, 0, 0] S1x64x256.size (by decide)).toLoadRect f4), k2_pay7 (arg4.view.readAt (Elt F) (Rect.unit (s := S3x64x256) ![1, 0, 0] S1x64x256.size (by decide)).toLoadRect f4), k2_pay8 (arg4.view.readAt (Elt F) (Rect.unit (s := S3x64x256) ![2, 0, 0] S1x64x256.size (by decide)).toLoadRect f4)) (Scf.trips k2_t1_loop.lb k2_t1_loop.ub k2_t1_loop.st)
abbrev L2 := st_k2_t2 (F := F) Variants.none c none i arg2 harg2 arg3 harg3 arg4 harg4 arg5 harg5 f2 (arg5.view.writes (Elt F) arg5.view.junk [⟨(Rect.unit (s := S64x256) ![0, 0] S64x256.size (by decide)), k2_pay5⟩]) ((L1 c i arg2 harg2 arg3 harg3 arg4 harg4 arg5 harg5 f2 f4).1, (L1 c i arg2 harg2 arg3 harg3 arg4 harg4 arg5 harg5 f2 f4).2.1, (L1 c i arg2 harg2 arg3 harg3 arg4 harg4 arg5 harg5 f2 f4).2.2) (Scf.trips k2_t2_loop.lb k2_t2_loop.ub k2_t2_loop.st)
abbrev L3 := st_k2_t3 (F := F) Variants.none c none i arg2 harg2 arg3 harg3 arg4 harg4 arg5 harg5 f2 (((L2 c i arg2 harg2 arg3 harg3 arg4 harg4 arg5 harg5 f2 f4).1).1, ((L2 c i arg2 harg2 arg3 harg3 arg4 harg4 arg5 harg5 f2 f4).1).2.1, ((L2 c i arg2 harg2 arg3 harg3 arg4 harg4 arg5 harg5 f2 f4).1).2.2) (Scf.trips k2_t3_loop.lb k2_t3_loop.ub k2_t3_loop.st)

theorem l1_val : L1 c i arg2 harg2 arg3 harg3 arg4 harg4 arg5 harg5 f2 f4 = rIt (rPlane (arg2.view.read (Elt F) f2)) (getR (arg4.view.read (Elt F) f4)) 19 := by
  unfold L1
  rw [rtr1]
  exact r1_val c i arg2 harg2 arg3 harg3 arg4 harg4 arg5 harg5 f2 (getR (arg4.view.read (Elt F) f4)) _ rfl 19 le_rfl

theorem l2_val : (L2 c i arg2 harg2 arg3 harg3 arg4 harg4 arg5 harg5 f2 f4).1 = rIt (rPlane (arg2.view.read (Elt F) f2)) (getR (arg4.view.read (Elt F) f4)) 49
    ∧ arg5.view.read (Elt F) (arg5.view.writes (Elt F) (arg5.view.writes (Elt F) arg5.view.junk [⟨(Rect.unit (s := S64x256) ![0, 0] S64x256.size (by decide)), k2_pay5⟩]) (L2 c i arg2 harg2 arg3 harg3 arg4 harg4 arg5 harg5 f2 f4).2) = accIt (rPlane (arg2.view.read (Elt F) f2)) (getR (arg4.view.read (Elt F) f4)) 30 := by
  unfold L2
  rw [rtr2]
  exact r2_val c i arg2 harg2 arg3 harg3 arg4 harg4 arg5 harg5 f2 _ (View.read_writes_full ..) (getR (arg4.view.read (Elt F) f4)) _ (l1_val ..) 30 le_rfl

theorem l3_val : L3 c i arg2 harg2 arg3 harg3 arg4 harg4 arg5 harg5 f2 f4 = rIt (rPlane (arg2.view.read (Elt F) f2)) (getR (arg4.view.read (Elt F) f4)) 50 := by
  unfold L3
  rw [rtr3]
  exact r3_val c i arg2 harg2 arg3 harg3 arg4 harg4 arg5 harg5 f2 (getR (arg4.view.read (Elt F) f4)) _ (l2_val ..).1 1 le_rfl

/-- A state written into the scratch covers it. -/
theorem putR_any (xs xs' : Vec F S3x64x256 .f32) (s : StR F) : putR xs s = putR xs' s := by
  funext y
  unfold putR VecWindow.put
  have h0 : (y 0).val < 3 := (y 0).isLt
  have h1 : (y 1).val < 64 := (y 1).isLt
  have h2 : (y 2).val < 256 := (y 2).isLt
  split
  · rfl
  · rename_i n2
    split
    · rfl
    · rename_i n1
      split
      · rfl
      · rename_i n0
        simp [Fin.forall_fin_succ] at n0 n1 n2
        omega

theorem rr3 : arg3.view.read (Elt F) (arg3.view.writes (Elt F) f3 [⟨(Rect.unit (s := S1x64x256) ![0, 0, 0] S1x64x256.size (by decide)), k2_pay3 (arg5.view.readCov ((L2 c i arg2 harg2 arg3 harg3 arg4 harg4 arg5 harg5 f2 f4).2 ++ [⟨(Rect.unit (s := S64x256) ![0, 0] S64x256.size (by decide)), k2_pay5⟩]) (Rect.unit (s := S64x256) ![0, 0] S64x256.size (by decide)).toLoadRect)⟩])
    = rOut (arg2.view.read (Elt F) f2) (arg4.view.read (Elt F) f4) := by
  rw [View.read_writes_full]
  unfold View.readCov
  rw [View.readAt_full, View.writes_append, (l2_val ..).2]
  rfl

theorem rr4 (b : BufTy.Contents (Elt F) arg4.view.ty) : arg4.view.read (Elt F) (arg4.view.writes (Elt F) b [⟨(Rect.unit (s := S3x64x256) ![2, 0, 0] S1x64x256.size (by decide)), k2_pay2 (L3 c i arg2 harg2 arg3 harg3 arg4 harg4 arg5 harg5 f2 f4).2.2⟩, ⟨(Rect.unit (s := S3x64x256) ![1, 0, 0] S1x64x256.size (by decide)), k2_pay1 (L3 c i arg2 harg2 arg3 harg3 arg4 harg4 arg5 harg5 f2 f4).2.1⟩, ⟨(Rect.unit (s := S3x64x256) ![0, 0, 0] S1x64x256.size (by decide)), k2_pay19 (L3 c i arg2 harg2 arg3 harg3 arg4 harg4 arg5 harg5 f2 f4).1⟩])
    = rN (arg2.view.read (Elt F) f2) (arg4.view.read (Elt F) f4) := by
  rw [View.read_writes_cons_put _ _ _ _ _ rfl, View.read_writes_cons_put _ _ _ _ _ rfl, View.read_writes_cons_put _ _ _ _ _ rfl, l3_val]
  exact putR_any _ _ _

end

section
variable (c : Dev nD) (i : grid2.Coords) (arg2 : Memref sig .tc .vmem S50x64x256 .bf16) (harg2 : arg2.IsWhole) (arg3 : Memref sig .tc .vmem S1x64x256 .f32) (harg3 : arg3.IsWhole) (arg4 : Memref sig .tc .vmem S3x64x256 .f32) (harg4 : arg4.IsWhole) (arg5 : Memref sig .tc .vmem S64x256 .f32) (harg5 : arg5.IsWhole) (x0 : Vec F S50x64x256 .bf16) (xs : Vec F S3x64x256 .f32)

set_option maxHeartbeats 1000000 in
/-- A grid point that does not reset the scratch. -/
theorem body2_B (hc0 : ¬ cond2 i) (E : Set ℕ) (K : PUnit → sProp 𝕄) :
    iprop(owns (c : Thread nD τ) arg2 fullShare x0 ∗ (∃ d, owns (c : Thread nD τ) arg3 fullShare d) ∗ owns (c : Thread nD τ) arg4 fullShare xs ∗ (∃ d, owns (c : Thread nD τ) arg5 fullShare d)
      ∗ (iprop(owns (c : Thread nD τ) arg2 fullShare x0 ∗ owns (c : Thread nD τ) arg3 fullShare (rOut x0 xs) ∗ owns (c : Thread nD τ) arg4 fullShare (rN x0 xs) ∗ (∃ d, owns (c : Thread nD τ) arg5 fullShare d)) -∗ K ⟨⟩))
     ⊢ wp frame (wpE (defs₀ (F := F)) Variants.none c none) E (cc2_readout i arg2 harg2 arg3 harg3 arg4 harg4 arg5 harg5) K := by
  simp only [cc2_readout_eq_skeleton]; unfold cc2_readout_skel
  simp only [k2_part1_eq_skeleton]
  unfold owns
  iintro ⟨⟨%f2, %hf2, H2⟩, ⟨%d3, %f3, -, H3⟩, ⟨%f4, %hf4, H4⟩, ⟨%d5, %f5, -, H5⟩, Hk⟩
  subst hf2 hf4
  sl_exec (disch := first | sl_exact hc0)
  sl_step
  sl_unfold_run_names
  iapply Hk
  isplitl [H2]
  · iexists _; isplitr; swap; · iexact H2
    ipureintro; rfl
  isplitl [H3]
  · iexists _; isplitr; swap; · iexact H3
    ipureintro; exact rr3 ..
  isplitl [H4]
  · iexists _; isplitr; swap; · iexact H4
    ipureintro; exact rr4 ..
  iexists _, _; isplitr; swap; · iexact H5
  ipureintro; rfl

set_option maxHeartbeats 1000000 in
/-- A grid point that resets the scratch first. -/
theorem body2_A (hc0 : cond2 i) (E : Set ℕ) (K : PUnit → sProp 𝕄) :
    iprop(owns (c : Thread nD τ) arg2 fullShare x0 ∗ (∃ d, owns (c : Thread nD τ) arg3 fullShare d) ∗ owns (c : Thread nD τ) arg4 fullShare xs ∗ (∃ d, owns (c : Thread nD τ) arg5 fullShare d)
      ∗ (iprop(owns (c : Thread nD τ) arg2 fullShare x0 ∗ owns (c : Thread nD τ) arg3 fullShare (rOut x0 k2_pay4) ∗ owns (c : Thread nD τ) arg4 fullShare (rN x0 k2_pay4) ∗ (∃ d, owns (c : Thread nD τ) arg5 fullShare d)) -∗ K ⟨⟩))
     ⊢ wp frame (wpE (defs₀ (F := F)) Variants.none c none) E (cc2_readout i arg2 harg2 arg3 harg3 arg4 harg4 arg5 harg5) K := by
  simp only [cc2_readout_eq_skeleton]; unfold cc2_readout_skel
  simp only [k2_part1_eq_skeleton]
  unfold owns
  iintro ⟨⟨%f2, %hf2, H2⟩, ⟨%d3, %f3, -, H3⟩, ⟨%f4, %hf4, H4⟩, ⟨%d5, %f5, -, H5⟩, Hk⟩
  subst hf2 hf4
  (set_option sl_exec.maxSteps 4 in
    sl_exec (disch := first | sl_exact hc0))
  generalize h4 : arg4.view.writes (Elt F) f4 [⟨Rect.unit (s := S3x64x256) ![0, 0, 0] S3x64x256.size inb_S3x64x256_S3x64x256_0_0_0, k2_pay4⟩] = g4
  have e4 : arg4.view.read (Elt F) g4 = k2_pay4 := h4 ▸ View.read_writes_full ..
  rw [← e4]
  sl_exec (disch := first | sl_exact hc0)
  sl_step
  sl_unfold_run_names
  iapply Hk
  isplitl [H2]
  · iexists _; isplitr; swap; · iexact H2
    ipureintro; rfl
  isplitl [H3]
  · iexists _; isplitr; swap; · iexact H3
    ipureintro; exact rr3 ..
  isplitl [H4]
  · iexists _; isplitr; swap; · iexact H4
    ipureintro; exact rr4 ..
  iexists _, _; isplitr; swap; · iexact H5
  ipureintro; rfl
end

end Cert.KernelIdeal.Hand

end
-- ==== Proof.KI.Reg2.lean ====
module

public import proofs.«01_k».proof.Proof.KI.ReadBody
public import proofs.«01_k».proof.Proof.Gen.KernelIdeal.Regions
public import Idealize.ShloMosaic.Lib.Pipeline.RegionArraysS

@[expose] public section

set_option maxRecDepth 16384

noncomputable section

/-! The readout call's run: what each point finds and leaves, and the obligation its body meets. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (W : Dev nD → Valuation τ sig (Elt F))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))
abbrev x2_0 (c : Dev nD) (t : Fin cfg2.N) : Vec F S50x64x256 .bf16 := iblk2 W c 0 t

/-- The carried scratch the body computes from at point `t`, given what the point before left. -/
def start2 (W : Dev nD → Valuation τ sig (Elt F)) (c : Dev nD) (t : Fin cfg2.N) (s : Vec F S3x64x256 .f32) : Vec F S3x64x256 .f32 := if t.val % 50 = 0 then k2_pay4 else s
/-- What the body leaves in it. -/
def next2 (c : Dev nD) (t : Fin cfg2.N) (s : Vec F S3x64x256 .f32) : Vec F S3x64x256 .f32 := rN (x2_0 W c t) s
/-- The carried scratch before point `n`. -/
def carry2 (c : Dev nD) : ℕ → Vec F S3x64x256 .f32
  | 0 => k2_pay4
  | n + 1 => if h : n < cfg2.N then next2 W c ⟨n, h⟩ (start2 W c ⟨n, h⟩ (carry2 c n)) else carry2 c n
/-- The carried scratch the body computes from at point `t`. -/
def at2 (c : Dev nD) (t : Fin cfg2.N) : Vec F S3x64x256 .f32 := start2 W c t (carry2 W c t.val)

theorem carry2_succ (c : Dev nD) (t : Fin cfg2.N) : carry2 W c (t.val + 1) = next2 W c t (at2 W c t) := dif_pos t.isLt
theorem start2_reset (c : Dev nD) (t : Fin cfg2.N) (h : t.val % 50 = 0) (s : Vec F S3x64x256 .f32) : start2 W c t s = k2_pay4 := if_pos h
theorem start2_keep (c : Dev nD) (t : Fin cfg2.N) (h : ¬ t.val % 50 = 0) (s : Vec F S3x64x256 .f32) : start2 W c t s = s := if_neg h
/-- Result 0's block. -/
def res2_0 (c : Dev nD) (t : Fin cfg2.N) (s : Vec F S3x64x256 .f32) : Vec F S1x64x256 .f32 := rOut (x2_0 W c t) s

/-- What the body holds of its own before point `n`: the carried scratch at its contents (unless the point resets it), the other scratch and
    the other calls' buffers at anything. -/
def Phi2 (c : Dev nD) (n : ℕ) : sProp 𝕄 :=
  iprop(∃ S : Vec F S3x64x256 .f32, ⌜¬ n % 50 = 0 → S = carry2 W c n⌝ ∗ (owns (c : Thread nD τ) (Memref.whole cc2_scratch0 : Memref sig .tc .vmem S3x64x256 .f32) fullShare (S) ∗ (∃ d, owns (c : Thread nD τ) (Memref.whole cc2_scratch1 : Memref sig .tc .vmem S64x256 .f32) fullShare d))
    ∗ Pipeline.scopedRestBut (Ix := Unit) (Name := ℕ) (U := UR sig nD τ) (Lvl := ℕ) (Val := Elt F) spec2 c [cc2_scratch0, cc2_scratch1])

/-- The call's proof data: the arrays as it finds them, each input's staging buffer at its block and each output's at the body's result. -/
def dat2 (c : Dev nD) : Dat τ (Elt F) Unit ℕ (UR sig nD τ) ℕ cfg2 c where
  A w := W c (Proc.devRef .tc (Pipeline.arrRef spec2 w))
  after w t := match w with
    | ⟨0, _⟩ => iblk2 W c 0 t
    | ⟨1, _⟩ => res2_0 W c t (at2 W c t)
  Φ t := Phi2 W c t.val
  q _ := fullShare
  owed _ := 0

theorem dat2_A (c : Dev nD) (w : Fin cfg2.W) : (dat2 W c).A w = W c (Proc.devRef .tc (Pipeline.arrRef spec2 w)) := by dsimp only [dat2]
theorem dat2_Phi (c : Dev nD) (t : Fin (cfg2.N + 1)) : (dat2 W c).Φ t = Phi2 W c t.val := by dsimp only [dat2]
theorem after2_0 (c : Dev nD) (t : Fin cfg2.N) : (dat2 W c).after 0 t = iblk2 W c 0 t := by dsimp only [dat2]
theorem after2_1 (c : Dev nD) (t : Fin cfg2.N) : (dat2 W c).after 1 t = res2_0 W c t (at2 W c t) := by dsimp only [dat2]
theorem before2_0 (c : Dev nD) (t : Fin cfg2.N) (d) : (dat2 W c).before 0 t d = iblk2 W c 0 t :=
  ((dat2 W c).before_in_eq_fetched 0 rfl (fun _ => rfl) (fun _ _ _ => rfl) (fun t => by rw [after2_0]; unfold Dat.blockOf iblk2; rw [dat2_A]; try rfl) t d).trans
    (by unfold Dat.fetched Dat.blockOf iblk2; rw [dat2_A]; try rfl)

theorem hcond2 : ∀ t : Fin cfg2.N, cond2 (grid2.coords t) ↔ t.val % 50 = 0 :=
  (fun t => by
    have ht : t.val < 200 := Nat.lt_of_lt_of_eq t.isLt N_2
    have e0 : (grid2.coords t 0).val = t.val / 50 % 4 := Pipeline.Grid.coords_val t 0 (by decide) rfl
    have e1 : (grid2.coords t 1).val = t.val / 1 % 50 := Pipeline.Grid.coords_val t 1 (by decide) rfl
    simp only [cond2, e0, e1]
    word_cmp
   : ∀ t : Fin grid2.N, cond2 (grid2.coords t) ↔ t.val % 50 = 0)

/-- What the body is called with at point `t`. -/
def bodyPre2 (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d))
    ∗ (∃ d, owns (c : Thread nD τ) (st2_1 t) fullShare ((dat2 W c).before 1 t d)))

/-- What it returns. -/
def bodyPost2 (c : Dev nD) (t : Fin cfg2.N) : sProp 𝕄 :=
  iprop((dat2 W c).Φ t.succ ∗ (dat2 W c).owesAt () t.succ
    ∗ owns (c : Thread nD τ) (st2_0 t) fullShare ((dat2 W c).after 0 t)
    ∗ owns (c : Thread nD τ) (st2_1 t) fullShare ((dat2 W c).after 1 t))

set_option maxHeartbeats 2000000 in
/-- The body at any point. -/
theorem sound_body2 (c : Dev nD) (t : Fin cfg2.N) :
    bodyPre2 W c t ⊢ wp frame (wpE (defs₀ (F := F)) Variants.none c none) Set.univ (bodyAt2 t) (fun _ => bodyPost2 W c t) := by
  unfold bodyPre2 bodyPost2 bodyAt2
  simp only [before2_0]
  rw [show (dat2 W c).owesAt () t.succ = (dat2 W c).owesAt () t.castSucc from rfl, after2_0, after2_1,
    dat2_Phi, dat2_Phi, show (t.castSucc : Fin (cfg2.N + 1)).val = t.val from rfl, show (t.succ : Fin (cfg2.N + 1)).val = t.val + 1 from rfl]
  unfold Phi2
  rw [carry2_succ]
  iintro ⟨⟨%S, %hS, ⟨HS0, HS1⟩, Hr⟩, Ho, ⟨%d0, H0⟩, ⟨%d1, H1⟩⟩
  by_cases h0 : t.val % 50 = 0
  · skip
    rw [show at2 W c t = _ from start2_reset W c t h0 _]
    iapply (body2_A c (grid2.coords t) _ _ _ _ _ _ _ _ (x2_0 W c t) (S) ((hcond2 t).mpr h0) Set.univ _)
    isplitl [H0]; · iexact H0
    isplitl [H1]; · iexists _; iexact H1
    isplitl [HS0]; · iexact HS0
    isplitl [HS1]; · iexact HS1
    iintro ⟨H0, H1, HS0, HS1⟩
    isplitl [HS0 HS1 Hr]
    · iexists _; isplitr; · ipureintro; exact fun _ => rfl
      isplitr [Hr]
      · isplitl [HS0]; · iexact HS0
        iexact HS1
      iexact Hr
    isplitl [Ho]; · iexact Ho
    isplitl [H0]; · iexact H0
    iexact H1
  · skip
    obtain rfl := hS h0
    rw [show at2 W c t = _ from start2_keep W c t h0 _]
    iapply (body2_B c (grid2.coords t) _ _ _ _ _ _ _ _ (x2_0 W c t) (carry2 W c t.val) (fun h => h0 ((hcond2 t).mp h)) Set.univ _)
    isplitl [H0]; · iexact H0
    isplitl [H1]; · iexists _; iexact H1
    isplitl [HS0]; · iexact HS0
    isplitl [HS1]; · iexact HS1
    iintro ⟨H0, H1, HS0, HS1⟩
    isplitl [HS0 HS1 Hr]
    · iexists _; isplitr; · ipureintro; exact fun _ => rfl
      isplitr [Hr]
      · isplitl [HS0]; · iexact HS0
        iexact HS1
      iexact Hr
    isplitl [Ho]; · iexact Ho
    isplitl [H0]; · iexact H0
    iexact H1

/-- The obligation at every point. -/
theorem obligation2 (c : Dev nD) : BodyObligation (dat2 (F := F) W c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  exact triple_restated (sound_body2 W c t) rfl .rfl fun _ => .rfl

/-- The launch hands the body's invariant, and gets its buffers back at the end. -/
theorem hin2 (c : Dev nD) : iprop(Pipeline.scopedRest (Ix := Unit) (Name := ℕ) (U := UR sig nD τ) (Lvl := ℕ) (Val := Elt F) spec2 c ∗ BI.emp) ⊢ (dat2 W c).Φ 0 := by
  rw [dat2_Phi, scopedRest2_split]
  simp only [← owns_whole]
  unfold Phi2
  iintro ⟨⟨⟨⟨%s0, HS0⟩, HS1⟩, Hr⟩, -⟩
  iexists (s0)
  isplitr; · ipureintro; exact fun h => absurd rfl h
  isplitr [Hr]
  · isplitl [HS0]; · iexact HS0
    iexact HS1
  iexact Hr
theorem hout2 (c : Dev nD) : (dat2 W c).Φ (Fin.last cfg2.N) ⊢ iprop(Pipeline.scopedRest (Ix := Unit) (Name := ℕ) (U := UR sig nD τ) (Lvl := ℕ) (Val := Elt F) spec2 c ∗ BI.emp) := by
  rw [dat2_Phi, scopedRest2_split]
  simp only [← owns_whole]
  unfold Phi2
  iintro ⟨%S, -, ⟨HS0, HS1⟩, Hr⟩
  isplitl [HS0 HS1 Hr]; swap; · iempintro
  isplitr [Hr]
  · isplitl [HS0]; · iexists _; iexact HS0
    iexact HS1
  iexact Hr
end

end Cert.KernelIdeal.Hand

end
-- ==== Proof.KI.Run.lean ====
module

public import proofs.«01_k».proof.Proof.KI.Reg0
public import proofs.«01_k».proof.Proof.KI.Reg1
public import proofs.«01_k».proof.Proof.KI.Reg2
public import proofs.«01_k».proof.Proof.Gen.KernelIdeal.Regions
public import Idealize.ShloMosaic.Lib.Pipeline.RegionArraysS

@[expose] public section

set_option maxRecDepth 16384

noncomputable section

/-! The whole run: the three calls one after the other, and what every buffer holds at the end. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (HostSeg RegionSeg Seg afterRegion Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer after the host's concatenation, after the first call, the second and the third. -/
abbrev U1 (c : Dev nD) : Valuation τ sig (Elt F) := V1 m c
def U2 (c : Dev nD) : Valuation τ sig (Elt F) := afterRegion (dat0 (U1 m) c) (U1 m c)
def U3 (c : Dev nD) : Valuation τ sig (Elt F) := afterRegion (dat1 (U2 m) c) (U2 m c)
def U4 (c : Dev nD) : Valuation τ sig (Elt F) := afterRegion (dat2 (U3 m) c) (U3 m c)

/-- The three calls' proof data. -/
def pdats (p : Fin 3) (c : Dev nD) : Dat τ (Elt F) Unit ℕ (UR sig nD τ) ℕ (cfgs p) c :=
  match p with
  | ⟨0, _⟩ => dat0 (U1 m) c
  | ⟨1, _⟩ => dat1 (U2 m) c
  | ⟨2, _⟩ => dat2 (U3 m) c

/-- A call leaves every buffer that is not one of its results as it was. -/
theorem U2_keeps (c : Dev nD) (r : Ref sig .tc) (h : ∀ w, Pipeline.arrRef spec0 w = r → (cfg0.win w).isOut = false) :
    U2 m c (Proc.devRef .tc r) = U1 m c (Proc.devRef .tc r) :=
  Pipeline.afterRegion_keeps (dat0 (U1 m) c) (U1 m c) launch0.win.arr_inj (dat0_A (U1 m) c) r h
theorem U3_keeps (c : Dev nD) (r : Ref sig .tc) (h : ∀ w, Pipeline.arrRef spec1 w = r → (cfg1.win w).isOut = false) :
    U3 m c (Proc.devRef .tc r) = U2 m c (Proc.devRef .tc r) :=
  Pipeline.afterRegion_keeps (dat1 (U2 m) c) (U2 m c) launch1.win.arr_inj (dat1_A (U2 m) c) r h
theorem U4_keeps (c : Dev nD) (r : Ref sig .tc) (h : ∀ w, Pipeline.arrRef spec2 w = r → (cfg2.win w).isOut = false) :
    U4 m c (Proc.devRef .tc r) = U3 m c (Proc.devRef .tc r) :=
  Pipeline.afterRegion_keeps (dat2 (U3 m) c) (U3 m c) launch2.win.arr_inj (dat2_A (U3 m) c) r h

/-- Nothing but the concatenation and the calls' results is written: a buffer that is none of them ends as launched. -/
theorem U4_arg (c : Dev nD) (r : Ref sig .tc) (h0 : r ∉ hostOps0_W) (h1 : ∀ w, Pipeline.arrRef spec0 w = r → (cfg0.win w).isOut = false)
    (h2 : ∀ w, Pipeline.arrRef spec1 w = r → (cfg1.win w).isOut = false) (h3 : ∀ w, Pipeline.arrRef spec2 w = r → (cfg2.win w).isOut = false) :
    U4 m c (Proc.devRef .tc r) = m ((c.tc : Thread nD τ).loc r) :=
  (U4_keeps m c r h3).trans ((U3_keeps m c r h2).trans ((U2_keeps m c r h1).trans ((V1_of m c r h0).trans rfl)))

/-- The kernel's result: what the third call's result array holds after its last point. -/
def out (c : Dev nD) : Buf (Elt F) ((c.tc : Thread nD τ).loc main_v3) := (dat2 (U3 m) c).arrAt 1 cfg2.N
theorem U4_out (c : Dev nD) : U4 m c (Proc.devRef .tc main_v3) = out m c :=
  Pipeline.afterRegion_arr (dat2 (U3 m) c) (U3 m c) launch2.win.arr_inj 1

/-- Level one index at the TensorCores' cells; nothing is ever owed. -/
def Lv : GSem nD τ sig → Finset Unit := fun g => if g.1.2 = .tc then {()} else ∅
abbrev lv₀ : GSem nD τ sig → Unit → ℕ := fun _ _ => 0
/-- What rides beside the buffers: the core owes nothing. -/
def Er (c : Dev nD) : sProp 𝕄 := iprop(∃ W, owes (c : Thread nD τ) (0 : CellTallies nD τ sig Unit) W)

theorem cut (p : Fin 3) : Pipeline.LevelCut (pcfgs (F := F)) adm () Lv lv₀ p (fun _ => 0) (fun _ => 0) where
  hι _ _ _ := by unfold Lv; rw [if_pos rfl]; exact Finset.mem_singleton.mpr rfl
  hιb _ _ _ := le_refl _
  hD _ _ _ h := absurd h (lt_irrefl _)

set_option backward.isDefEq.respectTransparency.types false in
/-- Call 0 as a segment of the run. -/
def reg0 : RegionSeg (pcfgs (F := F)) adm (pdats m) () defs₀ Variants.none Lv lv₀ 0 :=
  RegionSeg.ofHeldIn (pcfgs (F := F)) adm (pdats m) () defs₀ Variants.none Lv lv₀ 0 (fun _ => 0) (Pipeline.ucRefs τ sig)
    (fun _ => BI.emp) (fun _ => BI.emp) launch0.toP rfl (fun c => (obligation0 (U1 m) c).loose) (fun _ _ => rfl) (fun _ => rfl)
    (fun c => (dat0 (U1 m) c).share_full fun _ => rfl) (hin0 (U1 m)) (hout0 (U1 m)) (fun _ => 0) (cut 0) (fun _ => BI.emp)
    (U1 m) (fun c w => dat0_A (U1 m) c w)

theorem arrays0 : Pipeline.arrRefs (τ := τ) (pcfgs (F := F) 0).spec ⊆ Pipeline.ucRefs τ sig :=
  Pipeline.arrRefs_sub_ucRefs _ launch0.win.arr_unscoped

theorem pre0 (c : Dev nD) : iprop(StableHlo.held (c : Thread nD τ) (Pipeline.ucRefs τ sig) (U1 m c) ∗ Er c) ⊢ (reg0 m).pre c := by
  refine BIBase.Entails.trans ?_ (RegionSeg.ofHeldIn_pre (W := U1 m) arrays0 c)
  unfold Er
  iintro ⟨H, HO⟩
  isplitl [H]; · iexact H
  isplitl [HO]; · iexact HO
  isplitr; · iempintro
  iempintro

theorem post0 (c : Dev nD) : (reg0 m).post c ⊢ iprop(StableHlo.held (c : Thread nD τ) (Pipeline.ucRefs τ sig) (U2 m c) ∗ Er c) := by
  refine BIBase.Entails.trans (RegionSeg.ofHeldIn_post (W := U1 m) arrays0 c) ?_
  unfold Er
  iintro ⟨H, HO, -, -⟩
  isplitl [H]; · iexact H
  iexact HO

set_option backward.isDefEq.respectTransparency.types false in
/-- Call 1 as a segment of the run. -/
def reg1 : RegionSeg (pcfgs (F := F)) adm (pdats m) () defs₀ Variants.none Lv lv₀ 1 :=
  RegionSeg.ofHeldIn (pcfgs (F := F)) adm (pdats m) () defs₀ Variants.none Lv lv₀ 1 (fun _ => 0) (Pipeline.ucRefs τ sig)
    (fun _ => BI.emp) (fun _ => BI.emp) launch1.toP rfl (fun c => (obligation1 (U2 m) c).loose) (fun _ _ => rfl) (fun _ => rfl)
    (fun c => (dat1 (U2 m) c).share_full fun _ => rfl) (hin1 (U2 m)) (hout1 (U2 m)) (fun _ => 0) (cut 1) (fun _ => BI.emp)
    (U2 m) (fun c w => dat1_A (U2 m) c w)

theorem arrays1 : Pipeline.arrRefs (τ := τ) (pcfgs (F := F) 1).spec ⊆ Pipeline.ucRefs τ sig :=
  Pipeline.arrRefs_sub_ucRefs _ launch1.win.arr_unscoped

theorem pre1 (c : Dev nD) : iprop(StableHlo.held (c : Thread nD τ) (Pipeline.ucRefs τ sig) (U2 m c) ∗ Er c) ⊢ (reg1 m).pre c := by
  refine BIBase.Entails.trans ?_ (RegionSeg.ofHeldIn_pre (W := U2 m) arrays1 c)
  unfold Er
  iintro ⟨H, HO⟩
  isplitl [H]; · iexact H
  isplitl [HO]; · iexact HO
  isplitr; · iempintro
  iempintro

theorem post1 (c : Dev nD) : (reg1 m).post c ⊢ iprop(StableHlo.held (c : Thread nD τ) (Pipeline.ucRefs τ sig) (U3 m c) ∗ Er c) := by
  refine BIBase.Entails.trans (RegionSeg.ofHeldIn_post (W := U2 m) arrays1 c) ?_
  unfold Er
  iintro ⟨H, HO, -, -⟩
  isplitl [H]; · iexact H
  iexact HO

set_option backward.isDefEq.respectTransparency.types false in
/-- Call 2 as a segment of the run. -/
def reg2 : RegionSeg (pcfgs (F := F)) adm (pdats m) () defs₀ Variants.none Lv lv₀ 2 :=
  RegionSeg.ofHeldIn (pcfgs (F := F)) adm (pdats m) () defs₀ Variants.none Lv lv₀ 2 (fun _ => 0) (Pipeline.ucRefs τ sig)
    (fun _ => BI.emp) (fun _ => BI.emp) launch2.toP rfl (fun c => (obligation2 (U3 m) c).loose) (fun _ _ => rfl) (fun _ => rfl)
    (fun c => (dat2 (U3 m) c).share_full fun _ => rfl) (hin2 (U3 m)) (hout2 (U3 m)) (fun _ => 0) (cut 2) (fun _ => BI.emp)
    (U3 m) (fun c w => dat2_A (U3 m) c w)

theorem arrays2 : Pipeline.arrRefs (τ := τ) (pcfgs (F := F) 2).spec ⊆ Pipeline.ucRefs τ sig :=
  Pipeline.arrRefs_sub_ucRefs _ launch2.win.arr_unscoped

theorem pre2 (c : Dev nD) : iprop(StableHlo.held (c : Thread nD τ) (Pipeline.ucRefs τ sig) (U3 m c) ∗ Er c) ⊢ (reg2 m).pre c := by
  refine BIBase.Entails.trans ?_ (RegionSeg.ofHeldIn_pre (W := U3 m) arrays2 c)
  unfold Er
  iintro ⟨H, HO⟩
  isplitl [H]; · iexact H
  isplitl [HO]; · iexact HO
  isplitr; · iempintro
  iempintro

theorem post2 (c : Dev nD) : (reg2 m).post c ⊢ iprop(StableHlo.held (c : Thread nD τ) (Pipeline.ucRefs τ sig) (U4 m c) ∗ Er c) := by
  refine BIBase.Entails.trans (RegionSeg.ofHeldIn_post (W := U3 m) arrays2 c) ?_
  unfold Er
  iintro ⟨H, HO, -, -⟩
  isplitl [H]; · iexact H
  iexact HO

/-- The launch element: the pipelines' own. -/
def u₀ : UR sig nD τ := initOf (Pipeline.cells cfgs cellOf_inj) (Pipeline.launchToks cfgs cellOf_inj)

/-- What is read off the final memory: the arguments as launched, the result at the third call's array. -/
def Final (c : Dev nD) (s : MemSt nD τ sig (Elt F)) : Prop :=
  s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_v3) = out m c

theorem Final_of (c : Dev nD) (s : MemSt nD τ sig (Elt F)) (h : ∀ b ∈ Pipeline.ucRefs τ sig, s.mem ((c : Thread nD τ).1, b) = U4 m c b) : Final m c s :=
  have key (r : Ref sig .tc) (hr : r.isScoped = false) : s.mem ((c.tc : Thread nD τ).loc r) = U4 m c (Proc.devRef .tc r) :=
    h (Proc.devRef .tc r) (Pipeline.devRef_mem_ucRefs hr)
  have arg (r : Ref sig .tc) (hr : r.isScoped = false) (h0 : r ∉ hostOps0_W) (h1 : ∀ w, Pipeline.arrRef spec0 w = r → (cfg0.win w).isOut = false)
      (h2 : ∀ w, Pipeline.arrRef spec1 w = r → (cfg1.win w).isOut = false) (h3 : ∀ w, Pipeline.arrRef spec2 w = r → (cfg2.win w).isOut = false) :=
    (key r hr).trans (U4_arg m c r h0 h1 h2 h3)
  ⟨arg main_arg0 rfl (by decide) (by decide) (by decide) (by decide), arg main_arg1 rfl (by decide) (by decide) (by decide) (by decide), arg main_arg2 rfl (by decide) (by decide) (by decide) (by decide), arg main_arg3 rfl (by decide) (by decide) (by decide) (by decide), arg main_arg4 rfl (by decide) (by decide) (by decide) (by decide), arg main_arg5 rfl (by decide) (by decide) (by decide) (by decide), arg main_arg6 rfl (by decide) (by decide) (by decide) (by decide),
    (key main_v3 rfl).trans (U4_out m c)⟩

set_option backward.isDefEq.respectTransparency.types false in
set_option maxHeartbeats 1000000 in
/-- Every run of the kernel from a memory with zero counters ends, with nothing faulting, the arguments as launched, the result at `out`
    and every counter at zero. -/
theorem run : θ_run defs (onTc (τ := τ) (main (F := F))) ⟨m, fun _ => 0, ρ⟩ (fun r => (∀ c : Dev nD, Final m c r.2) ∧ r.2.sem = fun _ => 0) := by
  refine Pipeline.θ_run_regions_kit_dev_sems (pcfgs (F := F)) adm (pdats m) () cellOf_inj emb₁ defs₀ Variants.none Lv lv₀ m ρ main
    (segs m Variants.none Lv lv₀ (fun _ => Er) () (pdats m) (reg0 m) (reg1 m) (reg2 m))
    (fun c Q => by
      rewrite [main_chain c, Seg.run_eq_chain,
        show (segs m Variants.none Lv lv₀ (fun _ => Er) () (pdats m) (reg0 m) (reg1 m) (reg2 m) c).map Seg.prog = [
          StableHlo.seq hostOps0, Prog.lift (.customCall (Pipeline.entry 0) ()), Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide) 0
    (fun g hg => by unfold Lv; rw [if_neg hg]) (fun _ => BI.emp) u₀
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Er c))
    (Tₙ := fun c => StableHlo.held (c : Thread nD τ) (Pipeline.ucRefs τ sig) (U4 m c))
    (hch := fun c => ⟨.rfl, pre0 m c, (post0 m c).trans (pre1 m c), (post1 m c).trans (pre2 m c), (post2 m c).trans .rfl⟩)
    (hinit := ?_) (QY := Final m) (hfin := fun c s' => ?_) (hQ := fun _ h hz => ⟨h, funext fun g => hz g (.inr (regions_no_unscoped g.2))⟩)
  · refine Pipeline.initEach Lv lv₀ fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    unfold Er
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (U4 m c) s') $$ [Hh HSI]
    · isplitl [Hh] <;> iassumption
    icases Hr with ⟨%h, HSI⟩
    imodintro
    isplitr
    · ipureintro; exact Final_of m c _ h
    · iexact HSI

end Cert.KernelIdeal.Hand

end
-- ==== Proof.Spec.lean ====
module

public import Idealize.ShloMosaic.Lib.Pointwise

@[expose] public section

set_option maxRecDepth 16384

noncomputable section

/-! The network over the extended reals: one neuron's step as the reference writes it (logistic) and as the kernel does (tanh), the
    sequences both compute, and the memory read split at the start of a chunk. -/

namespace Cert.Spec

open Idealize.ShloMosaic

/-- The constants of the program, by their patterns. -/
abbrev cD : EReal := Ideal.ofBits .f32 0x3F666666#32
abbrev cH : EReal := Ideal.ofBits .f32 0x3F000000#32
abbrev c5 : EReal := Ideal.ofBits .f32 0x40A00000#32
abbrev c10 : EReal := Ideal.ofBits .f32 0x41200000#32
abbrev cL : EReal := Ideal.ofBits .f32 0x3F7383C6#32
abbrev cE : EReal := Ideal.ofBits .f32 0x3C23D70A#32

theorem cH_eq : cH = ((1 / 2 : ℝ) : EReal) := by
  unfold cH; simp [Ideal.ofBits, Ideal.ieee, -EReal.coe_mul]; norm_num
theorem c5_eq : c5 = ((5 : ℝ) : EReal) := by
  unfold c5; simp [Ideal.ofBits, Ideal.ieee, -EReal.coe_mul]; norm_num
theorem c10_eq : c10 = ((10 : ℝ) : EReal) := by
  unfold c10; simp [Ideal.ofBits, Ideal.ieee, -EReal.coe_mul]; norm_num
theorem cL_real : ∃ r : ℝ, cL = (r : EReal) := by
  unfold cL; simp [Ideal.ofBits, Ideal.ieee, -EReal.coe_mul]
theorem cE_real : ∃ r : ℝ, cE = (r : EReal) := by
  unfold cE; simp [Ideal.ofBits, Ideal.ieee, -EReal.coe_mul]

/-- The reference's activation. -/
def sg (v : EReal) : EReal := Ideal.div 1 (1 + Ideal.exp (-(c10 * (v - 1))))
/-- The kernel's. -/
def th (v : EReal) : EReal := Ideal.tanh (c5 * v - c5)

theorem th_real (v : EReal) : ∃ r : ℝ, th v = (r : EReal) ∧ -1 ≤ r := by
  unfold th
  induction (c5 * v - c5) using EReal.rec with
  | bot => exact ⟨-1, by rw [Ideal.tanh_bot]; norm_num, le_rfl⟩
  | top => exact ⟨1, by rw [Ideal.tanh_top]; norm_num, by norm_num⟩
  | coe r => exact ⟨Real.tanh r, by rw [Ideal.tanh_coe], (Real.neg_one_lt_tanh r).le⟩

theorem sg_th (v : EReal) : cH + cH * th v = sg v := by
  unfold sg th
  rw [cH_eq, c5_eq, c10_eq]
  induction v using EReal.rec with
  | bot =>
    rw [EReal.coe_mul_bot_of_pos (by norm_num), EReal.bot_sub, EReal.bot_sub, EReal.coe_mul_bot_of_pos (by norm_num), Ideal.tanh_bot, EReal.neg_bot,
      Ideal.exp_top]
    have h1 : (1 : EReal) + ⊤ = ⊤ := EReal.coe_add_top 1
    rw [h1]
    unfold Ideal.div
    rw [if_neg (by simp)]
    rw [show (-1 : EReal) = ((-1 : ℝ) : EReal) from by rw [EReal.coe_neg, EReal.coe_one], ← EReal.coe_mul, ← EReal.coe_add]
    simp
  | top =>
    have h0 : (⊤ : EReal) - ((5 : ℝ) : EReal) = ⊤ := EReal.top_sub_coe 5
    have h2 : (⊤ : EReal) - 1 = ⊤ := EReal.top_sub_coe 1
    rw [EReal.coe_mul_top_of_pos (by norm_num), h0, h2, EReal.coe_mul_top_of_pos (by norm_num), Ideal.tanh_top, EReal.neg_top, Ideal.exp_bot]
    rw [show (1 : EReal) = ((1 : ℝ) : EReal) by norm_cast, ← EReal.coe_mul, ← EReal.coe_add, show ((1 : ℝ) : EReal) + 0 = ((1 : ℝ) : EReal) by simp,
      Ideal.div_coe (by norm_num), ← EReal.coe_mul]
    norm_num
  | coe r =>
    rw [show (1 : EReal) = ((1 : ℝ) : EReal) by norm_cast, ← EReal.coe_mul, ← EReal.coe_sub, ← EReal.coe_sub, Ideal.tanh_coe, ← EReal.coe_mul, ← EReal.coe_mul,
      ← EReal.coe_add, ← EReal.coe_neg, Ideal.exp_coe, ← EReal.coe_add, Ideal.div_coe (by positivity), ← EReal.coe_mul]
    congr 1
    rw [Real.tanh_eq_sinh_div_cosh, Real.sinh_eq, Real.cosh_eq, show -(10 * (r - 1)) = -(5 * r - 5) + -(5 * r - 5) by ring, Real.exp_add, Real.exp_neg]
    have := Real.exp_pos (5 * r - 5)
    field_simp
    ring

theorem sg_real (v : EReal) : ∃ r : ℝ, sg v = (r : EReal) ∧ 0 ≤ r := by
  obtain ⟨r, h, hr⟩ := th_real v
  exact ⟨1 / 2 + 1 / 2 * r, by rw [← sg_th, h, cH_eq, ← EReal.coe_mul, ← EReal.coe_add], by linarith⟩

theorem half_sub (v : EReal) : cH * (1 - th v) = 1 - sg v := by
  obtain ⟨r, h, _⟩ := th_real v
  rw [← sg_th, h, cH_eq, show (1 : EReal) = ((1 : ℝ) : EReal) by norm_cast, ← EReal.coe_mul, ← EReal.coe_sub, ← EReal.coe_add, ← EReal.coe_mul, ← EReal.coe_sub]
  congr 1; ring

/-- A neuron's state: current, voltage, and last activation (the kernel's: last tanh). -/
abbrev St := EReal × EReal × EReal

/-- The next voltage. -/
def nv (x : EReal) (s : St) : EReal := cD * s.2.1 * (1 - s.2.2) + (cD * s.1 + x)
/-- The next voltage as the kernel forms it. -/
def nvK (x : EReal) (s : St) : EReal := cD * s.2.1 * (cH * (1 - s.2.2)) + (cD * s.1 + x)
/-- The reference's step. -/
def stp (x : EReal) (s : St) : St := (cD * s.1 + x, nv x s, sg (nv x s))
/-- The kernel's step. -/
def stpK (x : EReal) (s : St) : St := (cD * s.1 + x, nvK x s, th (nvK x s))

/-- The neuron driven by `x`, from rest. -/
def sq (x : ℕ → EReal) : ℕ → St
  | 0 => (0, 0, 0)
  | n + 1 => stp (x n) (sq x n)
/-- The same by the kernel's step. -/
def sqK (x : ℕ → EReal) : ℕ → St
  | 0 => (0, 0, 0)
  | n + 1 => stpK (x n) (sqK x n)

theorem sq_succ (x : ℕ → EReal) (n : ℕ) : sq x (n + 1) = stp (x n) (sq x n) := rfl
theorem sqK_succ (x : ℕ → EReal) (n : ℕ) : sqK x (n + 1) = stpK (x n) (sqK x n) := rfl

theorem sqK_eq (x : ℕ → EReal) : ∀ n, (sqK x n).1 = (sq x n).1 ∧ (sqK x n).2.1 = (sq x n).2.1 ∧
    ((sq x n).2.1 = 0 ∨ ∃ v, (sqK x n).2.2 = th v ∧ (sq x n).2.2 = sg v)
  | 0 => ⟨rfl, rfl, Or.inl rfl⟩
  | n + 1 => by
    obtain ⟨h1, h2, h3⟩ := sqK_eq x n
    have hv : nvK (x n) (sqK x n) = nv (x n) (sq x n) := by
      unfold nvK nv
      rw [h1, h2]
      rcases h3 with h | ⟨v, e, e'⟩
      · rw [h, mul_zero, zero_mul, zero_mul]
      · rw [e, e', half_sub]
    refine ⟨?_, hv, Or.inr ⟨nv (x n) (sq x n), ?_, rfl⟩⟩
    · show cD * (sqK x n).1 + x n = cD * (sq x n).1 + x n
      rw [h1]
    · show th (nvK (x n) (sqK x n)) = _
      rw [hv]

/-- The activation of step `n`. -/
def zz (x : ℕ → EReal) (n : ℕ) : EReal := (sq x (n + 1)).2.2

theorem sqK_zz (x : ℕ → EReal) (n : ℕ) : cH + cH * (sqK x (n + 1)).2.2 = zz x n := by
  have hv := (sqK_eq x (n + 1)).2.1
  show cH + cH * th (nvK (x n) (sqK x n)) = sg (nv (x n) (sq x n))
  rw [sg_th]; exact congrArg sg hv

theorem zz_real (x : ℕ → EReal) (n : ℕ) : ∃ r : ℝ, zz x n = (r : EReal) ∧ 0 ≤ r := sg_real _

/-- The sequence over the inputs from `k` on continues the sequence. -/
theorem sqK_add (x : ℕ → EReal) (k : ℕ) : ∀ n (f : ℕ → St), f 0 = sqK x k → (∀ i, i < n → f (i + 1) = stpK (x (k + i)) (f i)) → ∀ i, i ≤ n → f i = sqK x (k + i)
  | n, f, h0, hs, 0, _ => h0
  | n, f, h0, hs, i + 1, hi => by
    rw [hs i hi, sqK_add x k n f h0 hs i (Nat.le_of_lt hi)]; rfl

/-! ## The trace and the memory -/

/-- The key trace after `n` steps. -/
def tr (z : ℕ → EReal) : ℕ → EReal
  | 0 => 0
  | n + 1 => cL * tr z n + z n

theorem tr_real (x : ℕ → EReal) : ∀ n, ∃ r : ℝ, tr (zz x) n = (r : EReal)
  | 0 => ⟨0, by simp [tr]⟩
  | n + 1 => by
    obtain ⟨r, h⟩ := tr_real x n
    obtain ⟨l, hl⟩ := cL_real
    obtain ⟨z, hz, _⟩ := zz_real x n
    exact ⟨l * r + z, by show cL * tr (zz x) n + zz x n = _; rw [h, hl, hz, ← EReal.coe_mul, ← EReal.coe_add]⟩

/-- One memory cell after `n` steps, its row's values' activations `zv` and its column's key traces `tk`. -/
def mm (m0 : EReal) (zv tk : ℕ → EReal) : ℕ → EReal
  | 0 => m0
  | n + 1 => mm m0 zv tk n + cE * (zv n * tk n)

theorem sum_real {ι : Type} (s : Finset ι) (f : ι → EReal) (g : ι → ℝ) (h : ∀ i, f i = (g i : EReal)) : ∑ i ∈ s, f i = ((∑ i ∈ s, g i : ℝ) : EReal) := by
  classical
  induction s using Finset.induction_on with
  | empty => simp
  | insert a s ha ih => rw [Finset.sum_insert ha, Finset.sum_insert ha, ih, h, ← EReal.coe_add]

/-- The cell `k` steps on, as what it held plus the sum of the increments. -/
theorem mm_add (m0 : EReal) (zv tk : ℕ → EReal) (a : ℕ) (hv : ∀ n, ∃ r : ℝ, zv n = (r : EReal)) (ht : ∀ n, ∃ r : ℝ, tk n = (r : EReal)) :
    ∀ k, mm m0 zv tk (a + k) = mm m0 zv tk a + cE * ∑ i : Fin k, zv (a + i.val) * tk (a + i.val)
  | 0 => by simp
  | k + 1 => by
    have ih := mm_add m0 zv tk a hv ht k
    choose v hv' using hv
    choose t ht' using ht
    obtain ⟨e, he⟩ := cE_real
    have hp : ∀ i : ℕ, zv (a + i) * tk (a + i) = ((v (a + i) * t (a + i) : ℝ) : EReal) := fun i => by rw [hv', ht', ← EReal.coe_mul]
    show mm m0 zv tk (a + k) + cE * (zv (a + k) * tk (a + k)) = _
    rw [ih, Fin.sum_univ_castSucc]
    simp only [Fin.val_castSucc, Fin.val_last]
    rw [sum_real _ _ _ (fun i : Fin k => hp i.val), hp, he, ← EReal.coe_mul, ← EReal.coe_mul, ← EReal.coe_add, ← EReal.coe_mul, add_assoc, ← EReal.coe_add, mul_add]

/-- A product over a sum with a real term. -/
theorem mul_add_real (z r : ℝ) (hz : 0 ≤ z) (M : EReal) : (z : EReal) * (M + (r : EReal)) = (z : EReal) * M + ((z * r : ℝ) : EReal) := by
  rw [EReal.left_distrib_of_nonneg_of_ne_top (EReal.coe_nonneg.mpr hz) (EReal.coe_ne_top z), EReal.coe_mul]

/-- The memory read of step `a + k`: over the row as the chunk finds it, and the increments of the chunk's steps up to this one
    weighed by the products of the read activations with the key traces. -/
theorem read_chunk {J : ℕ} (m0 : Fin J → EReal) (zv : ℕ → EReal) (tk zr : Fin J → ℕ → EReal) (a k K : ℕ) (hk : k < K)
    (hv : ∀ n, ∃ r : ℝ, zv n = (r : EReal)) (ht : ∀ j n, ∃ r : ℝ, tk j n = (r : EReal)) (hr : ∀ j n, ∃ r : ℝ, zr j n = (r : EReal) ∧ 0 ≤ r) :
    ∑ j : Fin J, zr j (a + k) * mm (m0 j) zv (tk j) a
        + cE * ∑ i : Fin K, (if i.val ≤ k then ∑ j : Fin J, zr j (a + k) * tk j (a + i.val) else 0) * zv (a + i.val)
      = ∑ j : Fin J, mm (m0 j) zv (tk j) (a + k + 1) * zr j (a + k) := by
  have h1 : ∀ j : Fin J, mm (m0 j) zv (tk j) (a + k + 1) = mm (m0 j) zv (tk j) a + cE * ∑ i : Fin (k + 1), zv (a + i.val) * tk j (a + i.val) :=
    fun j => mm_add (m0 j) zv (tk j) a hv (ht j) (k + 1)
  choose v hv' using hv
  choose t ht' using ht
  choose r hr' hr0 using hr
  obtain ⟨e, he⟩ := cE_real
  have h2 : ∀ j : Fin J, mm (m0 j) zv (tk j) (a + k + 1) * zr j (a + k)
      = zr j (a + k) * mm (m0 j) zv (tk j) a + ((r j (a + k) * (e * ∑ i : Fin (k + 1), v (a + i.val) * t j (a + i.val)) : ℝ) : EReal) := fun j => by
    rw [h1, mul_comm, hr', sum_real _ _ (fun i : Fin (k + 1) => v (a + i.val) * t j (a + i.val)) (fun i => by rw [hv', ht', ← EReal.coe_mul]), he, ← EReal.coe_mul,
      mul_add_real _ _ (hr0 _ _)]
  have h3 : ∀ i : Fin K, (if i.val ≤ k then ∑ j : Fin J, zr j (a + k) * tk j (a + i.val) else 0) * zv (a + i.val)
      = (((if i.val ≤ k then ∑ j : Fin J, r j (a + k) * t j (a + i.val) else 0) * v (a + i.val) : ℝ) : EReal) := fun i => by
    split
    · rw [sum_real _ _ (fun j : Fin J => r j (a + k) * t j (a + i.val)) (fun j => by rw [hr', ht', ← EReal.coe_mul]), hv', ← EReal.coe_mul]
    · simp
  rw [Finset.sum_congr rfl (fun j _ => h2 j), Finset.sum_add_distrib, sum_real _ _ _ h3, he, ← EReal.coe_mul, sum_real _ (fun j => ((r j (a + k) * (e * ∑ i : Fin (k + 1), v (a + i.val) * t j (a + i.val)) : ℝ) : EReal)) _ (fun _ => rfl)]
  congr 2
  have h4 : ∀ f : ℕ → ℝ, ∑ i : Fin K, (if i.val ≤ k then f i.val else 0) = ∑ i : Fin (k + 1), f i.val := fun f => by
    rw [Fin.sum_univ_eq_sum_range (fun i => if i ≤ k then f i else 0) K, Fin.sum_univ_eq_sum_range f (k + 1), ← Finset.sum_filter]
    refine Finset.sum_congr (Finset.ext fun i => ?_) fun _ _ => rfl
    simp only [Finset.mem_filter, Finset.mem_range]; omega
  have h5 : ∀ i : Fin K, (if i.val ≤ k then ∑ j : Fin J, r j (a + k) * t j (a + i.val) else 0) * v (a + i.val)
      = if i.val ≤ k then (fun i : ℕ => (∑ j : Fin J, r j (a + k) * t j (a + i)) * v (a + i)) i.val else 0 := fun i => by split <;> simp
  rw [Finset.sum_congr rfl (fun i _ => h5 i)]
  refine Eq.trans (congrArg (e * ·) (h4 (fun i => (∑ j, r j (a + k) * t j (a + i)) * v (a + i)))) ?_
  rw [Finset.mul_sum]
  simp only [Finset.mul_sum, Finset.sum_mul]
  rw [Finset.sum_comm]
  refine Finset.sum_congr rfl fun j _ => Finset.sum_congr rfl fun i _ => ?_
  ring

/-! ## The encoder's and the neurons' inputs -/

/-- The encoder's drive at item `s`, batch row `b`. -/
def dr (Fc : ℕ → ℕ → ℕ → EReal) (A B : ℕ → ℕ → EReal) (s b e : ℕ) : EReal :=
  ∑ h : Fin 80, (∑ k : Fin 200, Fc s b k.val * A h.val k.val) * B e h.val
/-- The encoder's activation. -/
def ze (Fc : ℕ → ℕ → ℕ → EReal) (A B : ℕ → ℕ → EReal) (b e : ℕ) : ℕ → EReal := zz fun n => dr Fc A B (n / 50) b e
/-- The input of the neuron with weights `g`. -/
def xi (Fc : ℕ → ℕ → ℕ → EReal) (A B : ℕ → ℕ → EReal) (g : ℕ → EReal) (b : ℕ) (n : ℕ) : EReal := ∑ e : Fin 80, ze Fc A B b e.val n * g e.val

/-- What row `b`'s value neurons `m` read out of the memory at step `n`: the memory after the step against the read activations. -/
def rd (Fc : ℕ → ℕ → ℕ → EReal) (A B Wk Wv Wr : ℕ → ℕ → EReal) (M : ℕ → ℕ → ℕ → EReal) (b m n : ℕ) : EReal :=
  ∑ j : Fin 256, mm (M b m j.val) (zz (xi Fc A B (Wv m) b)) (fun n => tr (zz (xi Fc A B (Wk j.val) b)) (n + 1)) (n + 1) * zz (xi Fc A B (Wr j.val) b) n

/-- The result at item `s`: the readout's activations over the item's last steps. -/
def res (Fc : ℕ → ℕ → ℕ → EReal) (A B Wk Wv Wr : ℕ → ℕ → EReal) (M : ℕ → ℕ → ℕ → EReal) (s b m : ℕ) : EReal :=
  ∑ k : Fin 30, zz (rd Fc A B Wk Wv Wr M b m) (50 * s + 19 + k.val)

end Cert.Spec

end
-- ==== Proof.V.Net.lean ====
module

public import proofs.«01_k».proof.Proof.Spec

@[expose] public section

noncomputable section

/-! The network's result of the seven arguments: each argument read at natural numbers, zero outside its bounds. -/

namespace Cert.Spec

open Idealize.ShloMosaic

/-- A matrix at natural numbers. -/
def t2 {n m : ℕ} (x : Fin n → Fin m → EReal) (i j : ℕ) : EReal := if h : i < n ∧ j < m then x ⟨i, h.1⟩ ⟨j, h.2⟩ else 0
/-- A rank-3 array at natural numbers. -/
def t3 {n m k : ℕ} (x : Fin n → Fin m → Fin k → EReal) (i j l : ℕ) : EReal := if h : i < n ∧ j < m ∧ l < k then x ⟨i, h.1⟩ ⟨j, h.2.1⟩ ⟨l, h.2.2⟩ else 0

theorem t2_at {n m : ℕ} (x : Fin n → Fin m → EReal) (i : Fin n) (j : Fin m) : t2 x i.val j.val = x i j := dif_pos ⟨i.isLt, j.isLt⟩
theorem t3_at {n m k : ℕ} (x : Fin n → Fin m → Fin k → EReal) (i : Fin n) (j : Fin m) (l : Fin k) : t3 x i.val j.val l.val = x i j l :=
  dif_pos ⟨i.isLt, j.isLt, l.isLt⟩

/-- The three projections' weights one below the other. -/
def cat3 (x y z : ℕ → ℕ → EReal) (i j : ℕ) : EReal := if i < 256 then x i j else if i < 512 then y (i - 256) j else z (i - 512) j

theorem cat3_0 (x y z : ℕ → ℕ → EReal) (i : ℕ) (h : i < 256) : cat3 x y z i = x i := by
  funext j; unfold cat3; rw [if_pos h]
theorem cat3_1 (x y z : ℕ → ℕ → EReal) (i : ℕ) (h : i < 256) : cat3 x y z (256 + i) = y i := by
  funext j; unfold cat3; rw [if_neg (by omega), if_pos (by omega), Nat.add_sub_cancel_left]
theorem cat3_2 (x y z : ℕ → ℕ → EReal) (i : ℕ) : cat3 x y z (512 + i) = z i := by
  funext j; unfold cat3; rw [if_neg (by omega), if_neg (by omega), Nat.add_sub_cancel_left]

end Cert.Spec

end
-- ==== Proof.V.R2.lean ====
module

public import proofs.«01_k».proof.Proof.KI.Reg2
public import proofs.«01_k».proof.Proof.Spec
public import Idealize.ShloMosaic.Lib.Pipeline.ValueKit

@[expose] public section

set_option maxRecDepth 16384

noncomputable section

/-! The readout call's result array, from the array of memory reads. -/

namespace Cert.KernelIdeal.Hand

open Cert.KernelIdeal Cert.KernelIdeal.Gen Cert.Spec
open Idealize.ShloMosaic Idealize.ShloMosaic.TcCoe
open Idealize.ShloMosaic.Pipeline (Dat Cfg Window)

/-- A window's index in the vector it is read from. -/
theorem emb_unit_val {s : Shape} (off size : Fin s.rank → ℕ) (inb : ∀ a, off a + size a ≤ s.size a) (y : (Rect.unit off size inb).shape.Idx) (a : Fin s.rank) :
    ((Rect.unit off size inb).emb y a).val = off a + (y a).val := by
  show off a + 1 * (y a).val = off a + (y a).val
  rw [Nat.one_mul]

/-- A state's three components at one index. -/
def at3 {s : Shape} (x : FVec Ideal s .f32 × FVec Ideal s .f32 × FVec Ideal s .f32) (j : s.Idx) : St := (x.1 j, x.2.1 j, x.2.2 j)

theorem rStep_at (x : Vec Ideal S1x64x256 .bf16) (s : StR Ideal) (b : Fin 64) (m : Fin 256) :
    at3 (rStep x s) (ix2 b m) = stpK (x (ix3 0 b m)) (at3 s (ix2 b m)) := by
  unfold at3 rStep stpK nvK th
  dsimp only
  refine Prod.ext ?_ (Prod.ext ?_ ?_)
  · pointwise [k2_pay9]
  · pointwise [k2_pay10, k2_pay9]
  · pointwise [k2_pay11, k2_pay10, k2_pay9]

theorem rPlane_at (X : Vec Ideal S50x64x256 .bf16) (k : Fin 50) (b : Fin 64) (m : Fin 256) : rPlane X k (ix3 0 b m) = X (ix3 k b m) := by
  unfold rPlane VecWindow.window
  exact congrArg X (by funext a; fin_cases a <;> exact Fin.ext ((emb_unit_val _ _ _ _ _).trans (by simp [ix3])))

theorem getR_at (x : Vec Ideal S3x64x256 .f32) (b : Fin 64) (m : Fin 256) :
    at3 (getR x) (ix2 b m) = (x (ix3 0 b m), x (ix3 1 b m), x (ix3 2 b m)) := by
  unfold at3 getR
  dsimp only
  refine Prod.ext ?_ (Prod.ext ?_ ?_)
  all_goals
    pointwise [k2_pay6, k2_pay7, k2_pay8]
    unfold VecWindow.window
    exact congrArg x (by funext a; fin_cases a <;> exact Fin.ext ((emb_unit_val _ _ _ _ _).trans (by simp [ix3])))

theorem putR_at (x : Vec Ideal S3x64x256 .f32) (s : StR Ideal) (b : Fin 64) (m : Fin 256) :
    at3 (getR (putR x s)) (ix2 b m) = at3 s (ix2 b m) := by
  unfold getR putR
  simp only [VecWindow.window_put_same]
  rw [VecWindow.window_put_of_disjoint _ _ _ _ _ _ _ 0 (by simp), VecWindow.window_put_of_disjoint _ _ _ _ _ _ _ 0 (by simp), VecWindow.window_put_same, VecWindow.window_put_of_disjoint _ _ _ _ _ _ _ 0 (by simp), VecWindow.window_put_same]
  unfold at3
  dsimp only
  refine Prod.ext ?_ (Prod.ext ?_ ?_)
  · pointwise [k2_pay6, k2_pay19]
  · pointwise [k2_pay7, k2_pay1]
  · pointwise [k2_pay8, k2_pay2]

theorem rIt_at (g : Fin 50 → Vec Ideal S1x64x256 .bf16) (s : StR Ideal) (x : ℕ → EReal) (a : ℕ) (b : Fin 64) (m : Fin 256)
    (h0 : at3 s (ix2 b m) = sqK x a) (hg : ∀ k : Fin 50, g k (ix3 0 b m) = x (a + k.val)) : ∀ k, k ≤ 50 → at3 (rIt g s k) (ix2 b m) = sqK x (a + k)
  | 0, _ => h0
  | k + 1, hk => by
    rw [rIt, dif_pos (by omega : k < 50), rStep_at, hg, rIt_at g s x a b m h0 hg k (by omega)]; rfl

theorem pay15_at (x : Vec Ideal S1x64x256 .bf16) (s : StR Ideal) (acc : Vec Ideal S64x256 .f32) (b : Fin 64) (m : Fin 256) :
    k2_pay15 s.1 s.2.1 s.2.2 x acc (ix2 b m) = acc (ix2 b m) + (cH + cH * (stpK (x (ix3 0 b m)) (at3 s (ix2 b m))).2.2) := by
  unfold at3 stpK nvK th
  pointwise [k2_pay15, k2_pay14, k2_pay13, k2_pay12]

theorem accIt_at (g : Fin 50 → Vec Ideal S1x64x256 .bf16) (s : StR Ideal) (x : ℕ → EReal) (a : ℕ) (b : Fin 64) (m : Fin 256)
    (h0 : at3 s (ix2 b m) = sqK x a) (hg : ∀ k : Fin 50, g k (ix3 0 b m) = x (a + k.val)) :
    ∀ k, k + 19 < 50 → accIt g s k (ix2 b m) = ∑ i : Fin k, zz x (a + 19 + i.val)
  | 0, _ => by
    rw [accIt]; pointwise [k2_pay5]; simp
  | k + 1, hk => by
    rw [accIt, dif_pos (by omega : k + 19 < 50), pay15_at, hg, rIt_at g s x a b m h0 hg (k + 19) (by omega), accIt_at g s x a b m h0 hg k (by omega),
      Fin.sum_univ_castSucc]
    refine congrArg₂ (· + ·) rfl ?_
    show cH + cH * (stpK (x (a + (k + 19))) (sqK x (a + (k + 19)))).2.2 = zz x (a + 19 + k)
    rw [← sqK_succ, sqK_zz]; exact congrArg (zz x) (by omega)

section
variable (W : Dev nD → Valuation τ sig (Elt Ideal)) (c : Dev nD) (X : ℕ → ℕ → ℕ → EReal)
  (hX : ∀ i : S2500x256x256.Idx, W c (Proc.devRef .tc main_v2) i = X (i 1).val (i 2).val (i 0).val)

theorem ix2_0 : ∀ t : Fin cfg2.N, win2_0.index t = ![t.val % 50, t.val / 50, 0] := (by decide +kernel : ∀ t : Fin grid2.N, _)
theorem ix2_1 : ∀ t : Fin cfg2.N, win2_1.index t = ![t.val % 50, t.val / 50, 0] := (by decide +kernel : ∀ t : Fin grid2.N, _)

include hX in
theorem x2_0_at (t : Fin cfg2.N) (k : Fin 50) (b : Fin 64) (m : Fin 256) :
    x2_0 W c t (ix3 k b m) = X (64 * (t.val / 50) + b.val) m.val (50 * (t.val % 50) + k.val) := by
  unfold x2_0 iblk2
  refine (hX _).trans ?_
  blk_simp [ix2_0]
  show X (t.val / 50 * 64 + b.val) m.val (t.val % 50 * 50 + k.val) = _
  rw [Nat.mul_comm 64, Nat.mul_comm 50]

def AtS2 (xs : Vec Ideal S3x64x256 .f32) (bt n : ℕ) : Prop :=
  ∀ (b : Fin 64) (m : Fin 256), at3 (getR xs) (ix2 b m) = sqK (X (64 * bt + b.val) m.val) n

theorem reset2_at (bt : ℕ) : AtS2 X (k2_pay4 (F := Ideal)) bt 0 := fun b m => by
  rw [getR_at]; pointwise [k2_pay4]; rfl

include hX in
theorem next2_at (t : Fin cfg2.N) (xs : Vec Ideal S3x64x256 .f32) (h : AtS2 X xs (t.val / 50) (50 * (t.val % 50))) :
    AtS2 X (next2 W c t xs) (t.val / 50) (50 * (t.val % 50) + 50) := fun b m => by
  unfold next2 rN
  rw [putR_at]
  exact rIt_at _ _ _ _ b m (h b m) (fun k => by rw [rPlane_at, x2_0_at W c X hX]) 50 le_rfl

include hX in
theorem carry2_at : ∀ n, n ≤ 200 → ¬ n % 50 = 0 → AtS2 X (carry2 W c n) (n / 50) (50 * (n % 50))
  | 0, _, h => absurd rfl h
  | n + 1, hn, h => by
    have hN : n < cfg2.N := Nat.lt_of_lt_of_eq (by omega : n < 200) N_2.symm
    rw [carry2_succ W c ⟨n, hN⟩]
    have e1 : (n + 1) / 50 = n / 50 := by omega
    have e2 : 50 * ((n + 1) % 50) = 50 * (n % 50) + 50 := by omega
    rw [e1, e2]
    refine next2_at W c X hX ⟨n, hN⟩ _ ?_
    unfold at2
    by_cases h0 : n % 50 = 0
    · rw [start2_reset W c ⟨n, hN⟩ h0]
      show AtS2 X _ _ (50 * (n % 50)); rw [h0]; exact reset2_at X _
    · rw [start2_keep W c ⟨n, hN⟩ h0]
      exact carry2_at n (by omega) h0

include hX in
theorem at2_at (t : Fin cfg2.N) : AtS2 X (at2 W c t) (t.val / 50) (50 * (t.val % 50)) := by
  have ht : t.val < 200 := Nat.lt_of_lt_of_eq t.isLt N_2
  unfold at2
  by_cases h0 : t.val % 50 = 0
  · rw [start2_reset W c t h0, h0]; exact reset2_at X _
  · rw [start2_keep W c t h0]; exact carry2_at W c X hX t.val (by omega) h0

include hX in
/-- The readout's result. -/
theorem final2 : (dat2 W c).arrAt 1 cfg2.N = fun i : S50x256x256.Idx => ∑ k : Fin 30, zz (X (i 1).val (i 2).val) (50 * (i 0).val + 19 + k.val) := by
  refine (dat2 W c).arrAt_eq_of_covers 1 _ (by decide +kernel) fun t hf y => ?_
  have ht : t.val < 200 := Nat.lt_of_lt_of_eq t.isLt N_2
  blk_simp [ix2_1]
  rw [after2_1]
  revert y
  intro (y : S1x64x256.Idx)
  obtain ⟨y0, y1, y2, rfl⟩ : ∃ a b c, y = ix3 a b c := ⟨y 0, y 1, y 2, eq_ix3 y⟩
  show res2_0 W c t (at2 W c t) (ix3 y0 y1 y2) = ∑ x : Fin 30, zz (X (t.val / 50 * 64 + y1.val) y2.val) (50 * (t.val % 50) + 19 + x.val)
  unfold res2_0 rOut
  pointwise [k2_pay3]
  rw [accIt_at _ _ _ _ y1 y2 (at2_at W c X hX t y1 y2) (fun k => by rw [rPlane_at, x2_0_at W c X hX]) 30 (by omega), Nat.mul_comm 64]
end

end Cert.KernelIdeal.Hand

end
-- ==== Proof.V.R0.lean ====
module

public import proofs.«01_k».proof.Proof.KI.Reg0
public import proofs.«01_k».proof.Proof.V.R2

@[expose] public section

set_option maxRecDepth 16384

noncomputable section

/-! The chains call's three result arrays, from the facts and the weights. -/

namespace Cert.KernelIdeal.Hand

open Cert.KernelIdeal Cert.KernelIdeal.Gen Cert.Spec
open Idealize.ShloMosaic Idealize.ShloMosaic.TcCoe
open Idealize.ShloMosaic.Pipeline (Dat Cfg Window)

/-! ## The encoder -/

theorem enc_at (x0 : Vec Ideal S1x64x200 .f32) (x1 : Vec Ideal S80x200 .f32) (x2 : Vec Ideal S80x80 .f32) (s : St80 Ideal) (b : Fin 64) (e : Fin 80) :
    at3 ((k0_pay16 x0 x1 x2 s.1, k0_pay17 x0 x1 x2 s.1 s.2.1 s.2.2, k0_pay18 x0 x1 x2 s.1 s.2.1 s.2.2) : St80 Ideal) (ix2 b e)
      = stpK (∑ h : Fin 80, (∑ k : Fin 200, x0 (ix3 0 b k) * x1 (ix2 h k)) * x2 (ix2 e h)) (at3 s (ix2 b e)) := by
  unfold at3 stpK nvK th
  dsimp only
  refine Prod.ext ?_ (Prod.ext ?_ ?_)
  · pointwise [k0_pay16]
  · pointwise [k0_pay17, k0_pay16]
  · pointwise [k0_pay18, k0_pay17, k0_pay16]

theorem encIt_at (x0 : Vec Ideal S1x64x200 .f32) (x1 : Vec Ideal S80x200 .f32) (x2 : Vec Ideal S80x80 .f32) (s : St80 Ideal) (x : ℕ → EReal) (a : ℕ)
    (b : Fin 64) (e : Fin 80) (h0 : at3 s (ix2 b e) = sqK x a)
    (hx : ∀ k, k < 50 → x (a + k) = ∑ h : Fin 80, (∑ k : Fin 200, x0 (ix3 0 b k) * x1 (ix2 h k)) * x2 (ix2 e h)) :
    ∀ k, k ≤ 50 → at3 (encIt x0 x1 x2 s k) (ix2 b e) = sqK x (a + k)
  | 0, _ => h0
  | k + 1, hk => by
    rw [encIt, enc_at, encIt_at x0 x1 x2 s x a b e h0 hx k (by omega), ← hx k (by omega)]; rfl

theorem pay19_at (x0 : Vec Ideal S1x64x200 .f32) (x1 : Vec Ideal S80x200 .f32) (x2 : Vec Ideal S80x80 .f32) (s : St80 Ideal) (j : S64x80.Idx) :
    k0_pay19 x0 x1 x2 s.1 s.2.1 s.2.2 j
      = cH + cH * (at3 ((k0_pay16 x0 x1 x2 s.1, k0_pay17 x0 x1 x2 s.1 s.2.1 s.2.2, k0_pay18 x0 x1 x2 s.1 s.2.1 s.2.2) : St80 Ideal) j).2.2 := by
  unfold at3
  pointwise [k0_pay19]

theorem zeV_at (x0 : Vec Ideal S1x64x200 .f32) (x1 : Vec Ideal S80x200 .f32) (x2 : Vec Ideal S80x80 .f32) (s : St80 Ideal) (x : ℕ → EReal) (a : ℕ)
    (b : Fin 64) (e : Fin 80) (h0 : at3 s (ix2 b e) = sqK x a)
    (hx : ∀ k, k < 50 → x (a + k) = ∑ h : Fin 80, (∑ k : Fin 200, x0 (ix3 0 b k) * x1 (ix2 h k)) * x2 (ix2 e h))
    (k : ℕ) (hk : k < 50) (r : Fin 3200) (hr : r.val = 64 * k + b.val) : zeV x0 x1 x2 s (ix2 r e) = zz x (a + k) := by
  have hb := b.isLt
  have e1 : r.val / 64 = k := by omega
  have e2 : inRow (ix2 r e) = ix2 b e := by
    funext i; fin_cases i
    · exact Fin.ext (by show r.val % 64 = b.val; omega)
    · rfl
  unfold zeV
  show k0_pay19 x0 x1 x2 (encIt x0 x1 x2 s (r.val / 64)).1 (encIt x0 x1 x2 s (r.val / 64)).2.1 (encIt x0 x1 x2 s (r.val / 64)).2.2 (inRow (ix2 r e)) = _
  rw [e1, e2, pay19_at, enc_at, encIt_at x0 x1 x2 s x a b e h0 hx k (by omega), ← hx k hk, ← sqK_succ, sqK_zz]

/-! ## The chains -/

theorem chStep_at (x : Vec Ideal S64x256 .f32) (s : St256 Ideal) (j : S64x256.Idx) : at3 (chStep x s) j = stpK (x j) (at3 s j) := by
  unfold at3 chStep stpK nvK th
  dsimp only
  refine Prod.ext ?_ (Prod.ext ?_ ?_)
  · pointwise [k0_pay3]
  · pointwise [k0_pay4, k0_pay3]
  · pointwise [k0_pay5, k0_pay4, k0_pay3]

theorem xrow_at (X : Vec Ideal S3200x768 .f32) (l : Fin 3) (k : Fin 50) (b : Fin 64) (m : Fin 256) :
    xrow X l k (ix2 b m) = X (ix2 ⟨64 * k.val + b.val, by omega⟩ ⟨256 * l.val + m.val, by omega⟩) := by
  unfold xrow VecWindow.window
  exact congrArg X (by funext a; fin_cases a <;> exact Fin.ext ((emb_unit_val _ _ _ _ _).trans (by simp [ix2])))

theorem chIt_at (g : Fin 50 → Vec Ideal S64x256 .f32) (s : St256 Ideal) (x : ℕ → EReal) (a : ℕ) (b : Fin 64) (m : Fin 256)
    (h0 : at3 s (ix2 b m) = sqK x a) (hg : ∀ k : Fin 50, g k (ix2 b m) = x (a + k.val)) : ∀ k, k ≤ 50 → at3 (chIt g s k) (ix2 b m) = sqK x (a + k)
  | 0, _ => h0
  | k + 1, hk => by
    rw [chIt, dif_pos (by omega : k < 50), chStep_at, hg, chIt_at g s x a b m h0 hg k (by omega)]; rfl

theorem pay30_at (x : Vec Ideal S64x256 .f32) (s : St256 Ideal) (tk : Vec Ideal S64x256 .f32) (j : S64x256.Idx) :
    k0_pay30 s.1 s.2.1 s.2.2 tk x j = cL * tk j + (cH + cH * (stpK (x j) (at3 s j)).2.2) := by
  unfold at3 stpK nvK th
  pointwise [k0_pay30, k0_pay29, k0_pay28, k0_pay27]

theorem tkIt_at (g : Fin 50 → Vec Ideal S64x256 .f32) (s : St256 Ideal) (tk : Vec Ideal S64x256 .f32) (x : ℕ → EReal) (a : ℕ) (b : Fin 64) (m : Fin 256)
    (h0 : at3 s (ix2 b m) = sqK x a) (ht : tk (ix2 b m) = tr (zz x) a) (hg : ∀ k : Fin 50, g k (ix2 b m) = x (a + k.val)) :
    ∀ k, k ≤ 50 → tkIt g s tk k (ix2 b m) = tr (zz x) (a + k)
  | 0, _ => ht
  | k + 1, hk => by
    rw [tkIt, dif_pos (by omega : k < 50), pay30_at, hg, chIt_at g s x a b m h0 hg k (by omega), tkIt_at g s tk x a b m h0 ht hg k (by omega), ← sqK_succ, sqK_zz]
    rfl

theorem inPlane_ix3 (k : Fin 50) (b : Fin 64) (m : Fin 256) : inPlane (ix3 k b m) = ix3 0 b m := by
  funext i; fin_cases i <;> rfl

theorem tkOut_at (g : Fin 50 → Vec Ideal S64x256 .f32) (s : St256 Ideal) (tk : Vec Ideal S64x256 .f32) (x : ℕ → EReal) (a : ℕ) (b : Fin 64) (m : Fin 256)
    (h0 : at3 s (ix2 b m) = sqK x a) (ht : tk (ix2 b m) = tr (zz x) a) (hg : ∀ k : Fin 50, g k (ix2 b m) = x (a + k.val)) (k : Fin 50) :
    tkOut g s tk (ix3 k b m) = tr (zz x) (a + k.val + 1) := by
  unfold tkOut
  rw [inPlane_ix3]
  show k0_pay31 (chIt g s k.val).1 (chIt g s k.val).2.1 (chIt g s k.val).2.2 (tkIt g s tk k.val) (g k) (ix3 0 b m) = _
  have e : k0_pay31 (chIt g s k.val).1 (chIt g s k.val).2.1 (chIt g s k.val).2.2 (tkIt g s tk k.val) (g k) (ix3 0 b m)
      = k0_pay30 (chIt g s k.val).1 (chIt g s k.val).2.1 (chIt g s k.val).2.2 (tkIt g s tk k.val) (g k) (ix2 b m) := by pointwise [k0_pay31]
  rw [e, pay30_at, hg, chIt_at g s x a b m h0 hg k.val (by omega), tkIt_at g s tk x a b m h0 ht hg k.val (by omega), ← sqK_succ, sqK_zz]
  rfl

theorem zOut_at (g : Fin 50 → Vec Ideal S64x256 .f32) (s : St256 Ideal) (x : ℕ → EReal) (a : ℕ) (b : Fin 64) (m : Fin 256)
    (h0 : at3 s (ix2 b m) = sqK x a) (hg : ∀ k : Fin 50, g k (ix2 b m) = x (a + k.val)) (k : Fin 50) :
    zOut g s (ix3 k b m) = zz x (a + k.val) := by
  unfold zOut
  rw [inPlane_ix3]
  show k0_pay6 (chIt g s k.val).1 (chIt g s k.val).2.1 (chIt g s k.val).2.2 (g k) (ix3 0 b m) = _
  have e : k0_pay6 (chIt g s k.val).1 (chIt g s k.val).2.1 (chIt g s k.val).2.2 (g k) (ix3 0 b m)
      = cH + cH * (at3 (chStep (g k) (chIt g s k.val)) (ix2 b m)).2.2 := by unfold at3 chStep; pointwise [k0_pay6]
  rw [e, chStep_at, hg, chIt_at g s x a b m h0 hg k.val (by omega), ← sqK_succ, sqK_zz]

/-! ## The scratches -/

theorem getPutEnc_at (x : Vec Ideal S3x64x80 .f32) (s : St80 Ideal) (j : S64x80.Idx) : at3 (getEnc (putEnc x s)) j = at3 s j := by
  unfold getEnc putEnc
  simp only [VecWindow.window_put_same]
  rw [VecWindow.window_put_of_disjoint _ _ _ _ _ _ _ 0 (by simp), VecWindow.window_put_of_disjoint _ _ _ _ _ _ _ 0 (by simp), VecWindow.window_put_same,
    VecWindow.window_put_of_disjoint _ _ _ _ _ _ _ 0 (by simp), VecWindow.window_put_same]
  unfold at3
  dsimp only
  refine Prod.ext ?_ (Prod.ext ?_ ?_)
  · pointwise [k0_pay13, k0_pay20]
  · pointwise [k0_pay14, k0_pay21]
  · pointwise [k0_pay15, k0_pay22]

theorem getPutCh_at (o : ℕ) (ho : o + 256 ≤ 768) (x : Vec Ideal S3x64x768 .f32) (s : St256 Ideal) (j : S64x256.Idx) : at3 (getCh o ho (putCh o x s)) j = at3 s j := by
  unfold getCh putCh
  simp only [VecWindow.window_put_same]
  rw [VecWindow.window_put_of_disjoint _ _ _ _ _ _ _ 0 (by simp), VecWindow.window_put_of_disjoint _ _ _ _ _ _ _ 0 (by simp), VecWindow.window_put_same,
    VecWindow.window_put_of_disjoint _ _ _ _ _ _ _ 0 (by simp), VecWindow.window_put_same]
  unfold at3
  dsimp only
  refine Prod.ext ?_ (Prod.ext ?_ ?_)
  · pointwise [k0_pay46, k0_pay7]
  · pointwise [k0_pay1, k0_pay8]
  · pointwise [k0_pay2, k0_pay9]

/-- A chain's columns are apart from another's. -/
theorem getPutCh_ne (o o' : ℕ) (ho : o + 256 ≤ 768) (hne : o + 256 ≤ o' ∨ o' + 256 ≤ o) (x : Vec Ideal S3x64x768 .f32) (s : St256 Ideal) :
    getCh o ho (putCh o' x s) = getCh o ho x := by
  have key : ∀ (p p' : ℕ) (inb) (y : Vec Ideal S3x64x768 .f32) (w), VecWindow.window (s := S3x64x768) (VecWindow.put (s := S3x64x768) y ![p', 0, o'] S1x64x256.size w) ![p, 0, o] S1x64x256.size inb
      = VecWindow.window (s := S3x64x768) y ![p, 0, o] S1x64x256.size inb := fun p p' inb y w =>
    VecWindow.window_put_of_disjoint (s := S3x64x768) _ _ _ _ _ _ _ 2 (by simpa using hne)
  unfold getCh putCh
  simp only [key]

theorem reset_enc (j : S64x80.Idx) : at3 (getEnc (k0_pay10 (F := Ideal))) j = (0, 0, 0) := by
  unfold at3 getEnc
  dsimp only
  refine Prod.ext ?_ (Prod.ext ?_ ?_)
  all_goals
    unfold VecWindow.window
    pointwise [k0_pay13, k0_pay14, k0_pay15, k0_pay10]

theorem reset_ch (o : ℕ) (ho : o + 256 ≤ 768) (j : S64x256.Idx) : at3 (getCh o ho (k0_pay11 (F := Ideal))) j = (0, 0, 0) := by
  unfold at3 getCh
  dsimp only
  refine Prod.ext ?_ (Prod.ext ?_ ?_)
  all_goals
    unfold VecWindow.window
    pointwise [k0_pay46, k0_pay1, k0_pay2, k0_pay11]

/-! ## The sequences and the arrays -/

section
variable (W : Dev nD → Valuation τ sig (Elt Ideal)) (c : Dev nD) (Fc : ℕ → ℕ → ℕ → EReal) (A B G : ℕ → ℕ → EReal)
  (hF : ∀ i : S50x256x200.Idx, W c (Proc.devRef .tc main_arg0) i = Fc (i 0).val (i 1).val (i 2).val)
  (hA : ∀ i : S80x200.Idx, W c (Proc.devRef .tc main_arg2) i = A (i 0).val (i 1).val)
  (hB : ∀ i : S80x80.Idx, W c (Proc.devRef .tc main_arg3) i = B (i 0).val (i 1).val)
  (hG : ∀ i : S768x80.Idx, W c (Proc.devRef .tc main_v0) i = G (i 0).val (i 1).val)

theorem ix0_0 : ∀ t : Fin cfg0.N, win0_0.index t = ![t.val % 50, t.val / 50, 0] := (by decide +kernel : ∀ t : Fin grid0.N, _)
theorem ix0_1 : ∀ t : Fin cfg0.N, win0_1.index t = ![0, 0] := (by decide +kernel : ∀ t : Fin grid0.N, _)
theorem ix0_2 : ∀ t : Fin cfg0.N, win0_2.index t = ![0, 0] := (by decide +kernel : ∀ t : Fin grid0.N, _)
theorem ix0_3 : ∀ t : Fin cfg0.N, win0_3.index t = ![0, 0] := (by decide +kernel : ∀ t : Fin grid0.N, _)
theorem ix0_4 : ∀ t : Fin cfg0.N, win0_4.index t = ![t.val % 50, t.val / 50, 0] := (by decide +kernel : ∀ t : Fin grid0.N, _)
theorem ix0_5 : ∀ t : Fin cfg0.N, win0_5.index t = ![t.val % 50, t.val / 50, 0] := (by decide +kernel : ∀ t : Fin grid0.N, _)
theorem ix0_6 : ∀ t : Fin cfg0.N, win0_6.index t = ![t.val % 50, t.val / 50, 0] := (by decide +kernel : ∀ t : Fin grid0.N, _)

include hF in
theorem x0_0_at (t : Fin cfg0.N) (b : Fin 64) (k : Fin 200) : x0_0 W c t (ix3 0 b k) = Fc (t.val % 50) (64 * (t.val / 50) + b.val) k.val := by
  unfold x0_0 iblk0
  refine (hF _).trans ?_
  blk_simp [ix0_0]
  show Fc _ (t.val / 50 * 64 + b.val) k.val = _
  rw [Nat.mul_comm 64]; rfl
include hA in
theorem x0_1_at (t : Fin cfg0.N) (h : Fin 80) (k : Fin 200) : x0_1 W c t (ix2 h k) = A h.val k.val := by
  unfold x0_1 iblk0
  refine (hA _).trans ?_
  blk_simp [ix0_1]
include hB in
theorem x0_2_at (t : Fin cfg0.N) (h : Fin 80) (k : Fin 80) : x0_2 W c t (ix2 h k) = B h.val k.val := by
  unfold x0_2 iblk0
  refine (hB _).trans ?_
  blk_simp [ix0_2]
include hG in
theorem x0_3_at (t : Fin cfg0.N) (h : Fin 768) (k : Fin 80) : x0_3 W c t (ix2 h k) = G h.val k.val := by
  unfold x0_3 iblk0
  refine (hG _).trans ?_
  blk_simp [ix0_3]

/-- The three carried scratches. -/
abbrev S0 := Vec Ideal S3x64x80 .f32 × Vec Ideal S3x64x768 .f32 × Vec Ideal S64x256 .f32

/-- The encoder's scratch after `n` steps of batch tile `bt`. -/
def AtE (s : S0) (bt n : ℕ) : Prop := ∀ (b : Fin 64) (e : Fin 80), at3 (getEnc s.1) (ix2 b e) = sqK (fun n => dr Fc A B (n / 50) (64 * bt + b.val) e.val) n
/-- The columns from `o` on of the chains' scratch. -/
def AtC (o : ℕ) (ho : o + 256 ≤ 768) (s : S0) (bt n : ℕ) : Prop :=
  ∀ (b : Fin 64) (m : Fin 256), at3 (getCh o ho s.2.1) (ix2 b m) = sqK (xi Fc A B (G (o + m.val)) (64 * bt + b.val)) n
/-- The trace. -/
def AtT (s : S0) (bt n : ℕ) : Prop := ∀ (b : Fin 64) (m : Fin 256), s.2.2 (ix2 b m) = tr (zz (xi Fc A B (G m.val) (64 * bt + b.val))) n
/-- All three. -/
def AtS0 (s : S0) (bt n : ℕ) : Prop :=
  AtE Fc A B s bt n ∧ AtC Fc A B G 0 (by decide) s bt n ∧ AtC Fc A B G 256 (by decide) s bt n ∧ AtC Fc A B G 512 (by decide) s bt n ∧ AtT Fc A B G s bt n

theorem reset0_at (bt : ℕ) : AtS0 Fc A B G (k0_pay10 (F := Ideal), k0_pay11 (F := Ideal), k0_pay12 (F := Ideal)) bt 0 :=
  ⟨fun _ _ => reset_enc _, fun _ _ => reset_ch _ _ _, fun _ _ => reset_ch _ _ _, fun _ _ => reset_ch _ _ _, fun b m => by pointwise [k0_pay12]; rfl⟩

include hF hA hB in
/-- The item's drive is the same at all its steps. -/
theorem drv_at (t : Fin cfg0.N) (b : Fin 64) (e : Fin 80) (k : ℕ) (hk : k < 50) :
    (fun n => dr Fc A B (n / 50) (64 * (t.val / 50) + b.val) e.val) (50 * (t.val % 50) + k)
      = ∑ h : Fin 80, (∑ k : Fin 200, x0_0 W c t (ix3 0 b k) * x0_1 W c t (ix2 h k)) * x0_2 W c t (ix2 e h) := by
  dsimp only
  rw [show (50 * (t.val % 50) + k) / 50 = t.val % 50 by omega]
  simp only [x0_0_at W c Fc hF, x0_1_at W c A hA, x0_2_at W c B hB]
  rfl

include hF hA hB hG in
/-- A chain's inputs at a point. -/
theorem xin_at (t : Fin cfg0.N) (s : S0) (hs : AtE Fc A B s (t.val / 50) (50 * (t.val % 50))) (l : Fin 3) (k : Fin 50) (b : Fin 64) (m : Fin 256) :
    xrow (xinV (x0_0 W c t) (x0_1 W c t) (x0_2 W c t) (x0_3 W c t) s.1) l k (ix2 b m)
      = xi Fc A B (G (256 * l.val + m.val)) (64 * (t.val / 50) + b.val) (50 * (t.val % 50) + k.val) := by
  rw [xrow_at]
  unfold xinV
  pointwise [k0_pay23]
  unfold xi
  refine Finset.sum_congr rfl fun e _ => ?_
  rw [x0_3_at W c G hG]
  refine congrArg₂ (· * ·) ?_ rfl
  exact zeV_at _ _ _ _ _ _ b e (hs b e) (drv_at W c Fc A B hF hA hB t b e) k.val k.isLt _ rfl

include hF hA hB hG in
theorem next0_at (t : Fin cfg0.N) (s : S0) (h : AtS0 Fc A B G s (t.val / 50) (50 * (t.val % 50))) :
    AtS0 Fc A B G (next0 W c t s) (t.val / 50) (50 * (t.val % 50) + 50) := by
  obtain ⟨he, h0, h1, h2, ht⟩ := h
  unfold next0
  refine ⟨fun b e => ?_, fun b m => ?_, fun b m => ?_, fun b m => ?_, fun b m => ?_⟩
  · unfold encN
    dsimp only
    rw [getPutEnc_at]
    exact encIt_at _ _ _ _ _ _ b e (he b e) (drv_at W c Fc A B hF hA hB t b e) 50 le_rfl
  · unfold chC
    dsimp only
    rw [getPutCh_ne 0 512 _ (by decide), getPutCh_ne 0 256 _ (by decide), getPutCh_at]
    exact chIt_at _ _ _ _ b m (h0 b m) (fun k => xin_at W c Fc A B G hF hA hB hG t s he 0 k b m) 50 le_rfl
  · unfold chC
    dsimp only
    rw [getPutCh_ne 256 512 _ (by decide), getPutCh_at]
    exact chIt_at _ _ _ _ b m (h1 b m) (fun k => xin_at W c Fc A B G hF hA hB hG t s he 1 k b m) 50 le_rfl
  · unfold chC
    dsimp only
    rw [getPutCh_at]
    exact chIt_at _ _ _ _ b m (h2 b m) (fun k => xin_at W c Fc A B G hF hA hB hG t s he 2 k b m) 50 le_rfl
  · unfold tkN
    pointwise [k0_pay35]
    have hx : ∀ k : Fin 50, xrow (xinV (x0_0 W c t) (x0_1 W c t) (x0_2 W c t) (x0_3 W c t) s.1) 0 k (ix2 b m)
        = xi Fc A B (G m.val) (64 * (t.val / 50) + b.val) (50 * (t.val % 50) + k.val) := fun k => by
      rw [xin_at W c Fc A B G hF hA hB hG t s he 0 k b m]
      show xi Fc A B (G (0 + m.val)) _ _ = _
      rw [Nat.zero_add]
    have h0' := h0 b m
    rw [Nat.zero_add] at h0'
    exact tkIt_at _ _ _ _ _ b m h0' (ht b m) hx 50 le_rfl

include hF hA hB hG in
theorem carry0_at : ∀ n, n ≤ 200 → ¬ n % 50 = 0 → AtS0 Fc A B G (carry0 W c n) (n / 50) (50 * (n % 50))
  | 0, _, h => absurd rfl h
  | n + 1, hn, h => by
    have hN : n < cfg0.N := Nat.lt_of_lt_of_eq (by omega : n < 200) N_0.symm
    rw [carry0_succ W c ⟨n, hN⟩]
    have e1 : (n + 1) / 50 = n / 50 := by omega
    have e2 : 50 * ((n + 1) % 50) = 50 * (n % 50) + 50 := by omega
    rw [e1, e2]
    refine next0_at W c Fc A B G hF hA hB hG ⟨n, hN⟩ _ ?_
    unfold at0
    by_cases h0 : n % 50 = 0
    · rw [start0_reset W c ⟨n, hN⟩ h0]
      show AtS0 Fc A B G _ _ (50 * (n % 50)); rw [h0]; exact reset0_at Fc A B G _
    · rw [start0_keep W c ⟨n, hN⟩ h0]
      exact carry0_at n (by omega) h0

include hF hA hB hG in
theorem at0_at (t : Fin cfg0.N) : AtS0 Fc A B G (at0 W c t) (t.val / 50) (50 * (t.val % 50)) := by
  have ht : t.val < 200 := Nat.lt_of_lt_of_eq t.isLt N_0
  unfold at0
  by_cases h0 : t.val % 50 = 0
  · rw [start0_reset W c t h0, h0]; exact reset0_at Fc A B G _
  · rw [start0_keep W c t h0]; exact carry0_at W c Fc A B G hF hA hB hG t.val (by omega) h0

include hF hA hB hG in
/-- The traces. -/
theorem final0_4 : (dat0 W c).arrAt 4 cfg0.N = fun i : S2500x256x256.Idx => tr (zz (xi Fc A B (G (i 2).val) (i 1).val)) ((i 0).val + 1) := by
  refine (dat0 W c).arrAt_eq_of_covers 4 _ (by decide +kernel) fun t hf y => ?_
  blk_simp [ix0_4]
  rw [after0_4]
  revert y
  intro (y : S50x64x256.Idx)
  obtain ⟨k, b, m, rfl⟩ : ∃ a b c, y = ix3 a b c := ⟨y 0, y 1, y 2, eq_ix3 y⟩
  show res0_0 W c t (at0 W c t) (ix3 k b m) = tr (zz (xi Fc A B (G m.val) (t.val / 50 * 64 + b.val))) (t.val % 50 * 50 + k.val + 1)
  obtain ⟨he, h0, -, -, ht⟩ := at0_at W c Fc A B G hF hA hB hG t
  unfold res0_0 o0
  have hx : ∀ k : Fin 50, xrow (xinV (x0_0 W c t) (x0_1 W c t) (x0_2 W c t) (x0_3 W c t) (at0 W c t).1) 0 k (ix2 b m)
      = xi Fc A B (G m.val) (64 * (t.val / 50) + b.val) (50 * (t.val % 50) + k.val) := fun k => by
    rw [xin_at W c Fc A B G hF hA hB hG t _ he 0 k b m]
    show xi Fc A B (G (0 + m.val)) _ _ = _
    rw [Nat.zero_add]
  have h0' := h0 b m
  rw [Nat.zero_add] at h0'
  rw [tkOut_at _ _ _ _ _ b m h0' (ht b m) hx k, Nat.mul_comm (t.val / 50), Nat.mul_comm (t.val % 50)]

include hF hA hB hG in
/-- The values' activations. -/
theorem final0_5 : (dat0 W c).arrAt 5 cfg0.N = fun i : S2500x256x256.Idx => zz (xi Fc A B (G (256 + (i 2).val)) (i 1).val) (i 0).val := by
  refine (dat0 W c).arrAt_eq_of_covers 5 _ (by decide +kernel) fun t hf y => ?_
  blk_simp [ix0_5]
  rw [after0_5]
  revert y
  intro (y : S50x64x256.Idx)
  obtain ⟨k, b, m, rfl⟩ : ∃ a b c, y = ix3 a b c := ⟨y 0, y 1, y 2, eq_ix3 y⟩
  show res0_1 W c t (at0 W c t) (ix3 k b m) = zz (xi Fc A B (G (256 + m.val)) (t.val / 50 * 64 + b.val)) (t.val % 50 * 50 + k.val)
  obtain ⟨he, -, h1, -, -⟩ := at0_at W c Fc A B G hF hA hB hG t
  unfold res0_1 o1
  rw [zOut_at _ _ _ _ b m (h1 b m) (fun k => xin_at W c Fc A B G hF hA hB hG t _ he 1 k b m) k, Nat.mul_comm (t.val / 50), Nat.mul_comm (t.val % 50)]

include hF hA hB hG in
/-- The read activations. -/
theorem final0_6 : (dat0 W c).arrAt 6 cfg0.N = fun i : S2500x256x256.Idx => zz (xi Fc A B (G (512 + (i 2).val)) (i 1).val) (i 0).val := by
  refine (dat0 W c).arrAt_eq_of_covers 6 _ (by decide +kernel) fun t hf y => ?_
  blk_simp [ix0_6]
  rw [after0_6]
  revert y
  intro (y : S50x64x256.Idx)
  obtain ⟨k, b, m, rfl⟩ : ∃ a b c, y = ix3 a b c := ⟨y 0, y 1, y 2, eq_ix3 y⟩
  show res0_2 W c t (at0 W c t) (ix3 k b m) = zz (xi Fc A B (G (512 + m.val)) (t.val / 50 * 64 + b.val)) (t.val % 50 * 50 + k.val)
  obtain ⟨he, -, -, h2, -⟩ := at0_at W c Fc A B G hF hA hB hG t
  unfold res0_2 o2
  rw [zOut_at _ _ _ _ b m (h2 b m) (fun k => xin_at W c Fc A B G hF hA hB hG t _ he 2 k b m) k, Nat.mul_comm (t.val / 50), Nat.mul_comm (t.val % 50)]
end

end Cert.KernelIdeal.Hand

end
-- ==== Proof.V.R1.lean ====
module

public import proofs.«01_k».proof.Proof.KI.Reg1
public import proofs.«01_k».proof.Proof.V.R2

@[expose] public section

set_option maxRecDepth 16384

noncomputable section

/-! The memory call's result array, from the arrays of traces, values and read activations and the initial memory. -/

namespace Cert.KernelIdeal.Hand

open Cert.KernelIdeal Cert.KernelIdeal.Gen Cert.Spec
open Idealize.ShloMosaic Idealize.ShloMosaic.TcCoe
open Idealize.ShloMosaic.Pipeline (Dat Cfg Window)

theorem zRow_at (X : Vec Ideal S32x125x256 .bf16) (b : Fin 32) (k : Fin 125) (m : Fin 256) : zRow X b (ix3 0 k m) = X (ix3 b k m) := by
  unfold zRow VecWindow.window
  exact congrArg X (by funext a; fin_cases a <;> exact Fin.ext ((emb_unit_val _ _ _ _ _).trans (by simp [ix3])))

theorem mRow_at (X : Vec Ideal S32x256x256 .f32) (b : Fin 32) (k : Fin 256) (m : Fin 256) : mRow X b (ix3 0 k m) = X (ix3 b k m) := by
  unfold mRow VecWindow.window
  exact congrArg X (by funext a; fin_cases a <;> exact Fin.ext ((emb_unit_val _ _ _ _ _).trans (by simp [ix3])))

theorem mask_at : ∀ i k : Fin 125, k1_pay7 (ix2 i k) = if k.val ≤ i.val then 1#1 else 0#1 := by
  intro i k
  unfold k1_pay7
  pointwise
  revert i k
  decide +kernel

theorem mOut_at (x0 x1 x2 : Vec Ideal S125x32x256 .bf16) (xm : Vec Ideal S32x256x256 .f32) (k : Fin 125) (b : Fin 32) (m : Fin 256) :
    mOut x0 x1 x2 xm (ix3 k b m) = ∑ j : Fin 256, x2 (ix3 k b j) * xm (ix3 b m j)
      + cE * ∑ i : Fin 125, (if i.val ≤ k.val then ∑ j : Fin 256, x2 (ix3 k b j) * x0 (ix3 i b j) else 0) * x1 (ix3 i b m) := by
  unfold mOut
  pointwise [k1_pay2]
  show mRead x0 x1 x2 xm b (ix3 0 k m) = _
  unfold mRead
  pointwise [k1_pay11, k1_pay10, k1_pay8, k1_pay9]
  simp only [zRow_at, mRow_at, mask_at]
  pointwise [k1_pay4, k1_pay5, k1_pay6]
  refine congrArg₂ (· + ·) rfl (congrArg₂ (· * ·) rfl (Finset.sum_congr rfl fun i _ => ?_))
  by_cases h : i.val ≤ k.val
  · rw [if_pos h, if_pos h]; rfl
  · rw [if_neg h, if_neg h, zero_mul]; rfl

theorem mNext_at (x0 x1 : Vec Ideal S125x32x256 .bf16) (xm : Vec Ideal S32x256x256 .f32) (b : Fin 32) (m j : Fin 256) :
    mNext x0 x1 xm (ix3 b m j) = xm (ix3 b m j) + cE * ∑ i : Fin 125, x1 (ix3 i b m) * x0 (ix3 i b j) := by
  show mUpd x0 x1 xm b (ix3 0 m j) = _
  unfold mUpd
  pointwise [k1_pay12, k1_pay10, k1_pay8, k1_pay9]
  simp only [zRow_at, mRow_at]
  pointwise [k1_pay4, k1_pay5]

section
variable (W : Dev nD → Valuation τ sig (Elt Ideal)) (c : Dev nD) (K V Z M : ℕ → ℕ → ℕ → EReal)
  (hK : ∀ i : S2500x256x256.Idx, W c (Proc.devRef .tc main_v1_0) i = K (i 1).val (i 2).val (i 0).val)
  (hV : ∀ i : S2500x256x256.Idx, W c (Proc.devRef .tc main_v1_1) i = V (i 1).val (i 2).val (i 0).val)
  (hZ : ∀ i : S2500x256x256.Idx, W c (Proc.devRef .tc main_v1_2) i = Z (i 1).val (i 2).val (i 0).val)
  (hM : ∀ i : S256x256x256.Idx, W c (Proc.devRef .tc main_arg1) i = M (i 0).val (i 1).val (i 2).val)
  (rK : ∀ b j n, ∃ r : ℝ, K b j n = (r : EReal)) (rV : ∀ b j n, ∃ r : ℝ, V b j n = (r : EReal)) (rZ : ∀ b j n, ∃ r : ℝ, Z b j n = (r : EReal) ∧ 0 ≤ r)

theorem ix1_0 : ∀ t : Fin cfg1.N, win1_0.index t = ![t.val % 20, t.val / 20, 0] := (by decide +kernel : ∀ t : Fin grid1.N, _)
theorem ix1_1 : ∀ t : Fin cfg1.N, win1_1.index t = ![t.val % 20, t.val / 20, 0] := (by decide +kernel : ∀ t : Fin grid1.N, _)
theorem ix1_2 : ∀ t : Fin cfg1.N, win1_2.index t = ![t.val % 20, t.val / 20, 0] := (by decide +kernel : ∀ t : Fin grid1.N, _)
theorem ix1_3 : ∀ t : Fin cfg1.N, win1_3.index t = ![t.val / 20, 0, 0] := (by decide +kernel : ∀ t : Fin grid1.N, _)
theorem ix1_4 : ∀ t : Fin cfg1.N, win1_4.index t = ![t.val % 20, t.val / 20, 0] := (by decide +kernel : ∀ t : Fin grid1.N, _)

include hK in
theorem x1_0_at (t : Fin cfg1.N) (k : Fin 125) (b : Fin 32) (m : Fin 256) :
    x1_0 W c t (ix3 k b m) = K (32 * (t.val / 20) + b.val) m.val (125 * (t.val % 20) + k.val) := by
  unfold x1_0 iblk1
  refine (hK _).trans ?_
  blk_simp [ix1_0]
  show K (t.val / 20 * 32 + b.val) m.val (t.val % 20 * 125 + k.val) = _
  rw [Nat.mul_comm 32, Nat.mul_comm 125]
include hV in
theorem x1_1_at (t : Fin cfg1.N) (k : Fin 125) (b : Fin 32) (m : Fin 256) :
    x1_1 W c t (ix3 k b m) = V (32 * (t.val / 20) + b.val) m.val (125 * (t.val % 20) + k.val) := by
  unfold x1_1 iblk1
  refine (hV _).trans ?_
  blk_simp [ix1_1]
  show V (t.val / 20 * 32 + b.val) m.val (t.val % 20 * 125 + k.val) = _
  rw [Nat.mul_comm 32, Nat.mul_comm 125]
include hZ in
theorem x1_2_at (t : Fin cfg1.N) (k : Fin 125) (b : Fin 32) (m : Fin 256) :
    x1_2 W c t (ix3 k b m) = Z (32 * (t.val / 20) + b.val) m.val (125 * (t.val % 20) + k.val) := by
  unfold x1_2 iblk1
  refine (hZ _).trans ?_
  blk_simp [ix1_2]
  show Z (t.val / 20 * 32 + b.val) m.val (t.val % 20 * 125 + k.val) = _
  rw [Nat.mul_comm 32, Nat.mul_comm 125]
include hM in
theorem x1_3_at (t : Fin cfg1.N) (b : Fin 32) (m j : Fin 256) :
    x1_3 W c t (ix3 b m j) = M (32 * (t.val / 20) + b.val) m.val j.val := by
  unfold x1_3 iblk1
  refine (hM _).trans ?_
  blk_simp [ix1_3]
  show M (t.val / 20 * 32 + b.val) m.val j.val = _
  rw [Nat.mul_comm 32]

/-- The carried memory of batch tile `bt` after `n` steps. -/
def AtS1 (xs : Vec Ideal S32x256x256 .f32) (bt n : ℕ) : Prop :=
  ∀ (b : Fin 32) (m j : Fin 256), xs (ix3 b m j) = mm (M (32 * bt + b.val) m.val j.val) (V (32 * bt + b.val) m.val) (K (32 * bt + b.val) j.val) n

include hM in
theorem reset1_at (t : Fin cfg1.N) : AtS1 K V M (k1_pay3 (x1_3 W c t)) (t.val / 20) 0 := fun b m j => by
  pointwise [k1_pay3]; exact x1_3_at W c M hM t b m j

include hK hV rK rV in
theorem next1_at (t : Fin cfg1.N) (xs : Vec Ideal S32x256x256 .f32) (h : AtS1 K V M xs (t.val / 20) (125 * (t.val % 20))) :
    AtS1 K V M (next1 W c t xs) (t.val / 20) (125 * (t.val % 20) + 125) := fun b m j => by
  unfold next1
  rw [mNext_at, h b m j, mm_add _ _ _ _ (rV _ _) (rK _ _) 125]
  simp only [x1_0_at W c K hK, x1_1_at W c V hV]

include hK hV hM rK rV in
theorem carry1_at : ∀ n, n ≤ 160 → ¬ n % 20 = 0 → AtS1 K V M (carry1 W c n) (n / 20) (125 * (n % 20))
  | 0, _, h => absurd rfl h
  | n + 1, hn, h => by
    have hN : n < cfg1.N := Nat.lt_of_lt_of_eq (by omega : n < 160) N_1.symm
    rw [carry1_succ W c ⟨n, hN⟩]
    have e1 : (n + 1) / 20 = n / 20 := by omega
    have e2 : 125 * ((n + 1) % 20) = 125 * (n % 20) + 125 := by omega
    rw [e1, e2]
    refine next1_at W c K V M hK hV rK rV ⟨n, hN⟩ _ ?_
    unfold at1
    by_cases h0 : n % 20 = 0
    · rw [start1_reset W c ⟨n, hN⟩ h0]
      show AtS1 K V M _ _ (125 * (n % 20)); rw [h0]; exact reset1_at W c K V M hM _
    · rw [start1_keep W c ⟨n, hN⟩ h0]
      exact carry1_at n (by omega) h0

include hK hV hM rK rV in
theorem at1_at (t : Fin cfg1.N) : AtS1 K V M (at1 W c t) (t.val / 20) (125 * (t.val % 20)) := by
  have ht : t.val < 160 := Nat.lt_of_lt_of_eq t.isLt N_1
  unfold at1
  by_cases h0 : t.val % 20 = 0
  · rw [start1_reset W c t h0, h0]; exact reset1_at W c K V M hM t
  · rw [start1_keep W c t h0]; exact carry1_at W c K V M hK hV hM rK rV t.val (by omega) h0

include hK hV hZ hM rK rV rZ in
/-- The memory reads. -/
theorem final1 : (dat1 W c).arrAt 4 cfg1.N = fun i : S2500x256x256.Idx =>
    ∑ j : Fin 256, mm (M (i 1).val (i 2).val j.val) (V (i 1).val (i 2).val) (K (i 1).val j.val) ((i 0).val + 1) * Z (i 1).val j.val (i 0).val := by
  refine (dat1 W c).arrAt_eq_of_covers 4 _ (by decide +kernel) fun t hf y => ?_
  have ht : t.val < 160 := Nat.lt_of_lt_of_eq t.isLt N_1
  blk_simp [ix1_4]
  rw [after1_4]
  revert y
  intro (y : S125x32x256.Idx)
  obtain ⟨k, b, m, rfl⟩ : ∃ a b c, y = ix3 a b c := ⟨y 0, y 1, y 2, eq_ix3 y⟩
  show res1_0 W c t (at1 W c t) (ix3 k b m) = ∑ j : Fin 256, mm (M (t.val / 20 * 32 + b.val) m.val j.val) (V (t.val / 20 * 32 + b.val) m.val) (K (t.val / 20 * 32 + b.val) j.val) (t.val % 20 * 125 + k.val + 1) * Z (t.val / 20 * 32 + b.val) j.val (t.val % 20 * 125 + k.val)
  unfold res1_0
  rw [mOut_at]
  simp only [x1_0_at W c K hK, x1_1_at W c V hV, x1_2_at W c Z hZ, at1_at W c K V M hK hV hM rK rV t _ _ _]
  rw [Nat.mul_comm (t.val / 20), Nat.mul_comm (t.val % 20)]
  exact read_chunk (fun j : Fin 256 => M (32 * (t.val / 20) + b.val) m.val j.val) (V (32 * (t.val / 20) + b.val) m.val) (fun j => K (32 * (t.val / 20) + b.val) j.val) (fun j => Z (32 * (t.val / 20) + b.val) j.val)
    (125 * (t.val % 20)) k.val 125 k.isLt (rV _ _) (fun j => rK _ _) (fun j => rZ _ _)
end

end Cert.KernelIdeal.Hand

end
-- ==== Proof.V.Ker.lean ====
module

public import proofs.«01_k».proof.Proof.V.Net
public import proofs.«01_k».proof.Proof.V.R0
public import proofs.«01_k».proof.Proof.V.R1
public import proofs.«01_k».proof.Proof.V.R2
public import proofs.«01_k».proof.Proof.KI.Run
public import Idealize.ShloMosaic.Lib.StableHlo.ReadAt

@[expose] public section

set_option maxRecDepth 16384

noncomputable section

/-! What the kernel computes, as a function of its seven arguments. -/

namespace Cert.KernelIdeal.Hand

open Cert.KernelIdeal Cert.KernelIdeal.Gen Cert.Spec
open Idealize.ShloMosaic Idealize.ShloMosaic.TcCoe
open Idealize.ShloMosaic.Pipeline (Dat Cfg Window)

section
variable (m : (ℓ : Loc nD τ sig) → Buf (Elt Ideal) ℓ) (c : Dev nD)

/-- The arguments at natural numbers. -/
def aF : ℕ → ℕ → ℕ → EReal := t3 fun i j k => (m ((c.tc : Thread nD τ).loc main_arg0) : S50x256x200.Idx → EReal) (ix3 i j k)
def aM : ℕ → ℕ → ℕ → EReal := t3 fun i j k => (m ((c.tc : Thread nD τ).loc main_arg1) : S256x256x256.Idx → EReal) (ix3 i j k)
def aA : ℕ → ℕ → EReal := t2 fun i j => (m ((c.tc : Thread nD τ).loc main_arg2) : S80x200.Idx → EReal) (ix2 i j)
def aB : ℕ → ℕ → EReal := t2 fun i j => (m ((c.tc : Thread nD τ).loc main_arg3) : S80x80.Idx → EReal) (ix2 i j)
def aK : ℕ → ℕ → EReal := t2 fun i j => (m ((c.tc : Thread nD τ).loc main_arg4) : S256x80.Idx → EReal) (ix2 i j)
def aV : ℕ → ℕ → EReal := t2 fun i j => (m ((c.tc : Thread nD τ).loc main_arg5) : S256x80.Idx → EReal) (ix2 i j)
def aR : ℕ → ℕ → EReal := t2 fun i j => (m ((c.tc : Thread nD τ).loc main_arg6) : S256x80.Idx → EReal) (ix2 i j)

theorem aF_at (i : Fin 50) (j : Fin 256) (k : Fin 200) : (m ((c.tc : Thread nD τ).loc main_arg0) : S50x256x200.Idx → EReal) (ix3 i j k) = aF m c i.val j.val k.val := by unfold aF; rw [t3_at]
theorem aM_at (i : Fin 256) (j : Fin 256) (k : Fin 256) : (m ((c.tc : Thread nD τ).loc main_arg1) : S256x256x256.Idx → EReal) (ix3 i j k) = aM m c i.val j.val k.val := by unfold aM; rw [t3_at]
theorem aA_at (i : Fin 80) (j : Fin 200) : (m ((c.tc : Thread nD τ).loc main_arg2) : S80x200.Idx → EReal) (ix2 i j) = aA m c i.val j.val := by unfold aA; rw [t2_at]
theorem aB_at (i : Fin 80) (j : Fin 80) : (m ((c.tc : Thread nD τ).loc main_arg3) : S80x80.Idx → EReal) (ix2 i j) = aB m c i.val j.val := by unfold aB; rw [t2_at]
theorem aK_at (i : Fin 256) (j : Fin 80) : (m ((c.tc : Thread nD τ).loc main_arg4) : S256x80.Idx → EReal) (ix2 i j) = aK m c i.val j.val := by unfold aK; rw [t2_at]
theorem aV_at (i : Fin 256) (j : Fin 80) : (m ((c.tc : Thread nD τ).loc main_arg5) : S256x80.Idx → EReal) (ix2 i j) = aV m c i.val j.val := by unfold aV; rw [t2_at]
theorem aR_at (i : Fin 256) (j : Fin 80) : (m ((c.tc : Thread nD τ).loc main_arg6) : S256x80.Idx → EReal) (ix2 i j) = aR m c i.val j.val := by unfold aR; rw [t2_at]

theorem U1_0 (i : S50x256x200.Idx) : (U1 m c (Proc.devRef .tc main_arg0) : S50x256x200.Idx → EReal) i = aF m c (i 0).val (i 1).val (i 2).val := by
  have h := V1_of m c main_arg0 (by decide)
  refine (congrFun h i).trans ?_
  obtain ⟨a, b, d, rfl⟩ : ∃ a b d, i = ix3 a b d := ⟨i 0, i 1, i 2, eq_ix3 i⟩
  refine Eq.symm (Eq.trans (?_ : _ = aF m c a.val b.val d.val) ?_)
  · rfl
  · unfold aF; rw [t3_at]
theorem U1_1 (i : S256x256x256.Idx) : (U1 m c (Proc.devRef .tc main_arg1) : S256x256x256.Idx → EReal) i = aM m c (i 0).val (i 1).val (i 2).val := by
  have h := V1_of m c main_arg1 (by decide)
  refine (congrFun h i).trans ?_
  obtain ⟨a, b, d, rfl⟩ : ∃ a b d, i = ix3 a b d := ⟨i 0, i 1, i 2, eq_ix3 i⟩
  refine Eq.symm (Eq.trans (?_ : _ = aM m c a.val b.val d.val) ?_)
  · rfl
  · unfold aM; rw [t3_at]
theorem U1_2 (i : S80x200.Idx) : (U1 m c (Proc.devRef .tc main_arg2) : S80x200.Idx → EReal) i = aA m c (i 0).val (i 1).val := by
  have h := V1_of m c main_arg2 (by decide)
  refine (congrFun h i).trans ?_
  obtain ⟨a, b, rfl⟩ : ∃ a b, i = ix2 a b := ⟨i 0, i 1, eq_ix2 i⟩
  refine Eq.symm (Eq.trans (?_ : _ = aA m c a.val b.val) ?_)
  · rfl
  · unfold aA; rw [t2_at]
theorem U1_3 (i : S80x80.Idx) : (U1 m c (Proc.devRef .tc main_arg3) : S80x80.Idx → EReal) i = aB m c (i 0).val (i 1).val := by
  have h := V1_of m c main_arg3 (by decide)
  refine (congrFun h i).trans ?_
  obtain ⟨a, b, rfl⟩ : ∃ a b, i = ix2 a b := ⟨i 0, i 1, eq_ix2 i⟩
  refine Eq.symm (Eq.trans (?_ : _ = aB m c a.val b.val) ?_)
  · rfl
  · unfold aB; rw [t2_at]

/-- The stacked weights. -/
theorem U1_G (i : S768x80.Idx) : (U1 m c (Proc.devRef .tc main_v0) : S768x80.Idx → EReal) i = cat3 (aK m c) (aV m c) (aR m c) (i 0).val (i 1).val := by
  show StableHlo.after hostOps0 (V0 m c) (Proc.devRef .tc main_v0) i = _
  obtain ⟨a, b, rfl⟩ : ∃ a b, i = ix2 a b := ⟨i 0, i 1, eq_ix2 i⟩
  show _ = cat3 (aK m c) (aV m c) (aR m c) a.val b.val
  have ha := a.isLt
  unfold cat3
  after_reads_at
  by_cases h0 : a.val < 256
  · rw [dif_pos h0, if_pos h0]
    exact (t2_at (fun i j => (m ((c.tc : Thread nD τ).loc main_arg4) : S256x80.Idx → EReal) (ix2 i j)) ⟨a.val, h0⟩ b).symm
  · rw [dif_neg h0, if_neg h0]
    by_cases h1 : a.val < 512
    · rw [dif_pos (by omega), if_pos h1]
      exact (t2_at (fun i j => (m ((c.tc : Thread nD τ).loc main_arg5) : S256x80.Idx → EReal) (ix2 i j)) ⟨a.val - 256, by omega⟩ b).symm
    · rw [dif_neg (by omega), if_neg h1]
      exact (t2_at (fun i j => (m ((c.tc : Thread nD τ).loc main_arg6) : S256x80.Idx → EReal) (ix2 i j)) ⟨a.val - 512, by omega⟩ b).symm

theorem U2_4 (i : S2500x256x256.Idx) : (U2 m c (Proc.devRef .tc main_v1_0) : S2500x256x256.Idx → EReal) i
    = (fun b j n => tr (zz (xi (aF m c) (aA m c) (aB m c) (aK m c j) b)) (n + 1)) (i 1).val (i 2).val (i 0).val := by
  have h := Pipeline.afterRegion_arr (dat0 (U1 m) c) (U1 m c) launch0.win.arr_inj 4
  refine (congrFun (h.trans (final0_4 (U1 m) c _ _ _ _ (U1_0 m c) (U1_2 m c) (U1_3 m c) (U1_G m c))) i).trans ?_
  have := (i 2).isLt
  dsimp only
  rw [cat3_0 _ _ _ _ (i 2).isLt]
theorem U2_5 (i : S2500x256x256.Idx) : (U2 m c (Proc.devRef .tc main_v1_1) : S2500x256x256.Idx → EReal) i
    = (fun b j n => zz (xi (aF m c) (aA m c) (aB m c) (aV m c j) b) n) (i 1).val (i 2).val (i 0).val := by
  have h := Pipeline.afterRegion_arr (dat0 (U1 m) c) (U1 m c) launch0.win.arr_inj 5
  refine (congrFun (h.trans (final0_5 (U1 m) c _ _ _ _ (U1_0 m c) (U1_2 m c) (U1_3 m c) (U1_G m c))) i).trans ?_
  dsimp only
  rw [cat3_1 _ _ _ _ (i 2).isLt]
theorem U2_6 (i : S2500x256x256.Idx) : (U2 m c (Proc.devRef .tc main_v1_2) : S2500x256x256.Idx → EReal) i
    = (fun b j n => zz (xi (aF m c) (aA m c) (aB m c) (aR m c j) b) n) (i 1).val (i 2).val (i 0).val := by
  have h := Pipeline.afterRegion_arr (dat0 (U1 m) c) (U1 m c) launch0.win.arr_inj 6
  refine (congrFun (h.trans (final0_6 (U1 m) c _ _ _ _ (U1_0 m c) (U1_2 m c) (U1_3 m c) (U1_G m c))) i).trans ?_
  dsimp only
  rw [cat3_2]
theorem U2_1 (i : S256x256x256.Idx) : (U2 m c (Proc.devRef .tc main_arg1) : S256x256x256.Idx → EReal) i = aM m c (i 0).val (i 1).val (i 2).val :=
  (congrFun (U2_keeps m c main_arg1 (by decide)) i).trans (U1_1 m c i)

/-- The memory reads. -/
theorem U3_2 (i : S2500x256x256.Idx) : (U3 m c (Proc.devRef .tc main_v2) : S2500x256x256.Idx → EReal) i
    = rd (aF m c) (aA m c) (aB m c) (aK m c) (aV m c) (aR m c) (aM m c) (i 1).val (i 2).val (i 0).val := by
  have h := Pipeline.afterRegion_arr (dat1 (U2 m) c) (U2 m c) launch1.win.arr_inj 4
  exact congrFun (h.trans (final1 (U2 m) c (fun b j n => tr (zz (xi (aF m c) (aA m c) (aB m c) (aK m c j) b)) (n + 1)) (fun b j n => zz (xi (aF m c) (aA m c) (aB m c) (aV m c j) b) n)
    (fun b j n => zz (xi (aF m c) (aA m c) (aB m c) (aR m c j) b) n) (aM m c) (U2_4 m c) (U2_5 m c) (U2_6 m c) (U2_1 m c) (fun b j n => tr_real _ _)
    (fun b j n => (zz_real _ _).imp fun _ h => h.1) (fun b j n => zz_real _ _))) i

/-- The kernel's result. -/
theorem out_eq : out m c = fun i : S50x256x256.Idx => res (aF m c) (aA m c) (aB m c) (aK m c) (aV m c) (aR m c) (aM m c) (i 0).val (i 1).val (i 2).val :=
  final2 (U3 m) c (rd (aF m c) (aA m c) (aB m c) (aK m c) (aV m c) (aR m c) (aM m c)) (U3_2 m c)
end

end Cert.KernelIdeal.Hand

end
-- ==== Proof.V.RefAt.lean ====
module

public import proofs.«01_k».proof.Proof.V.Net
public import proofs.«01_k».proof.Proof.Gen.ReferenceIdeal.Step
public import Idealize.ShloMosaic.Lib.DynamicIndex

@[expose] public section

set_option maxRecDepth 16384

noncomputable section

/-! One trip of the reference's loop read at an index. -/

namespace Cert.ReferenceIdeal.Val

open Cert.ReferenceIdeal Cert.ReferenceIdeal.Gen Cert.ReferenceIdeal.Step Cert.Spec
open Idealize.ShloMosaic

variable (j : ℕ) (s : State Ideal)

/-- The trip's slice of the drive. -/
theorem b3_at (hj : j < 2500) (b : Fin 256) (e : Fin 80) : b3 j s (ix2 b e) = s.main_v26_0 (ix3 ⟨j, hj⟩ b e) := by
  have h : b2 j s = extractStridedSlice S1x256x80 ![j, 0, 0] s.main_v26_0
      ⟨rfl, fun a => by fin_cases a <;> simp <;> omega⟩ := by
    unfold b2
    refine Host.dynamicSlice_eq_extractStridedSlice _ _ _ _ _ _ fun a => ?_
    fin_cases a
    · exact toInt_ofNat_of_lt (by omega)
    · rfl
    · rfl
  unfold b3
  rw [h]
  pointwise

theorem enc_at (hj : j < 2500) (b : Fin 256) (e : Fin 80) : ((b7 j s (ix2 b e), b15 j s (ix2 b e), b29 j s (ix2 b e)) : St)
    = stp (s.main_v26_0 (ix3 ⟨j, hj⟩ b e)) (s.main_v26_6 (ix2 b e), s.main_v26_7 (ix2 b e), s.main_v26_8 (ix2 b e)) := by
  rw [← b3_at j s hj b e]
  unfold stp nv sg
  dsimp only
  refine Prod.ext ?_ (Prod.ext ?_ ?_)
  · pointwise [b7, b6, b5, b4]
  · pointwise [b15, b14, b13, b12, b11, b10, b9, b8, b7, b6, b5, b4]
  · pointwise [b29, b28, b27, b26, b25, b24, b23, b22, b21, b20, b19, b18, b17, b16, b15, b14, b13, b12, b11, b10, b9, b8, b7, b6, b5, b4]

theorem wk_at (b m : Fin 256) : ((b35 j s (ix2 b m), b43 j s (ix2 b m), b57 j s (ix2 b m)) : St)
    = stp (b31 j s (ix2 b m)) (s.main_v26_9 (ix2 b m), s.main_v26_10 (ix2 b m), s.main_v26_11 (ix2 b m)) := by
  unfold stp nv sg
  dsimp only
  refine Prod.ext ?_ (Prod.ext ?_ ?_)
  · pointwise [b35, b34, b33, b32]
  · pointwise [b43, b42, b41, b40, b39, b38, b37, b36, b35, b34, b33, b32]
  · pointwise [b57, b56, b55, b54, b53, b52, b51, b50, b49, b48, b47, b46, b45, b44, b43, b42, b41, b40, b39, b38, b37, b36, b35, b34, b33, b32]

theorem wv_at (b m : Fin 256) : ((b63 j s (ix2 b m), b71 j s (ix2 b m), b85 j s (ix2 b m)) : St)
    = stp (b59 j s (ix2 b m)) (s.main_v26_12 (ix2 b m), s.main_v26_13 (ix2 b m), s.main_v26_14 (ix2 b m)) := by
  unfold stp nv sg
  dsimp only
  refine Prod.ext ?_ (Prod.ext ?_ ?_)
  · pointwise [b63, b62, b61, b60]
  · pointwise [b71, b70, b69, b68, b67, b66, b65, b64, b63, b62, b61, b60]
  · pointwise [b85, b84, b83, b82, b81, b80, b79, b78, b77, b76, b75, b74, b73, b72, b71, b70, b69, b68, b67, b66, b65, b64, b63, b62, b61, b60]

theorem rk_at (b m : Fin 256) : ((b108 j s (ix2 b m), b116 j s (ix2 b m), b130 j s (ix2 b m)) : St)
    = stp (b104 j s (ix2 b m)) (s.main_v26_17 (ix2 b m), s.main_v26_18 (ix2 b m), s.main_v26_19 (ix2 b m)) := by
  unfold stp nv sg
  dsimp only
  refine Prod.ext ?_ (Prod.ext ?_ ?_)
  · pointwise [b108, b107, b106, b105]
  · pointwise [b116, b115, b114, b113, b112, b111, b110, b109, b108, b107, b106, b105]
  · pointwise [b130, b129, b128, b127, b126, b125, b124, b123, b122, b121, b120, b119, b118, b117, b116, b115, b114, b113, b112, b111, b110, b109, b108, b107, b106, b105]

theorem rv_at (b m : Fin 256) : ((b135 j s (ix2 b m), b143 j s (ix2 b m), b157 j s (ix2 b m)) : St)
    = stp (b131 j s (ix2 b m)) (s.main_v26_20 (ix2 b m), s.main_v26_21 (ix2 b m), s.main_v26_22 (ix2 b m)) := by
  unfold stp nv sg
  dsimp only
  refine Prod.ext ?_ (Prod.ext ?_ ?_)
  · pointwise [b135, b134, b133, b132]
  · pointwise [b143, b142, b141, b140, b139, b138, b137, b136, b135, b134, b133, b132]
  · pointwise [b157, b156, b155, b154, b153, b152, b151, b150, b149, b148, b147, b146, b145, b144, b143, b142, b141, b140, b139, b138, b137, b136, b135, b134, b133, b132]

/-- The projections of the encoder's activations. -/
theorem b31_at (b m : Fin 256) : b31 j s (ix2 b m) = ∑ e : Fin 80, b29 j s (ix2 b e) * s.main_v26_1 (ix2 m e) := by
  pointwise [b31, b30]
theorem b59_at (b m : Fin 256) : b59 j s (ix2 b m) = ∑ e : Fin 80, b29 j s (ix2 b e) * s.main_v26_2 (ix2 m e) := by
  pointwise [b59, b58]
theorem b104_at (b m : Fin 256) : b104 j s (ix2 b m) = ∑ e : Fin 80, b29 j s (ix2 b e) * s.main_v26_3 (ix2 m e) := by
  pointwise [b104, b103]

/-- The key trace. -/
theorem b89_at (b m : Fin 256) : b89 j s (ix2 b m) = cL * s.main_v26_15 (ix2 b m) + b57 j s (ix2 b m) := by
  pointwise [b89, b88, b87, b86]
/-- The memory. -/
theorem b102_at (b m k : Fin 256) : b102 j s (ix3 b m k) = s.main_v26_5 (ix3 b m k) + cE * (b85 j s (ix2 b m) * b89 j s (ix2 b k)) := by
  pointwise [b102, b101, b100, b99, b98, b97, b96, b95, b94]
/-- The memory read. -/
theorem b131_at (b m : Fin 256) : b131 j s (ix2 b m) = ∑ k : Fin 256, b102 j s (ix3 b m k) * b130 j s (ix2 b k) := by
  pointwise [b131]

/-- The kept reads: trip `j` writes row `j`. -/
theorem b161_at (hj : j < 2500) (k : Fin 2500) (b m : Fin 256) :
    b161 j s (ix3 k b m) = if k.val = j then s.main_v26_23 (ix2 b m) else s.main_v26_24 (ix3 k b m) := by
  have hcs : ∀ (h : (1 : ℕ) = 1), ∀ a : Fin 3, Host.clampedStart S2500x256x256 S1x256x256 updateFits_S2500x256x256_S1x256x256.1 (fun k => (((![(constantI S_ 32 (BitVec.ofNat 32 j) : (⟨S_, .i32⟩ : BufTy).Contents (Elt Ideal)), (b159 j s), (b160 j s)] : Fin 3 → (⟨S_, .i32⟩ : BufTy).Contents (Elt Ideal))) k (Shape.Idx.first h_S_)).toInt) a
      = (![j, 0, 0] : Fin 3 → ℕ) a := fun _ a => by
    fin_cases a
    · exact Host.clampedStart_of_le _ _ _ _ (toInt_ofNat_of_lt (by omega)) (by show j + 1 ≤ 2500; omega)
    · exact Host.clampedStart_of_le _ _ _ _ rfl (Nat.le_refl 256)
    · exact Host.clampedStart_of_le _ _ _ _ rfl (Nat.le_refl 256)
  have c0 := hcs rfl 0
  have c1 := hcs rfl 1
  have c2 := hcs rfl 2
  unfold b161
  rw [Host.dynamicUpdateSlice_apply]
  by_cases hk : k.val = j
  · rw [if_pos hk, dif_pos (fun a => by
      rw [hcs rfl a]
      fin_cases a
      · show j ≤ k.val ∧ k.val < j + 1
        omega
      · exact ⟨Nat.zero_le _, by show b.val < 0 + 256; omega⟩
      · exact ⟨Nat.zero_le _, by show m.val < 0 + 256; omega⟩)]
    unfold b158
    pointwise
    simp only [c1, c2]
    rfl
  · rw [if_neg hk, dif_neg (fun h => hk (by
      have h0 := h 0
      rw [c0] at h0
      have h0 : j ≤ k.val ∧ k.val < j + 1 := h0
      omega))]

/-- The result of the kept reads. -/
theorem R_at (i : Fin 50) (b m : Fin 256) :
    R_main_v29 s (ix3 i b m) = ∑ t : Fin 30, s.main_v26_24 (ix3 ⟨50 * i.val + 20 + t.val, by have := i.isLt; have := t.isLt; omega⟩ b m) := by
  pointwise [R_main_v29]
  exact Finset.sum_congr rfl fun t _ => congrArg (fun k => s.main_v26_24 (ix3 k b m)) (Fin.ext (by show i.val * 50 + (20 + t.val) = 50 * i.val + 20 + t.val; omega))

end Cert.ReferenceIdeal.Val

end
-- ==== Proof.V.Ref.lean ====
module

public import proofs.«01_k».proof.Proof.V.RefAt

@[expose] public section

set_option maxRecDepth 16384

noncomputable section

/-! What the reference computes: its loop's state after `n` trips, and its result. -/

namespace Cert.ReferenceIdeal.Val

open Cert.ReferenceIdeal Cert.ReferenceIdeal.Gen Cert.ReferenceIdeal.Step Cert.Spec
open Idealize.ShloMosaic

variable (Fc : ℕ → ℕ → ℕ → EReal) (A B Wk Wv Wr : ℕ → ℕ → EReal) (M : ℕ → ℕ → ℕ → EReal)

/-- The state after `n` trips. -/
structure Inv (n : ℕ) (s : State Ideal) : Prop where
  drive : ∀ (k : Fin 2500) (b : Fin 256) (e : Fin 80), s.main_v26_0 (ix3 k b e) = dr Fc A B (k.val / 50) b.val e.val
  wk : ∀ (i : Fin 256) (e : Fin 80), s.main_v26_1 (ix2 i e) = Wk i.val e.val
  wv : ∀ (i : Fin 256) (e : Fin 80), s.main_v26_2 (ix2 i e) = Wv i.val e.val
  wr : ∀ (i : Fin 256) (e : Fin 80), s.main_v26_3 (ix2 i e) = Wr i.val e.val
  enc : ∀ (b : Fin 256) (e : Fin 80), ((s.main_v26_6 (ix2 b e), s.main_v26_7 (ix2 b e), s.main_v26_8 (ix2 b e)) : St)
    = sq (fun n => dr Fc A B (n / 50) b.val e.val) n
  ks : ∀ b i : Fin 256, ((s.main_v26_9 (ix2 b i), s.main_v26_10 (ix2 b i), s.main_v26_11 (ix2 b i)) : St) = sq (xi Fc A B (Wk i.val) b.val) n
  vs : ∀ b i : Fin 256, ((s.main_v26_12 (ix2 b i), s.main_v26_13 (ix2 b i), s.main_v26_14 (ix2 b i)) : St) = sq (xi Fc A B (Wv i.val) b.val) n
  rs : ∀ b i : Fin 256, ((s.main_v26_17 (ix2 b i), s.main_v26_18 (ix2 b i), s.main_v26_19 (ix2 b i)) : St) = sq (xi Fc A B (Wr i.val) b.val) n
  tk : ∀ b i : Fin 256, s.main_v26_15 (ix2 b i) = tr (zz (xi Fc A B (Wk i.val) b.val)) n
  mem : ∀ b i j : Fin 256, s.main_v26_5 (ix3 b i j)
    = mm (M b.val i.val j.val) (zz (xi Fc A B (Wv i.val) b.val)) (fun n => tr (zz (xi Fc A B (Wk j.val) b.val)) (n + 1)) n
  out : ∀ b i : Fin 256, ((s.main_v26_20 (ix2 b i), s.main_v26_21 (ix2 b i), s.main_v26_22 (ix2 b i)) : St)
    = sq (rd Fc A B Wk Wv Wr M b.val i.val) n
  buf : ∀ b i : Fin 256, s.main_v26_23 (ix2 b i) = (sq (rd Fc A B Wk Wv Wr M b.val i.val) n).2.2
  kept : ∀ (k : Fin 2500) (b i : Fin 256), k.val < n → s.main_v26_24 (ix3 k b i) = (sq (rd Fc A B Wk Wv Wr M b.val i.val) k.val).2.2

/-- A trip takes the state after `n` trips to the state after `n + 1`. -/
theorem inv_step (n : ℕ) (hn : n < 2500) (s : State Ideal) (h : Inv Fc A B Wk Wv Wr M n s) : Inv Fc A B Wk Wv Wr M (n + 1) (step n s) := by
  have henc : ∀ (b : Fin 256) (e : Fin 80), ((b7 n s (ix2 b e), b15 n s (ix2 b e), b29 n s (ix2 b e)) : St)
      = sq (fun n => dr Fc A B (n / 50) b.val e.val) (n + 1) := fun b e => by
    rw [enc_at n s hn, h.drive, h.enc]; rfl
  have hz : ∀ (b : Fin 256) (e : Fin 80), b29 n s (ix2 b e) = ze Fc A B b.val e.val n := fun b e => congrArg (fun t : St => t.2.2) (henc b e)
  have hk : ∀ b i : Fin 256, ((b35 n s (ix2 b i), b43 n s (ix2 b i), b57 n s (ix2 b i)) : St) = sq (xi Fc A B (Wk i.val) b.val) (n + 1) := fun b i => by
    rw [wk_at, h.ks, b31_at]; simp only [hz, h.wk]; rfl
  have hv : ∀ b i : Fin 256, ((b63 n s (ix2 b i), b71 n s (ix2 b i), b85 n s (ix2 b i)) : St) = sq (xi Fc A B (Wv i.val) b.val) (n + 1) := fun b i => by
    rw [wv_at, h.vs, b59_at]; simp only [hz, h.wv]; rfl
  have hr : ∀ b i : Fin 256, ((b108 n s (ix2 b i), b116 n s (ix2 b i), b130 n s (ix2 b i)) : St) = sq (xi Fc A B (Wr i.val) b.val) (n + 1) := fun b i => by
    rw [rk_at, h.rs, b104_at]; simp only [hz, h.wr]; rfl
  have zk : ∀ b i : Fin 256, b57 n s (ix2 b i) = zz (xi Fc A B (Wk i.val) b.val) n := fun b i => congrArg (fun t : St => t.2.2) (hk b i)
  have zv : ∀ b i : Fin 256, b85 n s (ix2 b i) = zz (xi Fc A B (Wv i.val) b.val) n := fun b i => congrArg (fun t : St => t.2.2) (hv b i)
  have zr : ∀ b i : Fin 256, b130 n s (ix2 b i) = zz (xi Fc A B (Wr i.val) b.val) n := fun b i => congrArg (fun t : St => t.2.2) (hr b i)
  have ht : ∀ b i : Fin 256, b89 n s (ix2 b i) = tr (zz (xi Fc A B (Wk i.val) b.val)) (n + 1) := fun b i => by
    rw [b89_at, h.tk, zk]; rfl
  have hm : ∀ b i j : Fin 256, b102 n s (ix3 b i j)
      = mm (M b.val i.val j.val) (zz (xi Fc A B (Wv i.val) b.val)) (fun n => tr (zz (xi Fc A B (Wk j.val) b.val)) (n + 1)) (n + 1) := fun b i j => by
    rw [b102_at, h.mem, zv, ht]; rfl
  have ho : ∀ b i : Fin 256, ((b135 n s (ix2 b i), b143 n s (ix2 b i), b157 n s (ix2 b i)) : St) = sq (rd Fc A B Wk Wv Wr M b.val i.val) (n + 1) := fun b i => by
    rw [rv_at, h.out, b131_at]; simp only [hm, zr]; rfl
  refine ⟨h.drive, h.wk, h.wv, h.wr, henc, hk, hv, hr, ht, hm, ho, fun b i => congrArg (fun t : St => t.2.2) (ho b i), fun k b i hk => ?_⟩
  rw [step_main_v26_24, b161_at n s hn]
  split
  · next e => rw [h.buf, e]
  · next e => exact h.kept k b i (by omega)

/-- So the state after any number of trips, and the result after the last. -/
theorem inv_all (it : ℕ → State Ideal) (h0 : Inv Fc A B Wk Wv Wr M 0 (it 0)) (hs : ∀ n, it (n + 1) = step n (it n)) :
    ∀ n, n ≤ 2500 → Inv Fc A B Wk Wv Wr M n (it n)
  | 0, _ => h0
  | n + 1, h => by
    rw [hs]; exact inv_step Fc A B Wk Wv Wr M n (by omega) _ (inv_all it h0 hs n (by omega))

theorem result (s : State Ideal) (h : Inv Fc A B Wk Wv Wr M 2500 s) (i : Fin 50) (b m : Fin 256) :
    R_main_v29 s (ix3 i b m) = res Fc A B Wk Wv Wr M i.val b.val m.val := by
  rw [R_at]
  unfold res zz
  refine Finset.sum_congr rfl fun t _ => ?_
  have := i.isLt
  have := t.isLt
  rw [h.kept _ _ _ (by show 50 * i.val + 20 + t.val < 2500; omega)]
  show (sq _ (50 * i.val + 20 + t.val)).2.2 = _
  rw [show 50 * i.val + 20 + t.val = 50 * i.val + 19 + t.val + 1 by omega]

/-! ## The first state -/

section
variable (x0 : (⟨S50x256x200, .f32⟩ : BufTy).Contents (Elt Ideal)) (x1 : (⟨S256x256x256, .f32⟩ : BufTy).Contents (Elt Ideal))
  (x2 : (⟨S80x200, .f32⟩ : BufTy).Contents (Elt Ideal)) (x3 : (⟨S80x80, .f32⟩ : BufTy).Contents (Elt Ideal))
  (x4 x5 x6 : (⟨S256x80, .f32⟩ : BufTy).Contents (Elt Ideal))

theorem drive_at (k : Fin 2500) (b : Fin 256) (e : Fin 80) : A_main_v24 x0 x2 x3 (ix3 k b e)
    = ∑ h : Fin 80, (∑ f : Fin 200, x0 (ix3 ⟨k.val / 50, by have := k.isLt; omega⟩ b f) * x2 (ix2 h f)) * x3 (ix2 e h) := by
  pointwise [A_main_v24, A_main_v23, A_main_v22, A_main_v21, A_main_v20, A_main_v19, A_main_v18]

theorem inv_init (h0 : ∀ i j k, x0 (ix3 i j k) = Fc i.val j.val k.val) (h1 : ∀ i j k, x1 (ix3 i j k) = M i.val j.val k.val)
    (h2 : ∀ i j, x2 (ix2 i j) = A i.val j.val) (h3 : ∀ i j, x3 (ix2 i j) = B i.val j.val) (h4 : ∀ i j, x4 (ix2 i j) = Wk i.val j.val)
    (h5 : ∀ i j, x5 (ix2 i j) = Wv i.val j.val) (h6 : ∀ i j, x6 (ix2 i j) = Wr i.val j.val) :
    Inv Fc A B Wk Wv Wr M 0 (init x1 x4 x5 x6 x0 x2 x3) := by
  refine ⟨fun k b e => ?_, h4, h5, h6, fun b e => ?_, fun b i => ?_, fun b i => ?_, fun b i => ?_, fun b i => ?_, h1, fun b i => ?_, fun b i => ?_,
    fun k b i h => absurd h (Nat.not_lt_zero _)⟩
  · refine (drive_at x0 x2 x3 k b e).trans ?_
    simp only [h0, h2, h3]
    rfl
  · refine Prod.ext ?_ (Prod.ext ?_ ?_) <;> pointwise [init, K_main_v0, K_main_v1, K_main_v2, K_main_cst, K_main_cst_0, K_main_cst_1, Cert.Spec.sq]
  · refine Prod.ext ?_ (Prod.ext ?_ ?_) <;> pointwise [init, K_main_v3, K_main_v4, K_main_v5, K_main_cst_2, K_main_cst_3, K_main_cst_4, Cert.Spec.sq]
  · refine Prod.ext ?_ (Prod.ext ?_ ?_) <;> pointwise [init, K_main_v6, K_main_v7, K_main_v8, K_main_cst_5, K_main_cst_6, K_main_cst_7, Cert.Spec.sq]
  · refine Prod.ext ?_ (Prod.ext ?_ ?_) <;> pointwise [init, K_main_v11, K_main_v12, K_main_v13, K_main_cst_10, K_main_cst_11, K_main_cst_12, Cert.Spec.sq]
  · pointwise [init, K_main_v9, K_main_cst_8, tr]
  · refine Prod.ext ?_ (Prod.ext ?_ ?_) <;> pointwise [init, K_main_v14, K_main_v15, K_main_v16, K_main_cst_13, K_main_cst_14, K_main_cst_15, Cert.Spec.sq]
  · pointwise [init, K_main_v17, K_main_cst_16, Cert.Spec.sq]
end

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Step
public import proofs.«01_k».proof.Proof.RefStep
public import proofs.«01_k».proof.Proof.K.Run
public import proofs.«01_k».proof.Proof.KI.Run
public import proofs.«01_k».proof.Proof.V.Ker
public import proofs.«01_k».proof.Proof.V.Ref
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs with nothing faulting, keeps its arguments and ends every counter at zero. -/
theorem frame_kernel : Cert.quiescent_Kernel := fun m g _ =>
  (θ_run Cert.Kernel.defs _ _).mono (fun _ h => ⟨fun c =>
    let f := h.1 c
    ⟨f.1, f.2.1, f.2.2.1, f.2.2.2.1, f.2.2.2.2.1, f.2.2.2.2.2.1, f.2.2.2.2.2.2.1⟩, h.2⟩) (Cert.Kernel.Hand.run m g)

/-- So does the kernel over the extended reals. -/
theorem frame_ideal : Cert.quiescent_KernelIdeal := fun m g _ =>
  (θ_run Cert.KernelIdeal.defs _ _).mono (fun _ h => ⟨fun c =>
    let f := h.1 c
    ⟨f.1, f.2.1, f.2.2.1, f.2.2.2.1, f.2.2.2.2.1, f.2.2.2.2.2.1, f.2.2.2.2.2.2.1⟩, h.2⟩) (Cert.KernelIdeal.Hand.run m g)

/-- And the reference, which declares no semaphore. -/
theorem frame_reference : Cert.quiescent_ReferenceIdeal := fun m g _ =>
  (θ_run Cert.ReferenceIdeal.defs _ _).mono (fun r h => ⟨fun c =>
    let f := h c
    ⟨f.2.1, f.2.2.1, f.2.2.2.1, f.2.2.2.2.1, f.2.2.2.2.2.1, f.2.2.2.2.2.2.1, f.2.2.2.2.2.2.2⟩, sem_eq_zero_of_no_sems rfl r.2⟩) (Cert.ReferenceIdeal.Value.run m g)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's states, trip by trip. -/
def states (c : Dev Cert.ReferenceIdeal.nD) : ℕ → Cert.ReferenceIdeal.Step.State Ideal
  | 0 => Cert.ReferenceIdeal.StepRun.initState m' c
  | n + 1 => Cert.ReferenceIdeal.Step.step n (states c n)

open Cert.KernelIdeal.Hand Cert.Spec in
/-- From equal arguments the reference's result is the kernel's. -/
theorem same_result (c : Dev Cert.ReferenceIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Step.R_main_v29 (states m' c 2500) = out m c := by
  have hi : Cert.ReferenceIdeal.Val.Inv (aF m c) (aA m c) (aB m c) (aK m c) (aV m c) (aR m c) (aM m c) 0 (states m' c 0) :=
    Cert.ReferenceIdeal.Val.inv_init _ _ _ _ _ _ _ _ _ _ _ _ _ _
      (fun i j k => (congrFun h0 _).trans (aF_at m c i j k)) (fun i j k => (congrFun h1 _).trans (aM_at m c i j k))
      (fun i j => (congrFun h2 _).trans (aA_at m c i j)) (fun i j => (congrFun h3 _).trans (aB_at m c i j))
      (fun i j => (congrFun h4 _).trans (aK_at m c i j)) (fun i j => (congrFun h5 _).trans (aV_at m c i j))
      (fun i j => (congrFun h6 _).trans (aR_at m c i j))
  have hn := Cert.ReferenceIdeal.Val.inv_all _ _ _ _ _ _ _ (states m' c) hi (fun _ => rfl) 2500 le_rfl
  rw [out_eq]
  funext (i : Cert.ReferenceIdeal.S50x256x256.Idx)
  obtain ⟨a, b, d, rfl⟩ : ∃ a b d, i = ix3 a b d := ⟨i 0, i 1, i 2, eq_ix3 i⟩
  exact Cert.ReferenceIdeal.Val.result _ _ _ _ _ _ _ _ hn a b d
end

/-- Over the extended reals the kernel and the reference end with the same result. -/
theorem algebraic : Cert.algebraic_KernelIdeal_ReferenceIdeal := fun m g m' g' _ hm =>
  ⟨Cert.KernelIdeal.Hand.out m,
    (θ_run Cert.KernelIdeal.defs _ _).mono (fun _ h c =>
      let f := h.1 c
      ⟨f.2.2.2.2.2.2.2, f.1, f.2.1, f.2.2.1, f.2.2.2.1, f.2.2.2.2.1, f.2.2.2.2.2.1, f.2.2.2.2.2.2.1⟩) (Cert.KernelIdeal.Hand.run m g),
    (θ_run Cert.ReferenceIdeal.defs _ _).mono (fun _ h c =>
      let e := hm c
      ⟨(h c).1.trans (same_result m m' c e.1 e.2.1 e.2.2.1 e.2.2.2.1 e.2.2.2.2.1 e.2.2.2.2.2.1 e.2.2.2.2.2.2), (h c).2⟩)
      (Cert.ReferenceIdeal.StepRun.run_iter m' g' (states m') (fun _ => rfl) (fun _ _ => rfl))⟩

theorem claim : Cert.Claim := ⟨Cert.Kernel.Gen.facts, Cert.KernelIdeal.Gen.facts, Cert.ReferenceIdeal.Gen.facts,
  frame_kernel, frame_ideal, frame_reference, trivial, algebraic⟩

end Cert.Proof

end
